-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOut2 (m : (ℓ : Loc Cert.KernelOut2.nD Cert.KernelOut2.τ Cert.KernelOut2.sig) → Buf (Elt Bits) ℓ) : Prop :=
  True

def Pre_KernelOut2Ideal (m : (ℓ : Loc Cert.KernelOut2Ideal.nD Cert.KernelOut2Ideal.τ Cert.KernelOut2Ideal.sig) → Buf (Elt Ideal) ℓ) : Prop :=
  True

def Pre_ReferenceOut2Ideal (m : (ℓ : Loc Cert.ReferenceOut2Ideal.nD Cert.ReferenceOut2Ideal.τ Cert.ReferenceOut2Ideal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite_c [hPre_finite_c : Cert.Pre_finite_c.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_finite_c [hPre_finite_c : Cert.Pre_finite_c.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5))) = (fun _ => 1#1)

def Pre_KernelAB (m : (ℓ : Loc Cert.KernelAB.nD Cert.KernelAB.τ Cert.KernelAB.sig) → Buf (Elt Bits) ℓ) : Prop :=
  True

def Pre_KernelABIdeal (m : (ℓ : Loc Cert.KernelABIdeal.nD Cert.KernelABIdeal.τ Cert.KernelABIdeal.sig) → Buf (Elt Ideal) ℓ) : Prop :=
  True

def Pre_KernelABIdeal_finite_ab [hPre_finite_ab : Cert.Pre_finite_ab.Facts] (m : (ℓ : Loc Cert.KernelABIdeal.nD Cert.KernelABIdeal.τ Cert.KernelABIdeal.sig) → Buf (Elt Ideal) ℓ) : Prop :=
  ∀ c : Dev Cert.KernelABIdeal.nD,
    (Cert.Pre_finite_ab.fn (F := Ideal) (m ((c.tc : Thread Cert.KernelABIdeal.nD Cert.KernelABIdeal.τ).loc Cert.KernelABIdeal.main_arg0)) (m ((c.tc : Thread Cert.KernelABIdeal.nD Cert.KernelABIdeal.τ).loc Cert.KernelABIdeal.main_arg1)) (m ((c.tc : Thread Cert.KernelABIdeal.nD Cert.KernelABIdeal.τ).loc Cert.KernelABIdeal.main_arg2)) (m ((c.tc : Thread Cert.KernelABIdeal.nD Cert.KernelABIdeal.τ).loc Cert.KernelABIdeal.main_arg3)) (m ((c.tc : Thread Cert.KernelABIdeal.nD Cert.KernelABIdeal.τ).loc Cert.KernelABIdeal.main_arg4)) (m ((c.tc : Thread Cert.KernelABIdeal.nD Cert.KernelABIdeal.τ).loc Cert.KernelABIdeal.main_arg5)) (m ((c.tc : Thread Cert.KernelABIdeal.nD Cert.KernelABIdeal.τ).loc Cert.KernelABIdeal.main_arg6)) (m ((c.tc : Thread Cert.KernelABIdeal.nD Cert.KernelABIdeal.τ).loc Cert.KernelABIdeal.main_arg7))) = (fun _ => 1#1)

def Pre_ReferenceABIdeal (m : (ℓ : Loc Cert.ReferenceABIdeal.nD Cert.ReferenceABIdeal.τ Cert.ReferenceABIdeal.sig) → Buf (Elt Ideal) ℓ) : Prop :=
  True

def Pre_ReferenceABIdeal_finite_ab [hPre_finite_ab : Cert.Pre_finite_ab.Facts] (m : (ℓ : Loc Cert.ReferenceABIdeal.nD Cert.ReferenceABIdeal.τ Cert.ReferenceABIdeal.sig) → Buf (Elt Ideal) ℓ) : Prop :=
  ∀ c : Dev Cert.ReferenceABIdeal.nD,
    (Cert.Pre_finite_ab.fn (F := Ideal) (m ((c.tc : Thread Cert.ReferenceABIdeal.nD Cert.ReferenceABIdeal.τ).loc Cert.ReferenceABIdeal.main_arg0)) (m ((c.tc : Thread Cert.ReferenceABIdeal.nD Cert.ReferenceABIdeal.τ).loc Cert.ReferenceABIdeal.main_arg1)) (m ((c.tc : Thread Cert.ReferenceABIdeal.nD Cert.ReferenceABIdeal.τ).loc Cert.ReferenceABIdeal.main_arg2)) (m ((c.tc : Thread Cert.ReferenceABIdeal.nD Cert.ReferenceABIdeal.τ).loc Cert.ReferenceABIdeal.main_arg3)) (m ((c.tc : Thread Cert.ReferenceABIdeal.nD Cert.ReferenceABIdeal.τ).loc Cert.ReferenceABIdeal.main_arg4)) (m ((c.tc : Thread Cert.ReferenceABIdeal.nD Cert.ReferenceABIdeal.τ).loc Cert.ReferenceABIdeal.main_arg5)) (m ((c.tc : Thread Cert.ReferenceABIdeal.nD Cert.ReferenceABIdeal.τ).loc Cert.ReferenceABIdeal.main_arg6)) (m ((c.tc : Thread Cert.ReferenceABIdeal.nD Cert.ReferenceABIdeal.τ).loc Cert.ReferenceABIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelOut2 [hKernelOut2 : Cert.KernelOut2.Facts] : Prop :=
  ∀ (m : (ℓ : Loc Cert.KernelOut2.nD Cert.KernelOut2.τ Cert.KernelOut2.sig) → Buf (Elt Bits) ℓ) (g : Dev Cert.KernelOut2.nD → PrngReg), Pre_KernelOut2 m →
    θ_run (Cert.KernelOut2.defs (F := Bits)) (onTc (τ := Cert.KernelOut2.τ) (Cert.KernelOut2.main (F := Bits))) ⟨m, fun _ => 0, g⟩ (fun r => (∀ c : Dev Cert.KernelOut2.nD,
      r.2.mem ((c.tc : Thread Cert.KernelOut2.nD Cert.KernelOut2.τ).loc Cert.KernelOut2.main_arg0) = m ((c.tc : Thread Cert.KernelOut2.nD Cert.KernelOut2.τ).loc Cert.KernelOut2.main_arg0)
      ∧ r.2.mem ((c.tc : Thread Cert.KernelOut2.nD Cert.KernelOut2.τ).loc Cert.KernelOut2.main_arg1) = m ((c.tc : Thread Cert.KernelOut2.nD Cert.KernelOut2.τ).loc Cert.KernelOut2.main_arg1)
      ∧ r.2.mem ((c.tc : Thread Cert.KernelOut2.nD Cert.KernelOut2.τ).loc Cert.KernelOut2.main_arg2) = m ((c.tc : Thread Cert.KernelOut2.nD Cert.KernelOut2.τ).loc Cert.KernelOut2.main_arg2)
      ∧ r.2.mem ((c.tc : Thread Cert.KernelOut2.nD Cert.KernelOut2.τ).loc Cert.KernelOut2.main_arg3) = m ((c.tc : Thread Cert.KernelOut2.nD Cert.KernelOut2.τ).loc Cert.KernelOut2.main_arg3))
      ∧ r.2.sem = fun _ => 0)

def quiescent_KernelOut2Ideal [hKernelOut2Ideal : Cert.KernelOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg), Pre_KernelOut2Ideal m →
    θ_run (Cert.KernelOut2Ideal.defs (F := Ideal)) (onTc (τ := Cert.KernelOut2Ideal.τ) (Cert.KernelOut2Ideal.main (F := Ideal))) ⟨m, fun _ => 0, g⟩ (fun r => (∀ c : Dev Cert.KernelOut2Ideal.nD,
      r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
      ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
      ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
      ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3))
      ∧ r.2.sem = fun _ => 0)

def quiescent_ReferenceOut2Ideal [hReferenceOut2Ideal : Cert.ReferenceOut2Ideal.Facts] : Prop :=
  ∀ (m : (ℓ : Loc Cert.ReferenceOut2Ideal.nD Cert.ReferenceOut2Ideal.τ Cert.ReferenceOut2Ideal.sig) → Buf (Elt Ideal) ℓ) (g : Dev Cert.ReferenceOut2Ideal.nD → PrngReg), Pre_ReferenceOut2Ideal m →
    θ_run (Cert.ReferenceOut2Ideal.defs (F := Ideal)) (onTc (τ := Cert.ReferenceOut2Ideal.τ) (Cert.ReferenceOut2Ideal.main (F := Ideal))) ⟨m, fun _ => 0, g⟩ (fun r => (∀ c : Dev Cert.ReferenceOut2Ideal.nD,
      r.2.mem ((c.tc : Thread Cert.ReferenceOut2Ideal.nD Cert.ReferenceOut2Ideal.τ).loc Cert.ReferenceOut2Ideal.main_arg0) = m ((c.tc : Thread Cert.ReferenceOut2Ideal.nD Cert.ReferenceOut2Ideal.τ).loc Cert.ReferenceOut2Ideal.main_arg0)
      ∧ r.2.mem ((c.tc : Thread Cert.ReferenceOut2Ideal.nD Cert.ReferenceOut2Ideal.τ).loc Cert.ReferenceOut2Ideal.main_arg1) = m ((c.tc : Thread Cert.ReferenceOut2Ideal.nD Cert.ReferenceOut2Ideal.τ).loc Cert.ReferenceOut2Ideal.main_arg1)
      ∧ r.2.mem ((c.tc : Thread Cert.ReferenceOut2Ideal.nD Cert.ReferenceOut2Ideal.τ).loc Cert.ReferenceOut2Ideal.main_arg2) = m ((c.tc : Thread Cert.ReferenceOut2Ideal.nD Cert.ReferenceOut2Ideal.τ).loc Cert.ReferenceOut2Ideal.main_arg2)
      ∧ r.2.mem ((c.tc : Thread Cert.ReferenceOut2Ideal.nD Cert.ReferenceOut2Ideal.τ).loc Cert.ReferenceOut2Ideal.main_arg3) = m ((c.tc : Thread Cert.ReferenceOut2Ideal.nD Cert.ReferenceOut2Ideal.τ).loc Cert.ReferenceOut2Ideal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ r.2.sem = fun _ => 0)

def quiescent_KernelCIdeal_pre_finite_c [hKernelCIdeal : Cert.KernelCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite_c m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5))
      ∧ r.2.sem = fun _ => 0)

def quiescent_ReferenceCIdeal_pre_finite_c [hReferenceCIdeal : Cert.ReferenceCIdeal.Facts] [hPre_finite_c : Cert.Pre_finite_c.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_finite_c m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5))
      ∧ r.2.sem = fun _ => 0)

def quiescent_KernelAB [hKernelAB : Cert.KernelAB.Facts] : Prop :=
  ∀ (m : (ℓ : Loc Cert.KernelAB.nD Cert.KernelAB.τ Cert.KernelAB.sig) → Buf (Elt Bits) ℓ) (g : Dev Cert.KernelAB.nD → PrngReg), Pre_KernelAB m →
    θ_run (Cert.KernelAB.defs (F := Bits)) (onTc (τ := Cert.KernelAB.τ) (Cert.KernelAB.main (F := Bits))) ⟨m, fun _ => 0, g⟩ (fun r => (∀ c : Dev Cert.KernelAB.nD,
      r.2.mem ((c.tc : Thread Cert.KernelAB.nD Cert.KernelAB.τ).loc Cert.KernelAB.main_arg0) = m ((c.tc : Thread Cert.KernelAB.nD Cert.KernelAB.τ).loc Cert.KernelAB.main_arg0)
      ∧ r.2.mem ((c.tc : Thread Cert.KernelAB.nD Cert.KernelAB.τ).loc Cert.KernelAB.main_arg1) = m ((c.tc : Thread Cert.KernelAB.nD Cert.KernelAB.τ).loc Cert.KernelAB.main_arg1)
      ∧ r.2.mem ((c.tc : Thread Cert.KernelAB.nD Cert.KernelAB.τ).loc Cert.KernelAB.main_arg2) = m ((c.tc : Thread Cert.KernelAB.nD Cert.KernelAB.τ).loc Cert.KernelAB.main_arg2)
      ∧ r.2.mem ((c.tc : Thread Cert.KernelAB.nD Cert.KernelAB.τ).loc Cert.KernelAB.main_arg3) = m ((c.tc : Thread Cert.KernelAB.nD Cert.KernelAB.τ).loc Cert.KernelAB.main_arg3)
      ∧ r.2.mem ((c.tc : Thread Cert.KernelAB.nD Cert.KernelAB.τ).loc Cert.KernelAB.main_arg4) = m ((c.tc : Thread Cert.KernelAB.nD Cert.KernelAB.τ).loc Cert.KernelAB.main_arg4)
      ∧ r.2.mem ((c.tc : Thread Cert.KernelAB.nD Cert.KernelAB.τ).loc Cert.KernelAB.main_arg5) = m ((c.tc : Thread Cert.KernelAB.nD Cert.KernelAB.τ).loc Cert.KernelAB.main_arg5)
      ∧ r.2.mem ((c.tc : Thread Cert.KernelAB.nD Cert.KernelAB.τ).loc Cert.KernelAB.main_arg6) = m ((c.tc : Thread Cert.KernelAB.nD Cert.KernelAB.τ).loc Cert.KernelAB.main_arg6)
      ∧ r.2.mem ((c.tc : Thread Cert.KernelAB.nD Cert.KernelAB.τ).loc Cert.KernelAB.main_arg7) = m ((c.tc : Thread Cert.KernelAB.nD Cert.KernelAB.τ).loc Cert.KernelAB.main_arg7))
      ∧ r.2.sem = fun _ => 0)

def quiescent_KernelABIdeal [hKernelABIdeal : Cert.KernelABIdeal.Facts] : Prop :=
  ∀ (m : (ℓ : Loc Cert.KernelABIdeal.nD Cert.KernelABIdeal.τ Cert.KernelABIdeal.sig) → Buf (Elt Ideal) ℓ) (g : Dev Cert.KernelABIdeal.nD → PrngReg), Pre_KernelABIdeal m →
    θ_run (Cert.KernelABIdeal.defs (F := Ideal)) (onTc (τ := Cert.KernelABIdeal.τ) (Cert.KernelABIdeal.main (F := Ideal))) ⟨m, fun _ => 0, g⟩ (fun r => (∀ c : Dev Cert.KernelABIdeal.nD,
      r.2.mem ((c.tc : Thread Cert.KernelABIdeal.nD Cert.KernelABIdeal.τ).loc Cert.KernelABIdeal.main_arg0) = m ((c.tc : Thread Cert.KernelABIdeal.nD Cert.KernelABIdeal.τ).loc Cert.KernelABIdeal.main_arg0)
      ∧ r.2.mem ((c.tc : Thread Cert.KernelABIdeal.nD Cert.KernelABIdeal.τ).loc Cert.KernelABIdeal.main_arg1) = m ((c.tc : Thread Cert.KernelABIdeal.nD Cert.KernelABIdeal.τ).loc Cert.KernelABIdeal.main_arg1)
      ∧ r.2.mem ((c.tc : Thread Cert.KernelABIdeal.nD Cert.KernelABIdeal.τ).loc Cert.KernelABIdeal.main_arg2) = m ((c.tc : Thread Cert.KernelABIdeal.nD Cert.KernelABIdeal.τ).loc Cert.KernelABIdeal.main_arg2)
      ∧ r.2.mem ((c.tc : Thread Cert.KernelABIdeal.nD Cert.KernelABIdeal.τ).loc Cert.KernelABIdeal.main_arg3) = m ((c.tc : Thread Cert.KernelABIdeal.nD Cert.KernelABIdeal.τ).loc Cert.KernelABIdeal.main_arg3)
      ∧ r.2.mem ((c.tc : Thread Cert.KernelABIdeal.nD Cert.KernelABIdeal.τ).loc Cert.KernelABIdeal.main_arg4) = m ((c.tc : Thread Cert.KernelABIdeal.nD Cert.KernelABIdeal.τ).loc Cert.KernelABIdeal.main_arg4)
      ∧ r.2.mem ((c.tc : Thread Cert.KernelABIdeal.nD Cert.KernelABIdeal.τ).loc Cert.KernelABIdeal.main_arg5) = m ((c.tc : Thread Cert.KernelABIdeal.nD Cert.KernelABIdeal.τ).loc Cert.KernelABIdeal.main_arg5)
      ∧ r.2.mem ((c.tc : Thread Cert.KernelABIdeal.nD Cert.KernelABIdeal.τ).loc Cert.KernelABIdeal.main_arg6) = m ((c.tc : Thread Cert.KernelABIdeal.nD Cert.KernelABIdeal.τ).loc Cert.KernelABIdeal.main_arg6)
      ∧ r.2.mem ((c.tc : Thread Cert.KernelABIdeal.nD Cert.KernelABIdeal.τ).loc Cert.KernelABIdeal.main_arg7) = m ((c.tc : Thread Cert.KernelABIdeal.nD Cert.KernelABIdeal.τ).loc Cert.KernelABIdeal.main_arg7))
      ∧ r.2.sem = fun _ => 0)

def quiescent_KernelABIdeal_pre_finite_ab [hKernelABIdeal : Cert.KernelABIdeal.Facts] [hPre_finite_ab : Cert.Pre_finite_ab.Facts] : Prop :=
  ∀ (m : (ℓ : Loc Cert.KernelABIdeal.nD Cert.KernelABIdeal.τ Cert.KernelABIdeal.sig) → Buf (Elt Ideal) ℓ) (g : Dev Cert.KernelABIdeal.nD → PrngReg), Pre_KernelABIdeal_finite_ab m →
    θ_run (Cert.KernelABIdeal.defs (F := Ideal)) (onTc (τ := Cert.KernelABIdeal.τ) (Cert.KernelABIdeal.main (F := Ideal))) ⟨m, fun _ => 0, g⟩ (fun r => (∀ c : Dev Cert.KernelABIdeal.nD,
      r.2.mem ((c.tc : Thread Cert.KernelABIdeal.nD Cert.KernelABIdeal.τ).loc Cert.KernelABIdeal.main_arg0) = m ((c.tc : Thread Cert.KernelABIdeal.nD Cert.KernelABIdeal.τ).loc Cert.KernelABIdeal.main_arg0)
      ∧ r.2.mem ((c.tc : Thread Cert.KernelABIdeal.nD Cert.KernelABIdeal.τ).loc Cert.KernelABIdeal.main_arg1) = m ((c.tc : Thread Cert.KernelABIdeal.nD Cert.KernelABIdeal.τ).loc Cert.KernelABIdeal.main_arg1)
      ∧ r.2.mem ((c.tc : Thread Cert.KernelABIdeal.nD Cert.KernelABIdeal.τ).loc Cert.KernelABIdeal.main_arg2) = m ((c.tc : Thread Cert.KernelABIdeal.nD Cert.KernelABIdeal.τ).loc Cert.KernelABIdeal.main_arg2)
      ∧ r.2.mem ((c.tc : Thread Cert.KernelABIdeal.nD Cert.KernelABIdeal.τ).loc Cert.KernelABIdeal.main_arg3) = m ((c.tc : Thread Cert.KernelABIdeal.nD Cert.KernelABIdeal.τ).loc Cert.KernelABIdeal.main_arg3)
      ∧ r.2.mem ((c.tc : Thread Cert.KernelABIdeal.nD Cert.KernelABIdeal.τ).loc Cert.KernelABIdeal.main_arg4) = m ((c.tc : Thread Cert.KernelABIdeal.nD Cert.KernelABIdeal.τ).loc Cert.KernelABIdeal.main_arg4)
      ∧ r.2.mem ((c.tc : Thread Cert.KernelABIdeal.nD Cert.KernelABIdeal.τ).loc Cert.KernelABIdeal.main_arg5) = m ((c.tc : Thread Cert.KernelABIdeal.nD Cert.KernelABIdeal.τ).loc Cert.KernelABIdeal.main_arg5)
      ∧ r.2.mem ((c.tc : Thread Cert.KernelABIdeal.nD Cert.KernelABIdeal.τ).loc Cert.KernelABIdeal.main_arg6) = m ((c.tc : Thread Cert.KernelABIdeal.nD Cert.KernelABIdeal.τ).loc Cert.KernelABIdeal.main_arg6)
      ∧ r.2.mem ((c.tc : Thread Cert.KernelABIdeal.nD Cert.KernelABIdeal.τ).loc Cert.KernelABIdeal.main_arg7) = m ((c.tc : Thread Cert.KernelABIdeal.nD Cert.KernelABIdeal.τ).loc Cert.KernelABIdeal.main_arg7))
      ∧ r.2.sem = fun _ => 0)

def quiescent_ReferenceABIdeal [hReferenceABIdeal : Cert.ReferenceABIdeal.Facts] : Prop :=
  ∀ (m : (ℓ : Loc Cert.ReferenceABIdeal.nD Cert.ReferenceABIdeal.τ Cert.ReferenceABIdeal.sig) → Buf (Elt Ideal) ℓ) (g : Dev Cert.ReferenceABIdeal.nD → PrngReg), Pre_ReferenceABIdeal m →
    θ_run (Cert.ReferenceABIdeal.defs (F := Ideal)) (onTc (τ := Cert.ReferenceABIdeal.τ) (Cert.ReferenceABIdeal.main (F := Ideal))) ⟨m, fun _ => 0, g⟩ (fun r => (∀ c : Dev Cert.ReferenceABIdeal.nD,
      r.2.mem ((c.tc : Thread Cert.ReferenceABIdeal.nD Cert.ReferenceABIdeal.τ).loc Cert.ReferenceABIdeal.main_arg0) = m ((c.tc : Thread Cert.ReferenceABIdeal.nD Cert.ReferenceABIdeal.τ).loc Cert.ReferenceABIdeal.main_arg0)
      ∧ r.2.mem ((c.tc : Thread Cert.ReferenceABIdeal.nD Cert.ReferenceABIdeal.τ).loc Cert.ReferenceABIdeal.main_arg1) = m ((c.tc : Thread Cert.ReferenceABIdeal.nD Cert.ReferenceABIdeal.τ).loc Cert.ReferenceABIdeal.main_arg1)
      ∧ r.2.mem ((c.tc : Thread Cert.ReferenceABIdeal.nD Cert.ReferenceABIdeal.τ).loc Cert.ReferenceABIdeal.main_arg2) = m ((c.tc : Thread Cert.ReferenceABIdeal.nD Cert.ReferenceABIdeal.τ).loc Cert.ReferenceABIdeal.main_arg2)
      ∧ r.2.mem ((c.tc : Thread Cert.ReferenceABIdeal.nD Cert.ReferenceABIdeal.τ).loc Cert.ReferenceABIdeal.main_arg3) = m ((c.tc : Thread Cert.ReferenceABIdeal.nD Cert.ReferenceABIdeal.τ).loc Cert.ReferenceABIdeal.main_arg3)
      ∧ r.2.mem ((c.tc : Thread Cert.ReferenceABIdeal.nD Cert.ReferenceABIdeal.τ).loc Cert.ReferenceABIdeal.main_arg4) = m ((c.tc : Thread Cert.ReferenceABIdeal.nD Cert.ReferenceABIdeal.τ).loc Cert.ReferenceABIdeal.main_arg4)
      ∧ r.2.mem ((c.tc : Thread Cert.ReferenceABIdeal.nD Cert.ReferenceABIdeal.τ).loc Cert.ReferenceABIdeal.main_arg5) = m ((c.tc : Thread Cert.ReferenceABIdeal.nD Cert.ReferenceABIdeal.τ).loc Cert.ReferenceABIdeal.main_arg5)
      ∧ r.2.mem ((c.tc : Thread Cert.ReferenceABIdeal.nD Cert.ReferenceABIdeal.τ).loc Cert.ReferenceABIdeal.main_arg6) = m ((c.tc : Thread Cert.ReferenceABIdeal.nD Cert.ReferenceABIdeal.τ).loc Cert.ReferenceABIdeal.main_arg6)
      ∧ r.2.mem ((c.tc : Thread Cert.ReferenceABIdeal.nD Cert.ReferenceABIdeal.τ).loc Cert.ReferenceABIdeal.main_arg7) = m ((c.tc : Thread Cert.ReferenceABIdeal.nD Cert.ReferenceABIdeal.τ).loc Cert.ReferenceABIdeal.main_arg7))
      ∧ r.2.sem = fun _ => 0)

def quiescent_ReferenceABIdeal_pre_finite_ab [hReferenceABIdeal : Cert.ReferenceABIdeal.Facts] [hPre_finite_ab : Cert.Pre_finite_ab.Facts] : Prop :=
  ∀ (m : (ℓ : Loc Cert.ReferenceABIdeal.nD Cert.ReferenceABIdeal.τ Cert.ReferenceABIdeal.sig) → Buf (Elt Ideal) ℓ) (g : Dev Cert.ReferenceABIdeal.nD → PrngReg), Pre_ReferenceABIdeal_finite_ab m →
    θ_run (Cert.ReferenceABIdeal.defs (F := Ideal)) (onTc (τ := Cert.ReferenceABIdeal.τ) (Cert.ReferenceABIdeal.main (F := Ideal))) ⟨m, fun _ => 0, g⟩ (fun r => (∀ c : Dev Cert.ReferenceABIdeal.nD,
      r.2.mem ((c.tc : Thread Cert.ReferenceABIdeal.nD Cert.ReferenceABIdeal.τ).loc Cert.ReferenceABIdeal.main_arg0) = m ((c.tc : Thread Cert.ReferenceABIdeal.nD Cert.ReferenceABIdeal.τ).loc Cert.ReferenceABIdeal.main_arg0)
      ∧ r.2.mem ((c.tc : Thread Cert.ReferenceABIdeal.nD Cert.ReferenceABIdeal.τ).loc Cert.ReferenceABIdeal.main_arg1) = m ((c.tc : Thread Cert.ReferenceABIdeal.nD Cert.ReferenceABIdeal.τ).loc Cert.ReferenceABIdeal.main_arg1)
      ∧ r.2.mem ((c.tc : Thread Cert.ReferenceABIdeal.nD Cert.ReferenceABIdeal.τ).loc Cert.ReferenceABIdeal.main_arg2) = m ((c.tc : Thread Cert.ReferenceABIdeal.nD Cert.ReferenceABIdeal.τ).loc Cert.ReferenceABIdeal.main_arg2)
      ∧ r.2.mem ((c.tc : Thread Cert.ReferenceABIdeal.nD Cert.ReferenceABIdeal.τ).loc Cert.ReferenceABIdeal.main_arg3) = m ((c.tc : Thread Cert.ReferenceABIdeal.nD Cert.ReferenceABIdeal.τ).loc Cert.ReferenceABIdeal.main_arg3)
      ∧ r.2.mem ((c.tc : Thread Cert.ReferenceABIdeal.nD Cert.ReferenceABIdeal.τ).loc Cert.ReferenceABIdeal.main_arg4) = m ((c.tc : Thread Cert.ReferenceABIdeal.nD Cert.ReferenceABIdeal.τ).loc Cert.ReferenceABIdeal.main_arg4)
      ∧ r.2.mem ((c.tc : Thread Cert.ReferenceABIdeal.nD Cert.ReferenceABIdeal.τ).loc Cert.ReferenceABIdeal.main_arg5) = m ((c.tc : Thread Cert.ReferenceABIdeal.nD Cert.ReferenceABIdeal.τ).loc Cert.ReferenceABIdeal.main_arg5)
      ∧ r.2.mem ((c.tc : Thread Cert.ReferenceABIdeal.nD Cert.ReferenceABIdeal.τ).loc Cert.ReferenceABIdeal.main_arg6) = m ((c.tc : Thread Cert.ReferenceABIdeal.nD Cert.ReferenceABIdeal.τ).loc Cert.ReferenceABIdeal.main_arg6)
      ∧ r.2.mem ((c.tc : Thread Cert.ReferenceABIdeal.nD Cert.ReferenceABIdeal.τ).loc Cert.ReferenceABIdeal.main_arg7) = m ((c.tc : Thread Cert.ReferenceABIdeal.nD Cert.ReferenceABIdeal.τ).loc Cert.ReferenceABIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v3)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v3) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v22) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelOut2_KernelOut2Ideal : Prop :=
  True

def algebraic_KernelOut2Ideal_ReferenceOut2Ideal [hKernelOut2Ideal : Cert.KernelOut2Ideal.Facts] [hReferenceOut2Ideal : Cert.ReferenceOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg)
    (m' : (ℓ : Loc Cert.ReferenceOut2Ideal.nD Cert.ReferenceOut2Ideal.τ Cert.ReferenceOut2Ideal.sig) → Buf (Elt Ideal) ℓ) (g' : Dev Cert.ReferenceOut2Ideal.nD → PrngReg), Pre_KernelOut2Ideal m →
    (∀ c : Dev Cert.KernelOut2Ideal.nD,
      m' ((c.tc : Thread Cert.ReferenceOut2Ideal.nD Cert.ReferenceOut2Ideal.τ).loc Cert.ReferenceOut2Ideal.main_arg0) = m ((c.tc : Thread Cert.KernelOut2Ideal.nD Cert.KernelOut2Ideal.τ).loc Cert.KernelOut2Ideal.main_arg0)
      ∧ m' ((c.tc : Thread Cert.ReferenceOut2Ideal.nD Cert.ReferenceOut2Ideal.τ).loc Cert.ReferenceOut2Ideal.main_arg1) = m ((c.tc : Thread Cert.KernelOut2Ideal.nD Cert.KernelOut2Ideal.τ).loc Cert.KernelOut2Ideal.main_arg1)
      ∧ m' ((c.tc : Thread Cert.ReferenceOut2Ideal.nD Cert.ReferenceOut2Ideal.τ).loc Cert.ReferenceOut2Ideal.main_arg2) = m ((c.tc : Thread Cert.KernelOut2Ideal.nD Cert.KernelOut2Ideal.τ).loc Cert.KernelOut2Ideal.main_arg2)
      ∧ m' ((c.tc : Thread Cert.ReferenceOut2Ideal.nD Cert.ReferenceOut2Ideal.τ).loc Cert.ReferenceOut2Ideal.main_arg3) = m ((c.tc : Thread Cert.KernelOut2Ideal.nD Cert.KernelOut2Ideal.τ).loc Cert.KernelOut2Ideal.main_arg3)) →
    ∃ (v0 : (c : Dev Cert.KernelOut2Ideal.nD) → Buf (Elt Ideal) ((c.tc : Thread Cert.KernelOut2Ideal.nD Cert.KernelOut2Ideal.τ).loc Cert.KernelOut2Ideal.main_v1)),
      θ_run (Cert.KernelOut2Ideal.defs (F := Ideal)) (onTc (τ := Cert.KernelOut2Ideal.τ) (Cert.KernelOut2Ideal.main (F := Ideal))) ⟨m, fun _ => 0, g⟩ (fun r => ∀ c : Dev Cert.KernelOut2Ideal.nD,
          r.2.mem ((c.tc : Thread Cert.KernelOut2Ideal.nD Cert.KernelOut2Ideal.τ).loc Cert.KernelOut2Ideal.main_v1) = v0 c
          ∧ r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
          ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
          ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
          ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3))
      ∧ θ_run (Cert.ReferenceOut2Ideal.defs (F := Ideal)) (onTc (τ := Cert.ReferenceOut2Ideal.τ) (Cert.ReferenceOut2Ideal.main (F := Ideal))) ⟨m', fun _ => 0, g'⟩ (fun r => ∀ c : Dev Cert.ReferenceOut2Ideal.nD,
          r.2.mem ((c.tc : Thread Cert.ReferenceOut2Ideal.nD Cert.ReferenceOut2Ideal.τ).loc Cert.ReferenceOut2Ideal.main_v8) = v0 c
          ∧ r.2.mem ((c.tc : Thread Cert.ReferenceOut2Ideal.nD Cert.ReferenceOut2Ideal.τ).loc Cert.ReferenceOut2Ideal.main_arg0) = m' ((c.tc : Thread Cert.ReferenceOut2Ideal.nD Cert.ReferenceOut2Ideal.τ).loc Cert.ReferenceOut2Ideal.main_arg0)
          ∧ r.2.mem ((c.tc : Thread Cert.ReferenceOut2Ideal.nD Cert.ReferenceOut2Ideal.τ).loc Cert.ReferenceOut2Ideal.main_arg1) = m' ((c.tc : Thread Cert.ReferenceOut2Ideal.nD Cert.ReferenceOut2Ideal.τ).loc Cert.ReferenceOut2Ideal.main_arg1)
          ∧ r.2.mem ((c.tc : Thread Cert.ReferenceOut2Ideal.nD Cert.ReferenceOut2Ideal.τ).loc Cert.ReferenceOut2Ideal.main_arg2) = m' ((c.tc : Thread Cert.ReferenceOut2Ideal.nD Cert.ReferenceOut2Ideal.τ).loc Cert.ReferenceOut2Ideal.main_arg2)
          ∧ r.2.mem ((c.tc : Thread Cert.ReferenceOut2Ideal.nD Cert.ReferenceOut2Ideal.τ).loc Cert.ReferenceOut2Ideal.main_arg3) = m' ((c.tc : Thread Cert.ReferenceOut2Ideal.nD Cert.ReferenceOut2Ideal.τ).loc Cert.ReferenceOut2Ideal.main_arg3))

def preserves_KernelC_KernelCIdeal : Prop :=
  True

def algebraic_KernelCIdeal_ReferenceCIdeal_pre_finite_c [hKernelCIdeal : Cert.KernelCIdeal.Facts] [hReferenceCIdeal : Cert.ReferenceCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_finite_c m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)) →
    ∃ (v0 : (c : Dev Cert.KernelCIdeal.nD) → Buf (Elt Ideal) ((c.tc : Thread Cert.KernelCIdeal.nD Cert.KernelCIdeal.τ).loc Cert.KernelCIdeal.main_v73_0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v73_0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v107) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5))

def preserves_KernelAB_KernelABIdeal : Prop :=
  True

def algebraic_KernelABIdeal_ReferenceABIdeal_pre_finite_ab [hKernelABIdeal : Cert.KernelABIdeal.Facts] [hReferenceABIdeal : Cert.ReferenceABIdeal.Facts] [hPre_finite_ab : Cert.Pre_finite_ab.Facts] : Prop :=
  ∀ (m : (ℓ : Loc Cert.KernelABIdeal.nD Cert.KernelABIdeal.τ Cert.KernelABIdeal.sig) → Buf (Elt Ideal) ℓ) (g : Dev Cert.KernelABIdeal.nD → PrngReg)
    (m' : (ℓ : Loc Cert.ReferenceABIdeal.nD Cert.ReferenceABIdeal.τ Cert.ReferenceABIdeal.sig) → Buf (Elt Ideal) ℓ) (g' : Dev Cert.ReferenceABIdeal.nD → PrngReg), Pre_KernelABIdeal_finite_ab m →
    (∀ c : Dev Cert.KernelABIdeal.nD,
      m' ((c.tc : Thread Cert.ReferenceABIdeal.nD Cert.ReferenceABIdeal.τ).loc Cert.ReferenceABIdeal.main_arg0) = m ((c.tc : Thread Cert.KernelABIdeal.nD Cert.KernelABIdeal.τ).loc Cert.KernelABIdeal.main_arg0)
      ∧ m' ((c.tc : Thread Cert.ReferenceABIdeal.nD Cert.ReferenceABIdeal.τ).loc Cert.ReferenceABIdeal.main_arg1) = m ((c.tc : Thread Cert.KernelABIdeal.nD Cert.KernelABIdeal.τ).loc Cert.KernelABIdeal.main_arg1)
      ∧ m' ((c.tc : Thread Cert.ReferenceABIdeal.nD Cert.ReferenceABIdeal.τ).loc Cert.ReferenceABIdeal.main_arg2) = m ((c.tc : Thread Cert.KernelABIdeal.nD Cert.KernelABIdeal.τ).loc Cert.KernelABIdeal.main_arg2)
      ∧ m' ((c.tc : Thread Cert.ReferenceABIdeal.nD Cert.ReferenceABIdeal.τ).loc Cert.ReferenceABIdeal.main_arg3) = m ((c.tc : Thread Cert.KernelABIdeal.nD Cert.KernelABIdeal.τ).loc Cert.KernelABIdeal.main_arg3)
      ∧ m' ((c.tc : Thread Cert.ReferenceABIdeal.nD Cert.ReferenceABIdeal.τ).loc Cert.ReferenceABIdeal.main_arg4) = m ((c.tc : Thread Cert.KernelABIdeal.nD Cert.KernelABIdeal.τ).loc Cert.KernelABIdeal.main_arg4)
      ∧ m' ((c.tc : Thread Cert.ReferenceABIdeal.nD Cert.ReferenceABIdeal.τ).loc Cert.ReferenceABIdeal.main_arg5) = m ((c.tc : Thread Cert.KernelABIdeal.nD Cert.KernelABIdeal.τ).loc Cert.KernelABIdeal.main_arg5)
      ∧ m' ((c.tc : Thread Cert.ReferenceABIdeal.nD Cert.ReferenceABIdeal.τ).loc Cert.ReferenceABIdeal.main_arg6) = m ((c.tc : Thread Cert.KernelABIdeal.nD Cert.KernelABIdeal.τ).loc Cert.KernelABIdeal.main_arg6)
      ∧ m' ((c.tc : Thread Cert.ReferenceABIdeal.nD Cert.ReferenceABIdeal.τ).loc Cert.ReferenceABIdeal.main_arg7) = m ((c.tc : Thread Cert.KernelABIdeal.nD Cert.KernelABIdeal.τ).loc Cert.KernelABIdeal.main_arg7)) →
    ∃ (v0 : (c : Dev Cert.KernelABIdeal.nD) → Buf (Elt Ideal) ((c.tc : Thread Cert.KernelABIdeal.nD Cert.KernelABIdeal.τ).loc Cert.KernelABIdeal.main_v92_0)),
      θ_run (Cert.KernelABIdeal.defs (F := Ideal)) (onTc (τ := Cert.KernelABIdeal.τ) (Cert.KernelABIdeal.main (F := Ideal))) ⟨m, fun _ => 0, g⟩ (fun r => ∀ c : Dev Cert.KernelABIdeal.nD,
          r.2.mem ((c.tc : Thread Cert.KernelABIdeal.nD Cert.KernelABIdeal.τ).loc Cert.KernelABIdeal.main_v92_0) = v0 c
          ∧ r.2.mem ((c.tc : Thread Cert.KernelABIdeal.nD Cert.KernelABIdeal.τ).loc Cert.KernelABIdeal.main_arg0) = m ((c.tc : Thread Cert.KernelABIdeal.nD Cert.KernelABIdeal.τ).loc Cert.KernelABIdeal.main_arg0)
          ∧ r.2.mem ((c.tc : Thread Cert.KernelABIdeal.nD Cert.KernelABIdeal.τ).loc Cert.KernelABIdeal.main_arg1) = m ((c.tc : Thread Cert.KernelABIdeal.nD Cert.KernelABIdeal.τ).loc Cert.KernelABIdeal.main_arg1)
          ∧ r.2.mem ((c.tc : Thread Cert.KernelABIdeal.nD Cert.KernelABIdeal.τ).loc Cert.KernelABIdeal.main_arg2) = m ((c.tc : Thread Cert.KernelABIdeal.nD Cert.KernelABIdeal.τ).loc Cert.KernelABIdeal.main_arg2)
          ∧ r.2.mem ((c.tc : Thread Cert.KernelABIdeal.nD Cert.KernelABIdeal.τ).loc Cert.KernelABIdeal.main_arg3) = m ((c.tc : Thread Cert.KernelABIdeal.nD Cert.KernelABIdeal.τ).loc Cert.KernelABIdeal.main_arg3)
          ∧ r.2.mem ((c.tc : Thread Cert.KernelABIdeal.nD Cert.KernelABIdeal.τ).loc Cert.KernelABIdeal.main_arg4) = m ((c.tc : Thread Cert.KernelABIdeal.nD Cert.KernelABIdeal.τ).loc Cert.KernelABIdeal.main_arg4)
          ∧ r.2.mem ((c.tc : Thread Cert.KernelABIdeal.nD Cert.KernelABIdeal.τ).loc Cert.KernelABIdeal.main_arg5) = m ((c.tc : Thread Cert.KernelABIdeal.nD Cert.KernelABIdeal.τ).loc Cert.KernelABIdeal.main_arg5)
          ∧ r.2.mem ((c.tc : Thread Cert.KernelABIdeal.nD Cert.KernelABIdeal.τ).loc Cert.KernelABIdeal.main_arg6) = m ((c.tc : Thread Cert.KernelABIdeal.nD Cert.KernelABIdeal.τ).loc Cert.KernelABIdeal.main_arg6)
          ∧ r.2.mem ((c.tc : Thread Cert.KernelABIdeal.nD Cert.KernelABIdeal.τ).loc Cert.KernelABIdeal.main_arg7) = m ((c.tc : Thread Cert.KernelABIdeal.nD Cert.KernelABIdeal.τ).loc Cert.KernelABIdeal.main_arg7))
      ∧ θ_run (Cert.ReferenceABIdeal.defs (F := Ideal)) (onTc (τ := Cert.ReferenceABIdeal.τ) (Cert.ReferenceABIdeal.main (F := Ideal))) ⟨m', fun _ => 0, g'⟩ (fun r => ∀ c : Dev Cert.ReferenceABIdeal.nD,
          r.2.mem ((c.tc : Thread Cert.ReferenceABIdeal.nD Cert.ReferenceABIdeal.τ).loc Cert.ReferenceABIdeal.main_v122) = v0 c
          ∧ r.2.mem ((c.tc : Thread Cert.ReferenceABIdeal.nD Cert.ReferenceABIdeal.τ).loc Cert.ReferenceABIdeal.main_arg0) = m' ((c.tc : Thread Cert.ReferenceABIdeal.nD Cert.ReferenceABIdeal.τ).loc Cert.ReferenceABIdeal.main_arg0)
          ∧ r.2.mem ((c.tc : Thread Cert.ReferenceABIdeal.nD Cert.ReferenceABIdeal.τ).loc Cert.ReferenceABIdeal.main_arg1) = m' ((c.tc : Thread Cert.ReferenceABIdeal.nD Cert.ReferenceABIdeal.τ).loc Cert.ReferenceABIdeal.main_arg1)
          ∧ r.2.mem ((c.tc : Thread Cert.ReferenceABIdeal.nD Cert.ReferenceABIdeal.τ).loc Cert.ReferenceABIdeal.main_arg2) = m' ((c.tc : Thread Cert.ReferenceABIdeal.nD Cert.ReferenceABIdeal.τ).loc Cert.ReferenceABIdeal.main_arg2)
          ∧ r.2.mem ((c.tc : Thread Cert.ReferenceABIdeal.nD Cert.ReferenceABIdeal.τ).loc Cert.ReferenceABIdeal.main_arg3) = m' ((c.tc : Thread Cert.ReferenceABIdeal.nD Cert.ReferenceABIdeal.τ).loc Cert.ReferenceABIdeal.main_arg3)
          ∧ r.2.mem ((c.tc : Thread Cert.ReferenceABIdeal.nD Cert.ReferenceABIdeal.τ).loc Cert.ReferenceABIdeal.main_arg4) = m' ((c.tc : Thread Cert.ReferenceABIdeal.nD Cert.ReferenceABIdeal.τ).loc Cert.ReferenceABIdeal.main_arg4)
          ∧ r.2.mem ((c.tc : Thread Cert.ReferenceABIdeal.nD Cert.ReferenceABIdeal.τ).loc Cert.ReferenceABIdeal.main_arg5) = m' ((c.tc : Thread Cert.ReferenceABIdeal.nD Cert.ReferenceABIdeal.τ).loc Cert.ReferenceABIdeal.main_arg5)
          ∧ r.2.mem ((c.tc : Thread Cert.ReferenceABIdeal.nD Cert.ReferenceABIdeal.τ).loc Cert.ReferenceABIdeal.main_arg6) = m' ((c.tc : Thread Cert.ReferenceABIdeal.nD Cert.ReferenceABIdeal.τ).loc Cert.ReferenceABIdeal.main_arg6)
          ∧ r.2.mem ((c.tc : Thread Cert.ReferenceABIdeal.nD Cert.ReferenceABIdeal.τ).loc Cert.ReferenceABIdeal.main_arg7) = m' ((c.tc : Thread Cert.ReferenceABIdeal.nD Cert.ReferenceABIdeal.τ).loc Cert.ReferenceABIdeal.main_arg7))

def Claim : Prop :=
  ∃ (hKernel : Cert.Kernel.Facts) (hKernelIdeal : Cert.KernelIdeal.Facts) (hReferenceIdeal : Cert.ReferenceIdeal.Facts) (hKernelPle : Cert.KernelPle.Facts) (hKernelPleIdeal : Cert.KernelPleIdeal.Facts) (hReferencePleIdeal : Cert.ReferencePleIdeal.Facts) (hKernelOut : Cert.KernelOut.Facts) (hKernelOutIdeal : Cert.KernelOutIdeal.Facts) (hReferenceOutIdeal : Cert.ReferenceOutIdeal.Facts) (hKernelOut2 : Cert.KernelOut2.Facts) (hKernelOut2Ideal : Cert.KernelOut2Ideal.Facts) (hReferenceOut2Ideal : Cert.ReferenceOut2Ideal.Facts) (hKernelC : Cert.KernelC.Facts) (hKernelCIdeal : Cert.KernelCIdeal.Facts) (hReferenceCIdeal : Cert.ReferenceCIdeal.Facts) (hKernelAB : Cert.KernelAB.Facts) (hKernelABIdeal : Cert.KernelABIdeal.Facts) (hReferenceABIdeal : Cert.ReferenceABIdeal.Facts) (hPre_finite : Cert.Pre_finite.Facts) (hPre_finite_c : Cert.Pre_finite_c.Facts) (hPre_finite_ab : Cert.Pre_finite_ab.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOut2 (hKernelOut2 := hKernelOut2)
    ∧ quiescent_KernelOut2Ideal (hKernelOut2Ideal := hKernelOut2Ideal)
    ∧ quiescent_ReferenceOut2Ideal (hReferenceOut2Ideal := hReferenceOut2Ideal)
    ∧ quiescent_KernelC (hKernelC := hKernelC)
    ∧ quiescent_KernelCIdeal (hKernelCIdeal := hKernelCIdeal)
    ∧ quiescent_KernelCIdeal_pre_finite_c (hKernelCIdeal := hKernelCIdeal) (hPre_finite_c := hPre_finite_c)
    ∧ quiescent_ReferenceCIdeal (hReferenceCIdeal := hReferenceCIdeal)
    ∧ quiescent_ReferenceCIdeal_pre_finite_c (hReferenceCIdeal := hReferenceCIdeal) (hPre_finite_c := hPre_finite_c)
    ∧ quiescent_KernelAB (hKernelAB := hKernelAB)
    ∧ quiescent_KernelABIdeal (hKernelABIdeal := hKernelABIdeal)
    ∧ quiescent_KernelABIdeal_pre_finite_ab (hKernelABIdeal := hKernelABIdeal) (hPre_finite_ab := hPre_finite_ab)
    ∧ quiescent_ReferenceABIdeal (hReferenceABIdeal := hReferenceABIdeal)
    ∧ quiescent_ReferenceABIdeal_pre_finite_ab (hReferenceABIdeal := hReferenceABIdeal) (hPre_finite_ab := hPre_finite_ab)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelPle_KernelPleIdeal
    ∧ algebraic_KernelPleIdeal_ReferencePleIdeal (hKernelPleIdeal := hKernelPleIdeal) (hReferencePleIdeal := hReferencePleIdeal)
    ∧ preserves_KernelOut_KernelOutIdeal
    ∧ algebraic_KernelOutIdeal_ReferenceOutIdeal (hKernelOutIdeal := hKernelOutIdeal) (hReferenceOutIdeal := hReferenceOutIdeal)
    ∧ preserves_KernelOut2_KernelOut2Ideal
    ∧ algebraic_KernelOut2Ideal_ReferenceOut2Ideal (hKernelOut2Ideal := hKernelOut2Ideal) (hReferenceOut2Ideal := hReferenceOut2Ideal)
    ∧ preserves_KernelC_KernelCIdeal
    ∧ algebraic_KernelCIdeal_ReferenceCIdeal_pre_finite_c (hKernelCIdeal := hKernelCIdeal) (hReferenceCIdeal := hReferenceCIdeal) (hPre_finite_c := hPre_finite_c)
    ∧ preserves_KernelAB_KernelABIdeal
    ∧ algebraic_KernelABIdeal_ReferenceABIdeal_pre_finite_ab (hKernelABIdeal := hKernelABIdeal) (hReferenceABIdeal := hReferenceABIdeal) (hPre_finite_ab := hPre_finite_ab)
-- ==== Pre_finite.lean ====
abbrev S24x16384x128 : Shape := ⟨3, ![24, 16384, 128]⟩
abbrev S_ : Shape := ⟨0, ![]⟩

class Facts : Prop where
  bitsLt_bf16_f32 : FTy.bits .bf16 < FTy.bits .f32
  bcast_S_S24x16384x128 : S_.BroadcastsInDim S24x16384x128 (![] : Fin 0 → Fin S24x16384x128.rank)
  reducesTo_S24x16384x128_S_d0_1_2 : S24x16384x128.ReducesTo [0, 1, 2] S_
  h_S_ : 0 < S_.numel

variable [Facts]

def fn {F : FTy → Type} [FloatOps F] (main_arg0 : FVec F S24x16384x128 .bf16) : IVec S_ 1 :=
  let main_v0 : FVec F S24x16384x128 .f32 := (extf .f32 · bitsLt_bf16_f32) main_arg0
  let main_v1 : FVec F S24x16384x128 .f32 := Host.absf main_v0
  let main_cst : FVec F S_ .f32 := constant S_ .f32 0x7F800000#32
  let main_v2 : FVec F S24x16384x128 .f32 := broadcastInDim S24x16384x128 ![] bcast_S_S24x16384x128 main_cst
  let main_v3 : IVec S24x16384x128 1 := cmpf .olt main_v1 main_v2
  let main_c : IVec S_ 1 := constantI S_ 1 1#1
  let main_v4 : IVec S_ 1 := (fun x v => Host.reduce IntOp.andi x v reducesTo_S24x16384x128_S_d0_1_2 h_S_) main_v3 main_c
  main_v4
-- ==== Pre_finite_ab.lean ====
abbrev S16384x1024 : Shape := ⟨2, ![16384, 1024]⟩
abbrev S2x8192 : Shape := ⟨2, ![2, 8192]⟩
abbrev S1024 : Shape := ⟨1, ![1024]⟩
abbrev S1024x3396 : Shape := ⟨2, ![1024, 3396]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3396 : S_.BroadcastsInDim S1024x3396 (![] : Fin 0 → Fin S1024x3396.rank)
  reducesTo_S1024x3396_S_d0_1 : S1024x3396.ReducesTo [0, 1] S_

variable [Facts]

def fn {F : FTy → Type} [FloatOps F] (main_arg0 : FVec F S16384x1024 .f32) (main_arg1 : IVec S2x8192 32) (main_arg2 : FVec F S1024 .f32) (main_arg3 : FVec F S1024x3396 .f32) (main_arg4 : FVec F S64 .f32) (main_arg5 : FVec F S64 .f32) (main_arg6 : FVec F S64 .f32) (main_arg7 : FVec F S64 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3396 .f32 := Host.absf main_arg3
  let main_cst_0 : FVec F S_ .f32 := constant S_ .f32 0x7F800000#32
  let main_v5 : FVec F S1024x3396 .f32 := broadcastInDim S1024x3396 ![] bcast_S_S1024x3396 main_cst_0
  let main_v6 : IVec S1024x3396 1 := cmpf .olt main_v4 main_v5
  let main_c_1 : IVec S_ 1 := constantI S_ 1 1#1
  let main_v7 : IVec S_ 1 := (fun x v => Host.reduce IntOp.andi x v reducesTo_S1024x3396_S_d0_1 h_S_) main_v6 main_c_1
  let main_v8 : IVec S_ 1 := andi main_v3 main_v7
  main_v8
-- ==== Pre_finite_c.lean ====
abbrev S16384x1024 : Shape := ⟨2, ![16384, 1024]⟩
abbrev S2x8192 : Shape := ⟨2, ![2, 8192]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S16384x1024 .f32) (main_arg1 : IVec S2x8192 32) (main_arg2 : FVec F S1024 .f32) (main_arg3 : FVec F S1024x3072 .f32) (main_arg4 : FVec F S64 .f32) (main_arg5 : FVec F S64 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg3
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Kernel.lean ====
abbrev S24x16384x128 : Shape := ⟨3, ![24, 16384, 128]⟩
abbrev S5x512x512 : Shape := ⟨3, ![5, 512, 512]⟩
abbrev S_ : Shape := ⟨0, ![]⟩
abbrev S8x16384x128 : Shape := ⟨3, ![8, 16384, 128]⟩
abbrev S8x512x128 : Shape := ⟨3, ![8, 512, 128]⟩
abbrev S1x512x512 : Shape := ⟨3, ![1, 512, 512]⟩
abbrev S16x512x1 : Shape := ⟨3, ![16, 512, 1]⟩
abbrev S16x512x128 : Shape := ⟨3, ![16, 512, 128]⟩
abbrev S512x512 : Shape := ⟨2, ![512, 512]⟩
abbrev S512x1 : Shape := ⟨2, ![512, 1]⟩
abbrev S1x128 : Shape := ⟨2, ![1, 128]⟩
abbrev S1x512x128 : Shape := ⟨3, ![1, 512, 128]⟩
abbrev S512x128 : Shape := ⟨2, ![512, 128]⟩
abbrev S1x512x1 : Shape := ⟨3, ![1, 512, 1]⟩
abbrev S512 : Shape := ⟨1, ![512]⟩

abbrev nBuf : Space → Nat
  | .hbm => 79
  | .vmem => 19
  | .smem => 0
  | _ => 0

abbrev bufTy : (tb : Table) → Fin (tcTables nBuf tb) → BufTy
  | .hbm, ⟨0, _⟩ => ⟨S24x16384x128, .bf16⟩
  | .hbm, ⟨1, _⟩ => ⟨S5x512x512, .i32⟩
  | .hbm, ⟨2, _⟩ => ⟨S5x512x512, .i32⟩
  | .hbm, ⟨3, _⟩ => ⟨S5x512x512, .i32⟩
  | .hbm, ⟨4, _⟩ => ⟨S_, .i32⟩
  | .hbm, ⟨5, _⟩ => ⟨S5x512x512, .i32⟩
  | .hbm, ⟨6, _⟩ => ⟨S5x512x512, .i32⟩
  | .hbm, ⟨7, _⟩ => ⟨S_, .i32⟩
  | .hbm, ⟨8, _⟩ => ⟨S5x512x512, .i32⟩
  | .hbm, ⟨9, _⟩ => ⟨S5x512x512, .i32⟩
  | .hbm, ⟨10, _⟩ => ⟨S5x512x512, .i32⟩
  | .hbm, ⟨11, _⟩ => ⟨S5x512x512, .i32⟩
  | .hbm, ⟨12, _⟩ => ⟨S_, .i32⟩
  | .hbm, ⟨13, _⟩ => ⟨S5x512x512, .i32⟩
  | .hbm, ⟨14, _⟩ => ⟨S5x512x512, .i1⟩
  | .hbm, ⟨15, _⟩ => ⟨S_, .i32⟩
  | .hbm, ⟨16, _⟩ => ⟨S5x512x512, .i32⟩
  | .hbm, ⟨17, _⟩ => ⟨S5x512x512, .i1⟩
  | .hbm, ⟨18, _⟩ => ⟨S5x512x512, .i1⟩
  | .hbm, ⟨19, _⟩ => ⟨S_, .i32⟩
  | .hbm, ⟨20, _⟩ => ⟨S5x512x512, .i32⟩
  | .hbm, ⟨21, _⟩ => ⟨S5x512x512, .i32⟩
  | .hbm, ⟨22, _⟩ => ⟨S_, .i32⟩
  | .hbm, ⟨23, _⟩ => ⟨S5x512x512, .i32⟩
  | .hbm, ⟨24, _⟩ => ⟨S5x512x512, .i1⟩
  | .hbm, ⟨25, _⟩ => ⟨S5x512x512, .i1⟩
  | .hbm, ⟨26, _⟩ => ⟨S5x512x512, .i32⟩
  | .hbm, ⟨27, _⟩ => ⟨S_, .i32⟩
  | .hbm, ⟨28, _⟩ => ⟨S5x512x512, .i32⟩
  | .hbm, ⟨29, _⟩ => ⟨S5x512x512, .i32⟩
  | .hbm, ⟨30, _⟩ => ⟨S_, .i32⟩
  | .hbm, ⟨31, _⟩ => ⟨S5x512x512, .i32⟩
  | .hbm, ⟨32, _⟩ => ⟨S5x512x512, .i1⟩
  | .hbm, ⟨33, _⟩ => ⟨S_, .i32⟩
  | .hbm, ⟨34, _⟩ => ⟨S5x512x512, .i32⟩
  | .hbm, ⟨35, _⟩ => ⟨S5x512x512, .i1⟩
  | .hbm, ⟨36, _⟩ => ⟨S5x512x512, .i1⟩
  | .hbm, ⟨37, _⟩ => ⟨S_, .i32⟩
  | .hbm, ⟨38, _⟩ => ⟨S5x512x512, .i32⟩
  | .hbm, ⟨39, _⟩ => ⟨S5x512x512, .i32⟩
  | .hbm, ⟨40, _⟩ => ⟨S_, .i32⟩
  | .hbm, ⟨41, _⟩ => ⟨S5x512x512, .i32⟩
  | .hbm, ⟨42, _⟩ => ⟨S5x512x512, .i1⟩
  | .hbm, ⟨43, _⟩ => ⟨S5x512x512, .i1⟩
  | .hbm, ⟨44, _⟩ => ⟨S5x512x512, .i32⟩
  | .hbm, ⟨45, _⟩ => ⟨S5x512x512, .i32⟩
  | .hbm, ⟨46, _⟩ => ⟨S_, .i32⟩
  | .hbm, ⟨47, _⟩ => ⟨S5x512x512, .i32⟩
  | .hbm, ⟨48, _⟩ => ⟨S5x512x512, .i1⟩
  | .hbm, ⟨49, _⟩ => ⟨S_, .i32⟩
  | .hbm, ⟨50, _⟩ => ⟨S5x512x512, .i32⟩
  | .hbm, ⟨51, _⟩ => ⟨S5x512x512, .i1⟩
  | .hbm, ⟨52, _⟩ => ⟨S5x512x512, .i1⟩
  | .hbm, ⟨53, _⟩ => ⟨S_, .i32⟩
  | .hbm, ⟨54, _⟩ => ⟨S5x512x512, .i32⟩
  | .hbm, ⟨55, _⟩ => ⟨S5x512x512, .i32⟩
  | .hbm, ⟨56, _⟩ => ⟨S_, .i32⟩
  | .hbm, ⟨57, _⟩ => ⟨S5x512x512, .i32⟩
  | .hbm, ⟨58, _⟩ => ⟨S5x512x512, .i1⟩
  | .hbm, ⟨59, _⟩ => ⟨S5x512x512, .i1⟩
  | .hbm, ⟨60, _⟩ => ⟨S5x512x512, .i32⟩
  | .hbm, ⟨61, _⟩ => ⟨S5x512x512, .i32⟩
  | .hbm, ⟨62, _⟩ => ⟨S_, .i32⟩
  | .hbm, ⟨63, _⟩ => ⟨S5x512x512, .i32⟩
  | .hbm, ⟨64, _⟩ => ⟨S5x512x512, .i1⟩
  | .hbm, ⟨65, _⟩ => ⟨S_, .i32⟩
  | .hbm, ⟨66, _⟩ => ⟨S5x512x512, .i32⟩
  | .hbm, ⟨67, _⟩ => ⟨S5x512x512, .i32⟩
  | .hbm, ⟨68, _⟩ => ⟨S5x512x512, .f32⟩
  | .hbm, ⟨69, _⟩ => ⟨S5x512x512, .f32⟩
  | .hbm, ⟨70, _⟩ => ⟨S_, .f32⟩
  | .hbm, ⟨71, _⟩ => ⟨S_, .f32⟩
  | .hbm, ⟨72, _⟩ => ⟨S5x512x512, .f32⟩
  | .hbm, ⟨73, _⟩ => ⟨S5x512x512, .f32⟩
  | .hbm, ⟨74, _⟩ => ⟨S_, .f32⟩
  | .hbm, ⟨75, _⟩ => ⟨S_, .f32⟩
  | .hbm, ⟨76, _⟩ => ⟨S5x512x512, .f32⟩
  | .hbm, ⟨77, _⟩ => ⟨S5x512x512, .f32⟩
  | .hbm, ⟨78, _⟩ => ⟨S8x16384x128, .bf16⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S1x512x512, .f32⟩
  | .local _ .vmem, ⟨7, _⟩ => ⟨S1x512x512, .f32⟩
  | .local _ .vmem, ⟨8, _⟩ => ⟨S8x512x128, .bf16⟩
  | .local _ .vmem, ⟨9, _⟩ => ⟨S8x512x128, .bf16⟩
  | .local _ .vmem, ⟨10, _⟩ => ⟨S16x512x1, .f32⟩
  | .local _ .vmem, ⟨11, _⟩ => ⟨S16x512x128, .f32⟩
  | .local _ .vmem, ⟨12, _⟩ => ⟨S16x512x128, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x1, .f32⟩
  | .local _ .vmem, ⟨18, _⟩ => ⟨S512x1, .f32⟩
  | _, _ => ⟨S24x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_c_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_8 : Ref sig .tc := ⟨.hbm, 37, rfl⟩
abbrev main_v27 : Ref sig .tc := ⟨.hbm, 38, rfl⟩
abbrev main_v28 : Ref sig .tc := ⟨.hbm, 39, rfl⟩
abbrev main_c_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_c_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_c_13 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_c_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_call0_v0 : Ref sig .tc := ⟨.hbm, 75, rfl⟩
abbrev main_call0_v1 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 5], ![false, false, false]⟩

def k0_cond2 (i : grid0.Coords) : BitVec 1 :=
  let arg1 : BitVec 32 := BitVec.ofNat 32 (i 1).val
  let c1_i32 : BitVec 32 := 1#32
  let v5 : BitVec 32 := Scalar.muli arg1 c1_i32
  let c4_i32 : BitVec 32 := 4#32
  let v6 : BitVec 32 := Scalar.subi v5 c4_i32
  let arg2 : BitVec 32 := BitVec.ofNat 32 (i 2).val
  let v7 : BitVec 32 := Scalar.addi v6 arg2
  let c0_i32 : BitVec 32 := 0#32
  let v8 : BitVec 1 := Scalar.cmpi .sge v7 c0_i32
  let v12 : BitVec 32 := Scalar.extui v8
  let c0_i32_3 : BitVec 32 := 0#32
  let v13 : BitVec 1 := Scalar.cmpi .ne v12 c0_i32_3
  v13

@[reducible] def k0_t1_loop : Scf.Loop 32 :=
  let c0_i32_38 : BitVec 32 := 0#32
  let c7_i32 : BitVec 32 := 7#32
  let v57 : BitVec 32 := Scalar.addi c0_i32_38 c7_i32
  let c1_i32_39 : BitVec 32 := 1#32
  ⟨c0_i32_38, v57, c1_i32_39⟩
def k0_off1 (k0_t1 : Fin k0_t1_loop.trips) (c2_i32_84 : BitVec 32) : Fin 3 → Nat :=
  let c2_i32 : BitVec 32 := 2#32
  let c0_i32_38 : BitVec 32 := 0#32
  let c1_i32_39 : BitVec 32 := 1#32
  let arg17 : BitVec 32 := Scf.iv c0_i32_38 c1_i32_39 k0_t1
  let v116 : BitVec 32 := Scalar.muli c2_i32 arg17
  let v117 : BitVec 32 := Scalar.addi v116 c2_i32_84
  let c16_i32 : BitVec 32 := 16#32
  let c0_i32_85 : BitVec 32 := 0#32
  let v118 : BitVec 1 := Scalar.cmpi .eq c16_i32 c0_i32_85
  let c1_i32_86 : BitVec 32 := 1#32
  let v119 : BitVec 32 := Scalar.select v118 c1_i32_86 c16_i32
  let v120 : BitVec 32 := Scalar.remsi v117 v119
  let c0_i32_88 : BitVec 32 := 0#32
  let v122 : BitVec 1 := Scalar.cmpi .slt v120 c0_i32_88
  let c0_i32_89 : BitVec 32 := 0#32
  let v123 : BitVec 1 := Scalar.cmpi .slt v119 c0_i32_89
  let v124 : BitVec 1 := Scalar.xori v122 v123
  let c0_i32_87 : BitVec 32 := 0#32
  let v121 : BitVec 1 := Scalar.cmpi .ne v120 c0_i32_87
  let v125 : BitVec 1 := Scalar.andi v124 v121
  let v126 : BitVec 32 := Scalar.addi v120 v119
  let v127 : BitVec 32 := Scalar.select v125 v126 v120
  let c0_i32_91 : BitVec 32 := 0#32
  let v129 : BitVec 1 := Scalar.cmpi .sgt v127 c0_i32_91
  let v130 : BitVec 32 := Scalar.extui v129
  let c0_i32_92 : BitVec 32 := 0#32
  let v131 : BitVec 1 := Scalar.cmpi .slt v127 c0_i32_92
  let v132 : BitVec 32 := Scalar.extui v131
  let v133 : BitVec 32 := Scalar.subi v130 v132
  let c2_i32_90 : BitVec 32 := 2#32
  let c0_i32_93 : BitVec 32 := 0#32
  let v134 : BitVec 1 := Scalar.cmpi .sgt c2_i32_90 c0_i32_93
  let v135 : BitVec 32 := Scalar.extui v134
  let c0_i32_94 : BitVec 32 := 0#32
  let v136 : BitVec 1 := Scalar.cmpi .slt c2_i32_90 c0_i32_94
  let v137 : BitVec 32 := Scalar.extui v136
  let v138 : BitVec 32 := Scalar.subi v135 v137
  let v139 : BitVec 1 := Scalar.cmpi .ne v133 v138
  let v140 : BitVec 32 := Scalar.remsi v127 c2_i32_90
  let c0_i32_95 : BitVec 32 := 0#32
  let v141 : BitVec 1 := Scalar.cmpi .ne v140 c0_i32_95
  let v142 : BitVec 1 := Scalar.andi v139 v141
  let v128 : BitVec 32 := Scalar.divsi v127 c2_i32_90
  let c1_i32_96 : BitVec 32 := 1#32
  let v143 : BitVec 32 := Scalar.subi v128 c1_i32_96
  let v144 : BitVec 32 := Scalar.select v142 v143 v128
  let v145 : Index := Scalar.indexCast v144
  let c0_97 : Index := 0#32
  let c0_98 : Index := 0#32
  ![v145.toNat, 0, 0]
def k0_off2 (k0_t1 : Fin k0_t1_loop.trips) (c2_i32_84 : BitVec 32) : Fin 3 → Nat :=
  let c2_i32 : BitVec 32 := 2#32
  let c0_i32_38 : BitVec 32 := 0#32
  let c1_i32_39 : BitVec 32 := 1#32
  let arg17 : BitVec 32 := Scf.iv c0_i32_38 c1_i32_39 k0_t1
  let v116 : BitVec 32 := Scalar.muli c2_i32 arg17
  let v117 : BitVec 32 := Scalar.addi v116 c2_i32_84
  let v148 : Index := Scalar.indexCast v117
  let c0_99 : Index := 0#32
  let c0_100 : Index := 0#32
  ![v148.toNat, 0, 0]
def k0_off3 (k0_t1 : Fin k0_t1_loop.trips) (c1_i32_105 : BitVec 32) : Fin 3 → Nat :=
  let c2_i32_104 : BitVec 32 := 2#32
  let c0_i32_38 : BitVec 32 := 0#32
  let c1_i32_39 : BitVec 32 := 1#32
  let arg17 : BitVec 32 := Scf.iv c0_i32_38 c1_i32_39 k0_t1
  let v155 : BitVec 32 := Scalar.muli c2_i32_104 arg17
  let v156 : BitVec 32 := Scalar.addi v155 c1_i32_105
  let v162 : Index := Scalar.indexCast v156
  let c0_110 : Index := 0#32
  let c0_111 : Index := 0#32
  ![v162.toNat, 0, 0]
def k0_off4 (k0_t1 : Fin k0_t1_loop.trips) : Fin 3 → Nat :=
  let c2_i32_119 : BitVec 32 := 2#32
  let c0_i32_38 : BitVec 32 := 0#32
  let c1_i32_39 : BitVec 32 := 1#32
  let arg17 : BitVec 32 := Scf.iv c0_i32_38 c1_i32_39 k0_t1
  let v184 : BitVec 32 := Scalar.muli c2_i32_119 arg17
  let c16_i32_120 : BitVec 32 := 16#32
  let c0_i32_121 : BitVec 32 := 0#32
  let v185 : BitVec 1 := Scalar.cmpi .eq c16_i32_120 c0_i32_121
  let c1_i32_122 : BitVec 32 := 1#32
  let v186 : BitVec 32 := Scalar.select v185 c1_i32_122 c16_i32_120
  let v187 : BitVec 32 := Scalar.remsi v184 v186
  let c0_i32_124 : BitVec 32 := 0#32
  let v189 : BitVec 1 := Scalar.cmpi .slt v187 c0_i32_124
  let c0_i32_125 : BitVec 32 := 0#32
  let v190 : BitVec 1 := Scalar.cmpi .slt v186 c0_i32_125
  let v191 : BitVec 1 := Scalar.xori v189 v190
  let c0_i32_123 : BitVec 32 := 0#32
  let v188 : BitVec 1 := Scalar.cmpi .ne v187 c0_i32_123
  let v192 : BitVec 1 := Scalar.andi v191 v188
  let v193 : BitVec 32 := Scalar.addi v187 v186
  let v194 : BitVec 32 := Scalar.select v192 v193 v187
  let c0_i32_127 : BitVec 32 := 0#32
  let v196 : BitVec 1 := Scalar.cmpi .sgt v194 c0_i32_127
  let v197 : BitVec 32 := Scalar.extui v196
  let c0_i32_128 : BitVec 32 := 0#32
  let v198 : BitVec 1 := Scalar.cmpi .slt v194 c0_i32_128
  let v199 : BitVec 32 := Scalar.extui v198
  let v200 : BitVec 32 := Scalar.subi v197 v199
  let c2_i32_126 : BitVec 32 := 2#32
  let c0_i32_129 : BitVec 32 := 0#32
  let v201 : BitVec 1 := Scalar.cmpi .sgt c2_i32_126 c0_i32_129
  let v202 : BitVec 32 := Scalar.extui v201
  let c0_i32_130 : BitVec 32 := 0#32
  let v203 : BitVec 1 := Scalar.cmpi .slt c2_i32_126 c0_i32_130
  let v204 : BitVec 32 := Scalar.extui v203
  let v205 : BitVec 32 := Scalar.subi v202 v204
  let v206 : BitVec 1 := Scalar.cmpi .ne v200 v205
  let v207 : BitVec 32 := Scalar.remsi v194 c2_i32_126
  let c0_i32_131 : BitVec 32 := 0#32
  let v208 : BitVec 1 := Scalar.cmpi .ne v207 c0_i32_131
  let v209 : BitVec 1 := Scalar.andi v206 v208
  let v195 : BitVec 32 := Scalar.divsi v194 c2_i32_126
  let c1_i32_132 : BitVec 32 := 1#32
  let v210 : BitVec 32 := Scalar.subi v195 c1_i32_132
  let v211 : BitVec 32 := Scalar.select v209 v210 v195
  let v212 : Index := Scalar.indexCast v211
  let c0_133 : Index := 0#32
  let c0_134 : Index := 0#32
  ![v212.toNat, 0, 0]
def k0_off5 (k0_t1 : Fin k0_t1_loop.trips) : Fin 3 → Nat :=
  let c2_i32_119 : BitVec 32 := 2#32
  let c0_i32_38 : BitVec 32 := 0#32
  let c1_i32_39 : BitVec 32 := 1#32
  let arg17 : BitVec 32 := Scf.iv c0_i32_38 c1_i32_39 k0_t1
  let v184 : BitVec 32 := Scalar.muli c2_i32_119 arg17
  let v220 : Index := Scalar.indexCast v184
  let c0_138 : Index := 0#32
  let c0_139 : Index := 0#32
  ![v220.toNat, 0, 0]
def k0_cond3 (i : grid0.Coords) : BitVec 1 :=
  let arg2 : BitVec 32 := BitVec.ofNat 32 (i 2).val
  let c4_i32_4 : BitVec 32 := 4#32
  let v14 : BitVec 1 := Scalar.cmpi .eq arg2 c4_i32_4
  let v15 : BitVec 32 := Scalar.extui v14
  let c0_i32_5 : BitVec 32 := 0#32
  let v16 : BitVec 1 := Scalar.cmpi .ne v15 c0_i32_5
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.muli arg1 c1_i32
  let c4_i32 : BitVec 32 := 4#32
  let v2 : BitVec 32 := Scalar.subi v1 c4_i32
  let v3 : BitVec 32 := Scalar.addi v2 arg2
  let c0_i32 : BitVec 32 := 0#32
  let v4 : BitVec 32 := Scalar.maxsi v3 c0_i32
  let v5 : BitVec 32 := Scalar.addi v0 v4
  let c1_i32_0 : BitVec 32 := 1#32
  let c0_i32_1 : BitVec 32 := 0#32
  let c0_i32_2 : BitVec 32 := 0#32
  ![c1_i32_0.toNat, v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.muli arg1 c1_i32
  let c4_i32 : BitVec 32 := 4#32
  let v2 : BitVec 32 := Scalar.subi v1 c4_i32
  let v3 : BitVec 32 := Scalar.addi v2 arg2
  let c0_i32 : BitVec 32 := 0#32
  let v4 : BitVec 32 := Scalar.maxsi v3 c0_i32
  let v5 : BitVec 32 := Scalar.addi v0 v4
  let c2_i32 : BitVec 32 := 2#32
  let c0_i32_0 : BitVec 32 := 0#32
  let c0_i32_1 : BitVec 32 := 0#32
  ![c2_i32.toNat, v5.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S24x16384x128 : Shape := ⟨3, ![24, 16384, 128]⟩
abbrev S8x16384x128 : Shape := ⟨3, ![8, 16384, 128]⟩
abbrev S8x2x8192x2x64 : Shape := ⟨5, ![8, 2, 8192, 2, 64]⟩
abbrev S2x8192x8x2x64 : Shape := ⟨5, ![2, 8192, 8, 2, 64]⟩
abbrev S2x8192x16x64 : Shape := ⟨4, ![2, 8192, 16, 64]⟩
abbrev S_ : Shape := ⟨0, ![]⟩
abbrev S2x16x8192x8192 : Shape := ⟨4, ![2, 16, 8192, 8192]⟩
abbrev S8192x8192 : Shape := ⟨2, ![8192, 8192]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x16x8192x64 : Shape := ⟨4, ![2, 16, 8192, 64]⟩
abbrev S2x8x2x8192x64 : Shape := ⟨5, ![2, 8, 2, 8192, 64]⟩

abbrev nBuf : Space → Nat
  | .hbm => 152
  | .vmem => 0
  | .smem => 0
  | _ => 0

abbrev hbmTy0_0 (i : Nat) : BufTy := match i % 128 with
  | 0 => ⟨S24x16384x128, .bf16⟩
  | 1 => ⟨S8x16384x128, .bf16⟩
  | 2 => ⟨S8x16384x128, .f32⟩
  | 3 => ⟨S8x2x8192x2x64, .f32⟩
  | 4 => ⟨S2x8192x8x2x64, .f32⟩
  | 5 => ⟨S2x8192x16x64, .f32⟩
  | 6 => ⟨S_, .f32⟩
  | 7 => ⟨S_, .f32⟩
  | 8 => ⟨S_, .f32⟩
  | 9 => ⟨S_, .f32⟩
  | 10 => ⟨S2x8192x16x64, .f32⟩
  | 11 => ⟨S2x8192x16x64, .f32⟩
  | 12 => ⟨S8x16384x128, .bf16⟩
  | 13 => ⟨S8x16384x128, .f32⟩
  | 14 => ⟨S8x2x8192x2x64, .f32⟩
  | 15 => ⟨S2x8192x8x2x64, .f32⟩
  | 16 => ⟨S2x8192x16x64, .f32⟩
  | 17 => ⟨S8x16384x128, .bf16⟩
  | 18 => ⟨S8x16384x128, .f32⟩
  | 19 => ⟨S8x2x8192x2x64, .f32⟩
  | 20 => ⟨S2x8192x8x2x64, .f32⟩
  | 21 => ⟨S2x8192x16x64, .f32⟩
  | 22 => ⟨S2x16x8192x8192, .f32⟩
  | 23 => ⟨S_, .f32⟩
  | 24 => ⟨S2x16x8192x8192, .f32⟩
  | 25 => ⟨S2x16x8192x8192, .f32⟩
  | 26 => ⟨S8192x8192, .i32⟩
  | 27 => ⟨S8192x8192, .i32⟩
  | 28 => ⟨S8192x8192, .i32⟩
  | 29 => ⟨S_, .i32⟩
  | 30 => ⟨S8192x8192, .i32⟩
  | 31 => ⟨S8192x8192, .i1⟩
  | 32 => ⟨S_, .i32⟩
  | 33 => ⟨S8192x8192, .i32⟩
  | 34 => ⟨S8192x8192, .i1⟩
  | 35 => ⟨S8192x8192, .i1⟩
  | 36 => ⟨S_, .i32⟩
  | 37 => ⟨S8192x8192, .i32⟩
  | 38 => ⟨S8192x8192, .i32⟩
  | 39 => ⟨S_, .i32⟩
  | 40 => ⟨S8192x8192, .i32⟩
  | 41 => ⟨S8192x8192, .i1⟩
  | 42 => ⟨S8192x8192, .i1⟩
  | 43 => ⟨S1x1x8192x8192, .i1⟩
  | 44 => ⟨S2x16x8192x8192, .i1⟩
  | 45 => ⟨S_, .f32⟩
  | 46 => ⟨S2x16x8192x8192, .f32⟩
  | 47 => ⟨S2x16x8192x8192, .f32⟩
  | 48 => ⟨S_, .f32⟩
  | 49 => ⟨S2x16x8192, .f32⟩
  | 50 => ⟨S2x16x8192x1, .f32⟩
  | 51 => ⟨S2x16x8192x8192, .f32⟩
  | 52 => ⟨S2x16x8192x8192, .f32⟩
  | 53 => ⟨S2x16x8192x8192, .f32⟩
  | 54 => ⟨S_, .f32⟩
  | 55 => ⟨S2x16x8192, .f32⟩
  | 56 => ⟨S2x16x8192x1, .f32⟩
  | 57 => ⟨S2x16x8192x64, .f32⟩
  | 58 => ⟨S2x16x8192x64, .f32⟩
  | 59 => ⟨S2x16x8192x64, .f32⟩
  | 60 => ⟨S2x16x8192x1, .f32⟩
  | 61 => ⟨S2x16x8192x1, .f32⟩
  | 62 => ⟨S_, .i32⟩
  | 63 => ⟨S8192x8192, .i32⟩
  | 64 => ⟨S8192x8192, .i1⟩
  | 65 => ⟨S_, .i32⟩
  | 66 => ⟨S8192x8192, .i32⟩
  | 67 => ⟨S8192x8192, .i1⟩
  | 68 => ⟨S8192x8192, .i1⟩
  | 69 => ⟨S_, .i32⟩
  | 70 => ⟨S8192x8192, .i32⟩
  | 71 => ⟨S8192x8192, .i32⟩
  | 72 => ⟨S_, .i32⟩
  | 73 => ⟨S8192x8192, .i32⟩
  | 74 => ⟨S8192x8192, .i1⟩
  | 75 => ⟨S8192x8192, .i1⟩
  | 76 => ⟨S1x1x8192x8192, .i1⟩
  | 77 => ⟨S2x16x8192x8192, .i1⟩
  | 78 => ⟨S_, .f32⟩
  | 79 => ⟨S2x16x8192x8192, .f32⟩
  | 80 => ⟨S2x16x8192x8192, .f32⟩
  | 81 => ⟨S_, .f32⟩
  | 82 => ⟨S2x16x8192, .f32⟩
  | 83 => ⟨S2x16x8192x1, .f32⟩
  | 84 => ⟨S2x16x8192x8192, .f32⟩
  | 85 => ⟨S2x16x8192x8192, .f32⟩
  | 86 => ⟨S2x16x8192x8192, .f32⟩
  | 87 => ⟨S_, .f32⟩
  | 88 => ⟨S2x16x8192, .f32⟩
  | 89 => ⟨S2x16x8192x1, .f32⟩
  | 90 => ⟨S2x16x8192x64, .f32⟩
  | 91 => ⟨S2x16x8192x64, .f32⟩
  | 92 => ⟨S2x16x8192x64, .f32⟩
  | 93 => ⟨S2x16x8192x1, .f32⟩
  | 94 => ⟨S2x16x8192x1, .f32⟩
  | 95 => ⟨S_, .i32⟩
  | 96 => ⟨S8192x8192, .i32⟩
  | 97 => ⟨S8192x8192, .i1⟩
  | 98 => ⟨S_, .i32⟩
  | 99 => ⟨S8192x8192, .i32⟩
  | 100 => ⟨S8192x8192, .i1⟩
  | 101 => ⟨S8192x8192, .i1⟩
  | 102 => ⟨S_, .i32⟩
  | 103 => ⟨S8192x8192, .i32⟩
  | 104 => ⟨S8192x8192, .i32⟩
  | 105 => ⟨S_, .i32⟩
  | 106 => ⟨S8192x8192, .i32⟩
  | 107 => ⟨S8192x8192, .i1⟩
  | 108 => ⟨S8192x8192, .i1⟩
  | 109 => ⟨S1x1x8192x8192, .i1⟩
  | 110 => ⟨S2x16x8192x8192, .i1⟩
  | 111 => ⟨S_, .f32⟩
  | 112 => ⟨S2x16x8192x8192, .f32⟩
  | 113 => ⟨S2x16x8192x8192, .f32⟩
  | 114 => ⟨S_, .f32⟩
  | 115 => ⟨S2x16x8192, .f32⟩
  | 116 => ⟨S2x16x8192x1, .f32⟩
  | 117 => ⟨S2x16x8192x8192, .f32⟩
  | 118 => ⟨S2x16x8192x8192, .f32⟩
  | 119 => ⟨S2x16x8192x8192, .f32⟩
  | 120 => ⟨S_, .f32⟩
  | 121 => ⟨S2x16x8192, .f32⟩
  | 122 => ⟨S2x16x8192x1, .f32⟩
  | 123 => ⟨S2x16x8192x64, .f32⟩
  | 124 => ⟨S2x16x8192x64, .f32⟩
  | 125 => ⟨S2x16x8192x64, .f32⟩
  | 126 => ⟨S2x16x8192x1, .f32⟩
  | 127 => ⟨S2x16x8192x1, .f32⟩
  | _ => ⟨S24x16384x128, .bf16⟩

abbrev hbmTy0_1 (i : Nat) : BufTy := match i % 128 with
  | 0 => ⟨S2x16x8192x1, .f32⟩
  | 1 => ⟨S2x16x8192x1, .f32⟩
  | 2 => ⟨S2x16x8192x1, .f32⟩
  | 3 => ⟨S2x16x8192x1, .f32⟩
  | 4 => ⟨S2x16x8192x1, .f32⟩
  | 5 => ⟨S2x16x8192x1, .f32⟩
  | 6 => ⟨S2x16x8192x1, .f32⟩
  | 7 => ⟨S2x16x8192x1, .f32⟩
  | 8 => ⟨S2x16x8192x64, .f32⟩
  | 9 => ⟨S2x16x8192x64, .f32⟩
  | 10 => ⟨S2x16x8192x64, .f32⟩
  | 11 => ⟨S2x16x8192x64, .f32⟩
  | 12 => ⟨S2x16x8192x64, .f32⟩
  | 13 => ⟨S2x16x8192x64, .f32⟩
  | 14 => ⟨S2x16x8192x64, .f32⟩
  | 15 => ⟨S2x16x8192x64, .f32⟩
  | 16 => ⟨S2x16x8192x1, .f32⟩
  | 17 => ⟨S2x16x8192x1, .f32⟩
  | 18 => ⟨S2x16x8192x64, .f32⟩
  | 19 => ⟨S2x16x8192x64, .f32⟩
  | 20 => ⟨S2x16x8192x64, .bf16⟩
  | 21 => ⟨S2x8x2x8192x64, .bf16⟩
  | 22 => ⟨S8x2x8192x2x64, .bf16⟩
  | 23 => ⟨S8x16384x128, .bf16⟩
  | _ => ⟨S24x16384x128, .bf16⟩

abbrev hbmTy (i : Nat) : BufTy := match i / 128 with
  | 0 => hbmTy0_0 i
  | 1 => hbmTy0_1 i
  | _ => ⟨S24x16384x128, .bf16⟩

abbrev bufTy : (tb : Table) → Fin (tcTables nBuf tb) → BufTy
  | .hbm, ⟨i, _⟩ => hbmTy i
  | _, _ => ⟨S24x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_3 : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_8 : Ref sig .tc := ⟨.hbm, 62, rfl⟩
abbrev main_v51 : Ref sig .tc := ⟨.hbm, 63, rfl⟩
abbrev main_v52 : Ref sig .tc := ⟨.hbm, 64, rfl⟩
abbrev main_c_9 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_10 : Ref sig .tc := ⟨.hbm, 69, rfl⟩
abbrev main_v56 : Ref sig .tc := ⟨.hbm, 70, rfl⟩
abbrev main_v57 : Ref sig .tc := ⟨.hbm, 71, rfl⟩
abbrev main_c_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_14 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_15 : Ref sig .tc := ⟨.hbm, 95, rfl⟩
abbrev main_v77 : Ref sig .tc := ⟨.hbm, 96, rfl⟩
abbrev main_v78 : Ref sig .tc := ⟨.hbm, 97, rfl⟩
abbrev main_c_16 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_17 : Ref sig .tc := ⟨.hbm, 102, rfl⟩
abbrev main_v82 : Ref sig .tc := ⟨.hbm, 103, rfl⟩
abbrev main_v83 : Ref sig .tc := ⟨.hbm, 104, rfl⟩
abbrev main_c_18 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_19 : Ref sig .tc := ⟨.hbm, 111, rfl⟩
abbrev main_v89 : Ref sig .tc := ⟨.hbm, 112, rfl⟩
abbrev main_v90 : Ref sig .tc := ⟨.hbm, 113, rfl⟩
abbrev main_cst_20 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_21 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩

abbrev nD : Nat := 1
abbrev τ : Topo := Topo.v7x

variable {F : FTy → Type} [FloatOps F]
-- ==== KernelPle.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .f32⟩
  | .hbm, ⟨3, _⟩ => ⟨S1024x1024, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .f32⟩
  | .local _ .vmem, ⟨4, _⟩ => ⟨S512x256, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePleIdeal.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== KernelOut.lean ====
abbrev S8x16384x128 : Shape := ⟨3, ![8, 16384, 128]⟩
abbrev S1024x1024 : Shape := ⟨2, ![1024, 1024]⟩
abbrev S16384x1024 : Shape := ⟨2, ![16384, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩

abbrev nBuf : Space → Nat
  | .hbm => 5
  | .vmem => 7
  | .smem => 0
  | _ => 0

abbrev bufTy : (tb : Table) → Fin (tcTables nBuf tb) → BufTy
  | .hbm, ⟨0, _⟩ => ⟨S8x16384x128, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S8x512x128, .bf16⟩
  | .local _ .vmem, ⟨1, _⟩ => ⟨S8x512x128, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S8x16384x128 : Shape := ⟨3, ![8, 16384, 128]⟩
abbrev S1024x1024 : Shape := ⟨2, ![1024, 1024]⟩
abbrev S16384x1024 : Shape := ⟨2, ![16384, 1024]⟩
abbrev S16384x8x128 : Shape := ⟨3, ![16384, 8, 128]⟩

abbrev nBuf : Space → Nat
  | .hbm => 8
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S1024x1024, .f32⟩
  | .hbm, ⟨2, _⟩ => ⟨S16384x1024, .f32⟩
  | .hbm, ⟨3, _⟩ => ⟨S8x16384x128, .f32⟩
  | .hbm, ⟨4, _⟩ => ⟨S16384x8x128, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut2.lean ====
abbrev S4x16384x128 : Shape := ⟨3, ![4, 16384, 128]⟩
abbrev S1024x1024 : Shape := ⟨2, ![1024, 1024]⟩
abbrev S16384x1024 : Shape := ⟨2, ![16384, 1024]⟩
abbrev S4x512x128 : Shape := ⟨3, ![4, 512, 128]⟩
abbrev S512x1024 : Shape := ⟨2, ![512, 1024]⟩
abbrev S1x512x128 : Shape := ⟨3, ![1, 512, 128]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x16384x128, .bf16⟩
  | .hbm, ⟨1, _⟩ => ⟨S4x16384x128, .bf16⟩
  | .hbm, ⟨2, _⟩ => ⟨S1024x1024, .f32⟩
  | .hbm, ⟨3, _⟩ => ⟨S16384x1024, .f32⟩
  | .hbm, ⟨4, _⟩ => ⟨S1024x1024, .bf16⟩
  | .hbm, ⟨5, _⟩ => ⟨S16384x1024, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOut2Ideal.lean ====
abbrev S4x16384x128 : Shape := ⟨3, ![4, 16384, 128]⟩
abbrev S1024x1024 : Shape := ⟨2, ![1024, 1024]⟩
abbrev S16384x1024 : Shape := ⟨2, ![16384, 1024]⟩
abbrev S16384x4x128 : Shape := ⟨3, ![16384, 4, 128]⟩
abbrev S16384x512 : Shape := ⟨2, ![16384, 512]⟩

abbrev nBuf : Space → Nat
  | .hbm => 13
  | .vmem => 0
  | .smem => 0
  | _ => 0

abbrev bufTy : (tb : Table) → Fin (tcTables nBuf tb) → BufTy
  | .hbm, ⟨0, _⟩ => ⟨S4x16384x128, .bf16⟩
  | .hbm, ⟨1, _⟩ => ⟨S4x16384x128, .bf16⟩
  | .hbm, ⟨2, _⟩ => ⟨S1024x1024, .f32⟩
  | .hbm, ⟨3, _⟩ => ⟨S16384x1024, .f32⟩
  | .hbm, ⟨4, _⟩ => ⟨S4x16384x128, .f32⟩
  | .hbm, ⟨5, _⟩ => ⟨S16384x4x128, .f32⟩
  | .hbm, ⟨6, _⟩ => ⟨S16384x512, .f32⟩
  | .hbm, ⟨7, _⟩ => ⟨S4x16384x128, .f32⟩
  | .hbm, ⟨8, _⟩ => ⟨S16384x4x128, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelC.lean ====
abbrev S16384x1024 : Shape := ⟨2, ![16384, 1024]⟩
abbrev S2x8192 : Shape := ⟨2, ![2, 8192]⟩
abbrev S1024 : Shape := ⟨1, ![1024]⟩
abbrev S1024x3072 : Shape := ⟨2, ![1024, 3072]⟩
abbrev S64 : Shape := ⟨1, ![64]⟩
abbrev S_ : Shape := ⟨0, ![]⟩
abbrev S128 : Shape := ⟨1, ![128]⟩
abbrev S1x64 : Shape := ⟨2, ![1, 64]⟩
abbrev S2x64 : Shape := ⟨2, ![2, 64]⟩
abbrev S1x128 : Shape := ⟨2, ![1, 128]⟩
abbrev S16x128 : Shape := ⟨2, ![16, 128]⟩
abbrev S8x128 : Shape := ⟨2, ![8, 128]⟩
abbrev S24x128 : Shape := ⟨2, ![24, 128]⟩
abbrev S8 : Shape := ⟨1, ![8]⟩
abbrev S2x8192x1 : Shape := ⟨3, ![2, 8192, 1]⟩
abbrev S1x1x8 : Shape := ⟨3, ![1, 1, 8]⟩
abbrev S2x8192x8 : Shape := ⟨3, ![2, 8192, 8]⟩
abbrev S2x8192x48 : Shape := ⟨3, ![2, 8192, 48]⟩
abbrev S2x8192x64 : Shape := ⟨3, ![2, 8192, 64]⟩
abbrev S1x2x1x8192x1x64 : Shape := ⟨6, ![1, 2, 1, 8192, 1, 64]⟩
abbrev S1x2x1x8192x2x64 : Shape := ⟨6, ![1, 2, 1, 8192, 2, 64]⟩
abbrev S2x8192x128 : Shape := ⟨3, ![2, 8192, 128]⟩
abbrev S16384x128 : Shape := ⟨2, ![16384, 128]⟩
abbrev S1x1024 : Shape := ⟨2, ![1, 1024]⟩
abbrev S24x16384x128 : Shape := ⟨3, ![24, 16384, 128]⟩
abbrev S512x1024 : Shape := ⟨2, ![512, 1024]⟩
abbrev S512x128 : Shape := ⟨2, ![512, 128]⟩
abbrev S24x512x128 : Shape := ⟨3, ![24, 512, 128]⟩
abbrev S512 : Shape := ⟨1, ![512]⟩
abbrev S512x1 : Shape := ⟨2, ![512, 1]⟩
abbrev S128x128 : Shape := ⟨2, ![128, 128]⟩
abbrev S1024x512 : Shape := ⟨2, ![1024, 512]⟩
abbrev S512x512 : Shape := ⟨2, ![512, 512]⟩
abbrev S1x512x128 : Shape := ⟨3, ![1, 512, 128]⟩

abbrev nBuf : Space → Nat
  | .hbm => 89
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x8192, .i32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S16x128, .f32⟩
  | .hbm, ⟨45, _⟩ => ⟨S8x128, .f32⟩
  | .hbm, ⟨46, _⟩ => ⟨S24x128, .f32⟩
  | .hbm, ⟨47, _⟩ => ⟨S1024x3072, .bf16⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S2x8192, .f32⟩
  | .hbm, ⟨57, _⟩ => ⟨S2x8192x1, .f32⟩
  | .hbm, ⟨58, _⟩ => ⟨S1x1x8, .f32⟩
  | .hbm, ⟨59, _⟩ => ⟨S2x8192x8, .f32⟩
  | .hbm, ⟨60, _⟩ => ⟨S2x8192x8, .f32⟩
  | .hbm, ⟨61, _⟩ => ⟨S2x8192x8, .f32⟩
  | .hbm, ⟨62, _⟩ => ⟨S2x8192x8, .f32⟩
  | .hbm, ⟨63, _⟩ => ⟨S2x8192x8, .f32⟩
  | .hbm, ⟨64, _⟩ => ⟨S_, .f32⟩
  | .hbm, ⟨65, _⟩ => ⟨S2x8192x48, .f32⟩
  | .hbm, ⟨66, _⟩ => ⟨S_, .f32⟩
  | .hbm, ⟨67, _⟩ => ⟨S2x8192x48, .f32⟩
  | .hbm, ⟨68, _⟩ => ⟨S_, .f32⟩
  | .hbm, ⟨69, _⟩ => ⟨S2x8192x8, .f32⟩
  | .hbm, ⟨70, _⟩ => ⟨S2x8192x64, .f32⟩
  | .hbm, ⟨71, _⟩ => ⟨S1x2x1x8192x1x64, .f32⟩
  | .hbm, ⟨72, _⟩ => ⟨S1x2x1x8192x2x64, .f32⟩
  | .hbm, ⟨73, _⟩ => ⟨S2x8192x128, .f32⟩
  | .hbm, ⟨74, _⟩ => ⟨S16384x128, .f32⟩
  | .hbm, ⟨75, _⟩ => ⟨S2x8192x8, .f32⟩
  | .hbm, ⟨76, _⟩ => ⟨S2x8192x64, .f32⟩
  | .hbm, ⟨77, _⟩ => ⟨S1x2x1x8192x1x64, .f32⟩
  | .hbm, ⟨78, _⟩ => ⟨S1x2x1x8192x2x64, .f32⟩
  | .hbm, ⟨79, _⟩ => ⟨S2x8192x128, .f32⟩
  | .hbm, ⟨80, _⟩ => ⟨S16384x128, .f32⟩
  | .hbm, ⟨81, _⟩ => ⟨S2x8192x64, .f32⟩
  | .hbm, ⟨82, _⟩ => ⟨S1x2x1x8192x1x64, .f32⟩
  | .hbm, ⟨83, _⟩ => ⟨S1x2x1x8192x2x64, .f32⟩
  | .hbm, ⟨84, _⟩ => ⟨S2x8192x128, .f32⟩
  | .hbm, ⟨85, _⟩ => ⟨S16384x128, .f32⟩
  | .hbm, ⟨86, _⟩ => ⟨S1x1024, .f32⟩
  | .hbm, ⟨87, _⟩ => ⟨S24x16384x128, .bf16⟩
  | .hbm, ⟨88, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S24x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S24x512x128, .bf16⟩
  | .local _ .vmem, ⟨12, _⟩ => ⟨S24x512x128, .bf16⟩
  | .local _ .vmem, ⟨13, _⟩ => ⟨S512x128, .f32⟩
  | .local _ .vmem, ⟨14, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73_0 : Ref sig .tc := ⟨.hbm, 87, rfl⟩
abbrev main_v73_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceCIdeal.lean ====
abbrev S16384x1024 : Shape := ⟨2, ![16384, 1024]⟩
abbrev S2x8192 : Shape := ⟨2, ![2, 8192]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x48x64 : Shape := ⟨3, ![16384, 48, 64]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S8 : Shape := ⟨1, ![8]⟩
abbrev S16384x1x1 : Shape := ⟨3, ![16384, 1, 1]⟩
abbrev S1x1x8 : Shape := ⟨3, ![1, 1, 8]⟩
abbrev S16384x1x8 : Shape := ⟨3, ![16384, 1, 8]⟩
abbrev S16384x16x8 : Shape := ⟨3, ![16384, 16, 8]⟩
abbrev S16384x16x48 : Shape := ⟨3, ![16384, 16, 48]⟩
abbrev S16384x24x128 : Shape := ⟨3, ![16384, 24, 128]⟩
abbrev S24x16384x128 : Shape := ⟨3, ![24, 16384, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192, .i32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x48x64, .f32⟩
  | .hbm, ⟨24, _⟩ => ⟨S16384x16x64, .f32⟩
  | .hbm, ⟨25, _⟩ => ⟨S16384x16x64, .f32⟩
  | .hbm, ⟨26, _⟩ => ⟨S16384x16x64, .f32⟩
  | .hbm, ⟨27, _⟩ => ⟨S16384x16x64, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S_, .f32⟩
  | .hbm, ⟨35, _⟩ => ⟨S16384x16x1, .f32⟩
  | .hbm, ⟨36, _⟩ => ⟨S16384x16x1, .f32⟩
  | .hbm, ⟨37, _⟩ => ⟨S16384x16x1, .f32⟩
  | .hbm, ⟨38, _⟩ => ⟨S16384x16x64, .f32⟩
  | .hbm, ⟨39, _⟩ => ⟨S16384x16x64, .f32⟩
  | .hbm, ⟨40, _⟩ => ⟨S1x1x64, .f32⟩
  | .hbm, ⟨41, _⟩ => ⟨S16384x16x64, .f32⟩
  | .hbm, ⟨42, _⟩ => ⟨S16384x16x64, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S16384, .i32⟩
  | .hbm, ⟨52, _⟩ => ⟨S16384, .f32⟩
  | .hbm, ⟨53, _⟩ => ⟨S16384x1x1, .f32⟩
  | .hbm, ⟨54, _⟩ => ⟨S1x1x8, .f32⟩
  | .hbm, ⟨55, _⟩ => ⟨S16384x1x8, .f32⟩
  | .hbm, ⟨56, _⟩ => ⟨S16384x1x8, .f32⟩
  | .hbm, ⟨57, _⟩ => ⟨S16384x1x8, .f32⟩
  | .hbm, ⟨58, _⟩ => ⟨S16384x1x8, .f32⟩
  | .hbm, ⟨59, _⟩ => ⟨S16384x1x8, .f32⟩
  | .hbm, ⟨60, _⟩ => ⟨S16384x16x8, .f32⟩
  | .hbm, ⟨61, _⟩ => ⟨S16384x16x8, .f32⟩
  | .hbm, ⟨62, _⟩ => ⟨S16384x16x8, .f32⟩
  | .hbm, ⟨63, _⟩ => ⟨S16384x16x8, .f32⟩
  | .hbm, ⟨64, _⟩ => ⟨S16384x16x8, .f32⟩
  | .hbm, ⟨65, _⟩ => ⟨S16384x16x8, .f32⟩
  | .hbm, ⟨66, _⟩ => ⟨S16384x16x8, .f32⟩
  | .hbm, ⟨67, _⟩ => ⟨S16384x16x8, .f32⟩
  | .hbm, ⟨68, _⟩ => ⟨S16384x16x8, .f32⟩
  | .hbm, ⟨69, _⟩ => ⟨S16384x16x8, .f32⟩
  | .hbm, ⟨70, _⟩ => ⟨S16384x16x8, .f32⟩
  | .hbm, ⟨71, _⟩ => ⟨S16384x16x8, .f32⟩
  | .hbm, ⟨72, _⟩ => ⟨S16384x16x48, .f32⟩
  | .hbm, ⟨73, _⟩ => ⟨S16384x16x64, .f32⟩
  | .hbm, ⟨74, _⟩ => ⟨S_, .f32⟩
  | .hbm, ⟨75, _⟩ => ⟨S16384x16x64, .f32⟩
  | .hbm, ⟨76, _⟩ => ⟨S16384x16x64, .f32⟩
  | .hbm, ⟨77, _⟩ => ⟨S16384x16x64, .f32⟩
  | .hbm, ⟨78, _⟩ => ⟨S_, .f32⟩
  | .hbm, ⟨79, _⟩ => ⟨S16384x16, .f32⟩
  | .hbm, ⟨80, _⟩ => ⟨S16384x16x1, .f32⟩
  | .hbm, ⟨81, _⟩ => ⟨S_, .f32⟩
  | .hbm, ⟨82, _⟩ => ⟨S16384x16x1, .f32⟩
  | .hbm, ⟨83, _⟩ => ⟨S16384x16x1, .f32⟩
  | .hbm, ⟨84, _⟩ => ⟨S_, .f32⟩
  | .hbm, ⟨85, _⟩ => ⟨S16384x16x1, .f32⟩
  | .hbm, ⟨86, _⟩ => ⟨S16384x16x1, .f32⟩
  | .hbm, ⟨87, _⟩ => ⟨S16384x16x1, .f32⟩
  | .hbm, ⟨88, _⟩ => ⟨S16384x16x64, .f32⟩
  | .hbm, ⟨89, _⟩ => ⟨S16384x16x64, .f32⟩
  | .hbm, ⟨90, _⟩ => ⟨S1x1x64, .f32⟩
  | .hbm, ⟨91, _⟩ => ⟨S16384x16x64, .f32⟩
  | .hbm, ⟨92, _⟩ => ⟨S16384x16x64, .f32⟩
  | .hbm, ⟨93, _⟩ => ⟨S8, .f32⟩
  | .hbm, ⟨94, _⟩ => ⟨S8, .f32⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S_, .f32⟩
  | .hbm, ⟨99, _⟩ => ⟨S8, .f32⟩
  | .hbm, ⟨100, _⟩ => ⟨S8, .f32⟩
  | .hbm, ⟨101, _⟩ => ⟨S16384, .i32⟩
  | .hbm, ⟨102, _⟩ => ⟨S16384, .f32⟩
  | .hbm, ⟨103, _⟩ => ⟨S16384x1x1, .f32⟩
  | .hbm, ⟨104, _⟩ => ⟨S1x1x8, .f32⟩
  | .hbm, ⟨105, _⟩ => ⟨S16384x1x8, .f32⟩
  | .hbm, ⟨106, _⟩ => ⟨S16384x1x8, .f32⟩
  | .hbm, ⟨107, _⟩ => ⟨S16384x1x8, .f32⟩
  | .hbm, ⟨108, _⟩ => ⟨S16384x1x8, .f32⟩
  | .hbm, ⟨109, _⟩ => ⟨S16384x1x8, .f32⟩
  | .hbm, ⟨110, _⟩ => ⟨S16384x16x8, .f32⟩
  | .hbm, ⟨111, _⟩ => ⟨S16384x16x8, .f32⟩
  | .hbm, ⟨112, _⟩ => ⟨S16384x16x8, .f32⟩
  | .hbm, ⟨113, _⟩ => ⟨S16384x16x8, .f32⟩
  | .hbm, ⟨114, _⟩ => ⟨S16384x16x8, .f32⟩
  | .hbm, ⟨115, _⟩ => ⟨S16384x16x8, .f32⟩
  | .hbm, ⟨116, _⟩ => ⟨S16384x16x8, .f32⟩
  | .hbm, ⟨117, _⟩ => ⟨S16384x16x8, .f32⟩
  | .hbm, ⟨118, _⟩ => ⟨S16384x16x8, .f32⟩
  | .hbm, ⟨119, _⟩ => ⟨S16384x16x8, .f32⟩
  | .hbm, ⟨120, _⟩ => ⟨S16384x16x8, .f32⟩
  | .hbm, ⟨121, _⟩ => ⟨S16384x16x8, .f32⟩
  | .hbm, ⟨122, _⟩ => ⟨S16384x16x48, .f32⟩
  | .hbm, ⟨123, _⟩ => ⟨S16384x16x64, .f32⟩
  | .hbm, ⟨124, _⟩ => ⟨S16384x48x64, .f32⟩
  | .hbm, ⟨125, _⟩ => ⟨S16384x24x128, .f32⟩
  | .hbm, ⟨126, _⟩ => ⟨S24x16384x128, .f32⟩
  | .hbm, ⟨127, _⟩ => ⟨S24x16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== KernelAB.lean ====
abbrev S16384x1024 : Shape := ⟨2, ![16384, 1024]⟩
abbrev S2x8192 : Shape := ⟨2, ![2, 8192]⟩
abbrev S1024 : Shape := ⟨1, ![1024]⟩
abbrev S1024x3396 : Shape := ⟨2, ![1024, 3396]⟩
abbrev S64 : Shape := ⟨1, ![64]⟩
abbrev S1024x3328 : Shape := ⟨2, ![1024, 3328]⟩
abbrev S1024x64 : Shape := ⟨2, ![1024, 64]⟩
abbrev S1024x4 : Shape := ⟨2, ![1024, 4]⟩
abbrev S_ : Shape := ⟨0, ![]⟩
abbrev S1024x124 : Shape := ⟨2, ![1024, 124]⟩
abbrev S1024x3584 : Shape := ⟨2, ![1024, 3584]⟩
abbrev S128 : Shape := ⟨1, ![128]⟩
abbrev S1x64 : Shape := ⟨2, ![1, 64]⟩
abbrev S2x64 : Shape := ⟨2, ![2, 64]⟩
abbrev S1x128 : Shape := ⟨2, ![1, 128]⟩
abbrev S16x128 : Shape := ⟨2, ![16, 128]⟩
abbrev S12x128 : Shape := ⟨2, ![12, 128]⟩
abbrev S28x128 : Shape := ⟨2, ![28, 128]⟩
abbrev S8 : Shape := ⟨1, ![8]⟩
abbrev S2x8192x1 : Shape := ⟨3, ![2, 8192, 1]⟩
abbrev S1x1x8 : Shape := ⟨3, ![1, 1, 8]⟩
abbrev S2x8192x8 : Shape := ⟨3, ![2, 8192, 8]⟩
abbrev S2x8192x48 : Shape := ⟨3, ![2, 8192, 48]⟩
abbrev S2x8192x64 : Shape := ⟨3, ![2, 8192, 64]⟩
abbrev S1x2x1x8192x1x64 : Shape := ⟨6, ![1, 2, 1, 8192, 1, 64]⟩
abbrev S1x2x1x8192x2x64 : Shape := ⟨6, ![1, 2, 1, 8192, 2, 64]⟩
abbrev S2x8192x128 : Shape := ⟨3, ![2, 8192, 128]⟩
abbrev S16384x128 : Shape := ⟨2, ![16384, 128]⟩
abbrev S1x1024 : Shape := ⟨2, ![1, 1024]⟩
abbrev S28x16384x128 : Shape := ⟨3, ![28, 16384, 128]⟩
abbrev S512x1024 : Shape := ⟨2, ![512, 1024]⟩
abbrev S512x128 : Shape := ⟨2, ![512, 128]⟩
abbrev S28x512x128 : Shape := ⟨3, ![28, 512, 128]⟩
abbrev S512 : Shape := ⟨1, ![512]⟩
abbrev S512x1 : Shape := ⟨2, ![512, 1]⟩
abbrev S128x128 : Shape := ⟨2, ![128, 128]⟩
abbrev S1024x512 : Shape := ⟨2, ![1024, 512]⟩
abbrev S512x512 : Shape := ⟨2, ![512, 512]⟩
abbrev S1x512x128 : Shape := ⟨3, ![1, 512, 128]⟩

abbrev nBuf : Space → Nat
  | .hbm => 113
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x8192, .i32⟩
  | .hbm, ⟨2, _⟩ => ⟨S1024, .f32⟩
  | .hbm, ⟨3, _⟩ => ⟨S1024x3396, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1024x3328, .f32⟩
  | .hbm, ⟨9, _⟩ => ⟨S1024x64, .f32⟩
  | .hbm, ⟨10, _⟩ => ⟨S1024x4, .f32⟩
  | .hbm, ⟨11, _⟩ => ⟨S_, .f32⟩
  | .hbm, ⟨12, _⟩ => ⟨S1024x124, .f32⟩
  | .hbm, ⟨13, _⟩ => ⟨S1024x3584, .f32⟩
  | .hbm, ⟨14, _⟩ => ⟨S1024x3584, .bf16⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S16x128, .f32⟩
  | .hbm, ⟨70, _⟩ => ⟨S12x128, .f32⟩
  | .hbm, ⟨71, _⟩ => ⟨S28x128, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S2x8192, .f32⟩
  | .hbm, ⟨81, _⟩ => ⟨S2x8192x1, .f32⟩
  | .hbm, ⟨82, _⟩ => ⟨S1x1x8, .f32⟩
  | .hbm, ⟨83, _⟩ => ⟨S2x8192x8, .f32⟩
  | .hbm, ⟨84, _⟩ => ⟨S2x8192x8, .f32⟩
  | .hbm, ⟨85, _⟩ => ⟨S2x8192x8, .f32⟩
  | .hbm, ⟨86, _⟩ => ⟨S2x8192x8, .f32⟩
  | .hbm, ⟨87, _⟩ => ⟨S2x8192x8, .f32⟩
  | .hbm, ⟨88, _⟩ => ⟨S_, .f32⟩
  | .hbm, ⟨89, _⟩ => ⟨S2x8192x48, .f32⟩
  | .hbm, ⟨90, _⟩ => ⟨S_, .f32⟩
  | .hbm, ⟨91, _⟩ => ⟨S2x8192x48, .f32⟩
  | .hbm, ⟨92, _⟩ => ⟨S_, .f32⟩
  | .hbm, ⟨93, _⟩ => ⟨S2x8192x8, .f32⟩
  | .hbm, ⟨94, _⟩ => ⟨S2x8192x64, .f32⟩
  | .hbm, ⟨95, _⟩ => ⟨S1x2x1x8192x1x64, .f32⟩
  | .hbm, ⟨96, _⟩ => ⟨S1x2x1x8192x2x64, .f32⟩
  | .hbm, ⟨97, _⟩ => ⟨S2x8192x128, .f32⟩
  | .hbm, ⟨98, _⟩ => ⟨S16384x128, .f32⟩
  | .hbm, ⟨99, _⟩ => ⟨S2x8192x8, .f32⟩
  | .hbm, ⟨100, _⟩ => ⟨S2x8192x64, .f32⟩
  | .hbm, ⟨101, _⟩ => ⟨S1x2x1x8192x1x64, .f32⟩
  | .hbm, ⟨102, _⟩ => ⟨S1x2x1x8192x2x64, .f32⟩
  | .hbm, ⟨103, _⟩ => ⟨S2x8192x128, .f32⟩
  | .hbm, ⟨104, _⟩ => ⟨S16384x128, .f32⟩
  | .hbm, ⟨105, _⟩ => ⟨S2x8192x64, .f32⟩
  | .hbm, ⟨106, _⟩ => ⟨S1x2x1x8192x1x64, .f32⟩
  | .hbm, ⟨107, _⟩ => ⟨S1x2x1x8192x2x64, .f32⟩
  | .hbm, ⟨108, _⟩ => ⟨S2x8192x128, .f32⟩
  | .hbm, ⟨109, _⟩ => ⟨S16384x128, .f32⟩
  | .hbm, ⟨110, _⟩ => ⟨S1x1024, .f32⟩
  | .hbm, ⟨111, _⟩ => ⟨S28x16384x128, .bf16⟩
  | .hbm, ⟨112, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S28x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S28x512x128, .bf16⟩
  | .local _ .vmem, ⟨12, _⟩ => ⟨S28x512x128, .bf16⟩
  | .local _ .vmem, ⟨13, _⟩ => ⟨S512x128, .f32⟩
  | .local _ .vmem, ⟨14, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92_0 : Ref sig .tc := ⟨.hbm, 111, rfl⟩
abbrev main_v92_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S28x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceABIdeal.lean ====
abbrev S16384x1024 : Shape := ⟨2, ![16384, 1024]⟩
abbrev S2x8192 : Shape := ⟨2, ![2, 8192]⟩
abbrev S1024 : Shape := ⟨1, ![1024]⟩
abbrev S1024x3396 : Shape := ⟨2, ![1024, 3396]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3396 : Shape := ⟨2, ![16384, 3396]⟩
abbrev S16384x3392 : Shape := ⟨2, ![16384, 3392]⟩
abbrev S16384x53x64 : Shape := ⟨3, ![16384, 53, 64]⟩
abbrev S16384x8x64 : Shape := ⟨3, ![16384, 8, 64]⟩
abbrev S16384x5x64 : Shape := ⟨3, ![16384, 5, 64]⟩
abbrev S16384x8 : Shape := ⟨2, ![16384, 8]⟩
abbrev S16384x8x1 : Shape := ⟨3, ![16384, 8, 1]⟩
abbrev S1x1x64 : Shape := ⟨3, ![1, 1, 64]⟩
abbrev S16384x37x64 : Shape := ⟨3, ![16384, 37, 64]⟩
abbrev S8 : Shape := ⟨1, ![8]⟩
abbrev S16384x1x1 : Shape := ⟨3, ![16384, 1, 1]⟩
abbrev S1x1x8 : Shape := ⟨3, ![1, 1, 8]⟩
abbrev S16384x1x8 : Shape := ⟨3, ![16384, 1, 8]⟩
abbrev S16384x37x8 : Shape := ⟨3, ![16384, 37, 8]⟩
abbrev S16384x37x48 : Shape := ⟨3, ![16384, 37, 48]⟩
abbrev S16384x4x64 : Shape := ⟨3, ![16384, 4, 64]⟩
abbrev S16384x1x64 : Shape := ⟨3, ![16384, 1, 64]⟩
abbrev S16384x4 : Shape := ⟨2, ![16384, 4]⟩
abbrev S16384x124 : Shape := ⟨2, ![16384, 124]⟩
abbrev S16384x128 : Shape := ⟨2, ![16384, 128]⟩
abbrev S16384x2x64 : Shape := ⟨3, ![16384, 2, 64]⟩
abbrev S16384x56x64 : Shape := ⟨3, ![16384, 56, 64]⟩
abbrev S16384x28x128 : Shape := ⟨3, ![16384, 28, 128]⟩
abbrev S28x16384x128 : Shape := ⟨3, ![28, 16384, 128]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S2x8192, .i32⟩
  | 2 => ⟨S1024, .f32⟩
  | 3 => ⟨S1024x3396, .f32⟩
  | 4 => ⟨S64, .f32⟩
  | 5 => ⟨S64, .f32⟩
  | 6 => ⟨S64, .f32⟩
  | 7 => ⟨S64, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x3396, .f32⟩
  | 25 => ⟨S16384x3392, .f32⟩
  | 26 => ⟨S16384x53x64, .f32⟩
  | 27 => ⟨S16384x8x64, .f32⟩
  | 28 => ⟨S16384x8x64, .f32⟩
  | 29 => ⟨S16384x8x64, .f32⟩
  | 30 => ⟨S16384x8x64, .f32⟩
  | 31 => ⟨S16384x8x64, .f32⟩
  | 32 => ⟨S16384x8x64, .f32⟩
  | 33 => ⟨S16384x5x64, .f32⟩
  | 34 => ⟨S16384x8x64, .f32⟩
  | 35 => ⟨S_, .f32⟩
  | 36 => ⟨S16384x8, .f32⟩
  | 37 => ⟨S16384x8x1, .f32⟩
  | 38 => ⟨S_, .f32⟩
  | 39 => ⟨S16384x8x1, .f32⟩
  | 40 => ⟨S16384x8x1, .f32⟩
  | 41 => ⟨S_, .f32⟩
  | 42 => ⟨S16384x8x1, .f32⟩
  | 43 => ⟨S16384x8x1, .f32⟩
  | 44 => ⟨S16384x8x1, .f32⟩
  | 45 => ⟨S16384x8x64, .f32⟩
  | 46 => ⟨S16384x8x64, .f32⟩
  | 47 => ⟨S1x1x64, .f32⟩
  | 48 => ⟨S16384x8x64, .f32⟩
  | 49 => ⟨S16384x8x64, .f32⟩
  | 50 => ⟨S16384x8x64, .f32⟩
  | 51 => ⟨S_, .f32⟩
  | 52 => ⟨S16384x8, .f32⟩
  | 53 => ⟨S16384x8x1, .f32⟩
  | 54 => ⟨S_, .f32⟩
  | 55 => ⟨S16384x8x1, .f32⟩
  | 56 => ⟨S16384x8x1, .f32⟩
  | 57 => ⟨S_, .f32⟩
  | 58 => ⟨S16384x8x1, .f32⟩
  | 59 => ⟨S16384x8x1, .f32⟩
  | 60 => ⟨S16384x8x1, .f32⟩
  | 61 => ⟨S16384x8x64, .f32⟩
  | 62 => ⟨S16384x8x64, .f32⟩
  | 63 => ⟨S1x1x64, .f32⟩
  | 64 => ⟨S16384x8x64, .f32⟩
  | 65 => ⟨S16384x8x64, .f32⟩
  | 66 => ⟨S16384x8x64, .f32⟩
  | 67 => ⟨S_, .f32⟩
  | 68 => ⟨S16384x8, .f32⟩
  | 69 => ⟨S16384x8x1, .f32⟩
  | 70 => ⟨S_, .f32⟩
  | 71 => ⟨S16384x8x1, .f32⟩
  | 72 => ⟨S16384x8x1, .f32⟩
  | 73 => ⟨S_, .f32⟩
  | 74 => ⟨S16384x8x1, .f32⟩
  | 75 => ⟨S16384x8x1, .f32⟩
  | 76 => ⟨S16384x8x1, .f32⟩
  | 77 => ⟨S16384x8x64, .f32⟩
  | 78 => ⟨S16384x8x64, .f32⟩
  | 79 => ⟨S1x1x64, .f32⟩
  | 80 => ⟨S16384x8x64, .f32⟩
  | 81 => ⟨S16384x8x64, .f32⟩
  | 82 => ⟨S16384x8x64, .f32⟩
  | 83 => ⟨S_, .f32⟩
  | 84 => ⟨S16384x8, .f32⟩
  | 85 => ⟨S16384x8x1, .f32⟩
  | 86 => ⟨S_, .f32⟩
  | 87 => ⟨S16384x8x1, .f32⟩
  | 88 => ⟨S16384x8x1, .f32⟩
  | 89 => ⟨S_, .f32⟩
  | 90 => ⟨S16384x8x1, .f32⟩
  | 91 => ⟨S16384x8x1, .f32⟩
  | 92 => ⟨S16384x8x1, .f32⟩
  | 93 => ⟨S16384x8x64, .f32⟩
  | 94 => ⟨S16384x8x64, .f32⟩
  | 95 => ⟨S1x1x64, .f32⟩
  | 96 => ⟨S16384x8x64, .f32⟩
  | 97 => ⟨S16384x8x64, .f32⟩
  | 98 => ⟨S16384x37x64, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S16384, .i32⟩
  | 108 => ⟨S16384, .f32⟩
  | 109 => ⟨S16384x1x1, .f32⟩
  | 110 => ⟨S1x1x8, .f32⟩
  | 111 => ⟨S16384x1x8, .f32⟩
  | 112 => ⟨S16384x1x8, .f32⟩
  | 113 => ⟨S16384x1x8, .f32⟩
  | 114 => ⟨S16384x1x8, .f32⟩
  | 115 => ⟨S16384x1x8, .f32⟩
  | 116 => ⟨S16384x37x8, .f32⟩
  | 117 => ⟨S16384x37x8, .f32⟩
  | 118 => ⟨S16384x37x8, .f32⟩
  | 119 => ⟨S16384x37x8, .f32⟩
  | 120 => ⟨S16384x37x8, .f32⟩
  | 121 => ⟨S16384x37x8, .f32⟩
  | 122 => ⟨S16384x37x8, .f32⟩
  | 123 => ⟨S16384x37x8, .f32⟩
  | 124 => ⟨S16384x37x8, .f32⟩
  | 125 => ⟨S16384x37x8, .f32⟩
  | 126 => ⟨S16384x37x8, .f32⟩
  | 127 => ⟨S16384x37x8, .f32⟩
  | _ => ⟨S16384x1024, .f32⟩

abbrev hbmTy0_1 (i : Nat) : BufTy := match i % 128 with
  | 0 => ⟨S16384x37x48, .f32⟩
  | 1 => ⟨S16384x37x64, .f32⟩
  | 2 => ⟨S16384x8x64, .f32⟩
  | 3 => ⟨S16384x8x64, .f32⟩
  | 4 => ⟨S16384x8x64, .f32⟩
  | 5 => ⟨S16384x8x64, .f32⟩
  | 6 => ⟨S16384x4x64, .f32⟩
  | 7 => ⟨S16384x1x64, .f32⟩
  | 8 => ⟨S16384x4, .f32⟩
  | 9 => ⟨S_, .f32⟩
  | 10 => ⟨S16384x124, .f32⟩
  | 11 => ⟨S16384x128, .f32⟩
  | 12 => ⟨S16384x2x64, .f32⟩
  | 13 => ⟨S_, .f32⟩
  | 14 => ⟨S16384x8x64, .f32⟩
  | 15 => ⟨S16384x8x64, .f32⟩
  | 16 => ⟨S_, .f32⟩
  | 17 => ⟨S16384x8x64, .f32⟩
  | 18 => ⟨S16384x8x64, .f32⟩
  | 19 => ⟨S16384x56x64, .f32⟩
  | 20 => ⟨S16384x28x128, .f32⟩
  | 21 => ⟨S28x16384x128, .f32⟩
  | 22 => ⟨S28x16384x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_16 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_17 : Ref sig .tc := ⟨.hbm, 141, rfl⟩
abbrev main_v115 : Ref sig .tc := ⟨.hbm, 142, rfl⟩
abbrev main_v116 : Ref sig .tc := ⟨.hbm, 143, rfl⟩
abbrev main_cst_18 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩

abbrev nD : Nat := 1
abbrev τ : Topo := Topo.v7x

variable {F : FTy → Type} [FloatOps F]
-- ==== Proof.Planes.lean ====
/-
  Stacks of planes. A buffer of shape [n, 512, d] is read as n planes of shape [1, 512, d]; `plane x u` is the plane `u`,
  `stack f` the stack whose plane `u` is `f u`, and `mid f x j` the stack `x` whose first `j` planes have been replaced
  by those of `f`: what a run that treats one plane after another has written when it has treated `j` of them.
-/
module

public import Idealize.ShloMosaic.Lib.VecWindow
public import Idealize.ShloMosaic.Lib.ValueIdx

@[expose] public section

noncomputable section

namespace Cert.Proof

open Idealize.ShloMosaic

/-- `n` planes of 512 rows and `d` lanes. -/
abbrev Stack (n d : ℕ) : Shape := ⟨3, ![n, 512, d]⟩

variable {α : Type} {n d : ℕ}

theorem plane_inb (u : ℕ) (hu : u < n) : ∀ a, (![u, 0, 0] : Fin 3 → ℕ) a + (Stack 1 d).size a ≤ (Stack n d).size a := by
  intro a
  fin_cases a
  · show u + 1 ≤ n; omega
  · show 0 + 512 ≤ 512; omega
  · show 0 + d ≤ d; omega

/-- Plane `u` of a stack. -/
def plane (x : (Stack n d).Idx → α) (u : Fin n) : (Stack 1 d).Idx → α :=
  VecWindow.window x ![u.val, 0, 0] (Stack 1 d).size (plane_inb u.val u.isLt)

/-- The place of row `y 1`, lane `y 2` within a single plane. -/
def inPlane (y : (Stack n d).Idx) : (Stack 1 d).Idx := ValueIdx.ix3 (0 : Fin 1) (y 1) (y 2)

/-- The stack of the planes `f u`. -/
def stack (f : Fin n → (Stack 1 d).Idx → α) : (Stack n d).Idx → α := fun y => f (y 0) (inPlane y)

/-- `x` with its first `j` planes replaced by those of `f`. -/
def mid (f : Fin n → (Stack 1 d).Idx → α) (x : (Stack n d).Idx → α) (j : ℕ) : (Stack n d).Idx → α :=
  fun y => if (y 0).val < j then stack f y else x y

theorem mid_zero (f : Fin n → (Stack 1 d).Idx → α) (x : (Stack n d).Idx → α) : mid f x 0 = x := rfl

theorem mid_full (f : Fin n → (Stack 1 d).Idx → α) (x : (Stack n d).Idx → α) : mid f x n = stack f := by
  funext y
  exact if_pos (y 0).isLt

/-- Writing the plane `j` takes the first `j` planes to the first `j + 1`. -/
theorem put_mid (f : Fin n → (Stack 1 d).Idx → α) (x : (Stack n d).Idx → α) (u : Fin n) :
    VecWindow.put (mid f x u.val) ![u.val, 0, 0] (Stack 1 d).size (f u) = mid f x (u.val + 1) := by
  funext y
  unfold VecWindow.put mid
  have h1 : (y 1).val < 512 := (y 1).isLt
  have h2 : (y 2).val < d := (y 2).isLt
  by_cases h : (y 0).val = u.val
  · rw [dif_pos, if_pos (by omega)]
    · have hu : y 0 = u := Fin.ext h
      subst hu
      unfold stack
      congr 1
      funext a
      fin_cases a
      · exact Subsingleton.elim (α := Fin 1) _ _
      · rfl
      · rfl
    · intro a
      fin_cases a
      · show u.val ≤ (y 0).val ∧ (y 0).val < u.val + 1; omega
      · show 0 ≤ (y 1).val ∧ (y 1).val < 0 + 512; omega
      · show 0 ≤ (y 2).val ∧ (y 2).val < 0 + d; omega
  · rw [dif_neg]
    · by_cases h' : (y 0).val < u.val
      · rw [if_pos h', if_pos (by omega)]
      · rw [if_neg h', if_neg (by omega)]
    · intro hall
      have h0 : u.val ≤ (y 0).val ∧ (y 0).val < u.val + 1 := hall 0
      omega

/-- Row and lane of a place in plane `u`. -/
theorem plane_apply (x : (Stack n d).Idx → α) (u : Fin n) (y : (Stack 1 d).Idx) : plane x u y = x (ValueIdx.ix3 u (y 1) (y 2)) := by
  unfold plane VecWindow.window
  congr 1
  funext a
  have h0 : (y 0).val < 1 := (y 0).isLt
  fin_cases a
  · exact Fin.ext (by show u.val + 1 * (y 0).val = u.val; omega)
  · exact Fin.ext (by show 0 + 1 * (y 1).val = (y 1).val; omega)
  · exact Fin.ext (by show 0 + 1 * (y 2).val = (y 2).val; omega)

/-- A plane not yet treated is the old one. -/
theorem plane_mid (f : Fin n → (Stack 1 d).Idx → α) (x : (Stack n d).Idx → α) (u : Fin n) (j : ℕ) (h : j ≤ u.val) :
    plane (mid f x j) u = plane x u := by
  funext y
  rw [plane_apply, plane_apply]
  exact if_neg (by show ¬ u.val < j; omega)

theorem plane_stack (f : Fin n → (Stack 1 d).Idx → α) (u : Fin n) : plane (stack f) u = f u := by
  funext y
  rw [plane_apply]
  unfold stack
  congr 1
  funext a
  fin_cases a
  · exact Subsingleton.elim (α := Fin 1) _ _
  · rfl
  · rfl

/-- The plane at offset `u`, its bounds given otherwise. -/
theorem window_eq_plane (x : (Stack n d).Idx → α) (u : Fin n) (o : Fin 3 → ℕ) (ho : o = ![u.val, 0, 0])
    (inb : ∀ a, o a + (Stack 1 d).size a ≤ (Stack n d).size a) : VecWindow.window x o (Stack 1 d).size inb = plane x u := by
  subst ho; rfl

end Cert.Proof
end
-- ==== Proof.KI.Vocab.lean ====
/-
  What one grid point of the dilated attention computes, plane by plane. For head `u` of the sixteen, from the keys `K`
  and values `V` (eight chunks of two heads each), the bias `B`, the padded queries `Q`, the running maxima `m0` and the
  running sums `a0`: the scores, the weights, the rescaling of what was summed before, and the new maximum and sums.
-/
module

public import proofs.«01_k».proof.Proof.Gen.KernelIdeal.Skeleton
public import proofs.«01_k».proof.Proof.Planes

@[expose] public section

set_option maxRecDepth 16384

noncomputable section

namespace Cert.Proof.KernelIdeal

open Cert.KernelIdeal Cert.KernelIdeal.Gen
open Idealize.ShloMosaic

variable {F : FTy → Type} [FloatOps F]

/-- The chunk of two heads that holds head `u`. -/
def chunk (u : Fin 16) : Fin 8 := ⟨u.val / 2, by omega⟩

variable (v2 v4 : IVec S1x128 1) (K V : Vec F S8x512x128 .bf16) (B : Vec F S1x512x512 .f32) (Q : Vec F S16x512x128 .bf16)
  (m0 : Vec F S16x512x1 .f32) (a0 : Vec F S16x512x128 .f32)

/-- The lanes of head `u` within its chunk. -/
def lanes (u : Fin 16) : IVec S1x128 1 := if u.val % 2 = 0 then v2 else v4

def scores (u : Fin 16) : FVec F S512x512 .f32 := k0_pay50 (plane K (chunk u)) (plane Q u)
def probs (u : Fin 16) : FVec F S512x512 .bf16 := k0_pay34 (scores K Q u) B (plane m0 u)
def alpha (u : Fin 16) : FVec F S512x1 .f32 := k0_pay35 (scores K Q u) B (plane m0 u)
def maxima (u : Fin 16) : FVec F S1x512x1 .f32 := k0_pay36 (scores K Q u) B (plane m0 u)
def sums (u : Fin 16) : FVec F S1x512x128 .f32 :=
  k0_pay38 (k0_pay37 (lanes v2 v4 u) (plane V (chunk u)) (alpha K B Q m0 u) (plane a0 u) (probs K B Q m0 u))

/-- Head `u`'s queries, the other head's lanes of its chunk set to zero. -/
def padded (q : Vec F S8x512x128 .bf16) (u : Fin 16) : FVec F S1x512x128 .bf16 := k0_pay11 (lanes k0_pay1 k0_pay2 u) (plane q (chunk u))

/-- The two heads of chunk `j`. -/
def evenHead (j : Fin 8) : Fin 16 := ⟨2 * j.val, by omega⟩
def oddHead (j : Fin 8) : Fin 16 := ⟨2 * j.val + 1, by omega⟩

/-- Chunk `j` of the result, from the sums. -/
def quots (a : Vec F S16x512x128 .f32) (j : Fin 8) : FVec F S1x512x128 .bf16 := k0_pay70 k0_pay1 (plane a (evenHead j)) (plane a (oddHead j))

end Cert.Proof.KernelIdeal
end
-- ==== Proof.KI.Trip.lean ====
/-
  One trip of the loop over heads. Before trip `k` the maxima of the heads up to `2k` and the sums of the heads below `2k`
  are the new ones, the scores of head `2k+1` lie in one scratch buffer, and the weights and the rescaling of head `2k` in
  two others; the trip carries all this two heads further.
-/
module

public import proofs.«01_k».proof.Proof.KI.Vocab
public import proofs.«01_k».proof.Proof.Gen.KernelIdeal.Loops
public import Idealize.ShloMosaic.Lib.Exec
public import Idealize.ShloMosaic.Lib.Tactic

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem trips_lt (k : Fin k0_t1_loop.trips) : k.val < 7 := k.isLt

/-- Heads `2k`, `2k+1`, `2k+2`, `2k+3`. -/
def hd (k : Fin k0_t1_loop.trips) (r : Fin 4) : Fin 16 := ⟨2 * k.val + r.val, by have := trips_lt k; omega⟩

theorem off1_two : ∀ k : Fin k0_t1_loop.trips, k0_off1 k 2#32 = ![(chunk (hd k 2)).val, 0, 0] := by decide +kernel
theorem off1_three : ∀ k : Fin k0_t1_loop.trips, k0_off1 k 3#32 = ![(chunk (hd k 3)).val, 0, 0] := by decide +kernel
theorem off1_one : ∀ k : Fin k0_t1_loop.trips, k0_off1 k 1#32 = ![(chunk (hd k 1)).val, 0, 0] := by decide +kernel
theorem off4_eq : ∀ k : Fin k0_t1_loop.trips, k0_off4 k = ![(chunk (hd k 0)).val, 0, 0] := by decide +kernel

/-- A load of one plane. -/
theorem readAt_plane {sp : Space} {n d : ℕ} {e : EltTy} (v : View sig .tc sp (Stack n d) e) (f : v.ty.Contents (Elt F)) (u : Fin n) {o : Fin 3 → ℕ}
    (ho : o = ![u.val, 0, 0]) (inb : ∀ a, o a + (Stack 1 d).size a ≤ (Stack n d).size a) :
    v.readAt (Elt F) (Rect.unit (s := Stack n d) o (Stack 1 d).size inb).toLoadRect f = plane (v.read (Elt F) f) u :=
  View.readAt_unit v f inb ho _

/-- A store of one plane over the first planes of a stack. -/
theorem writes_plane {sp : Space} {n d : ℕ} {e : EltTy} (v : View sig .tc sp (Stack n d) e) (f : v.ty.Contents (Elt F)) (u : Fin n) {o : Fin 3 → ℕ}
    (ho : o = ![u.val, 0, 0]) (inb : ∀ a, o a + (Stack 1 d).size a ≤ (Stack n d).size a) (w : (Stack 1 d).Idx → Elt F e) (L : List (View.Piece (Elt F) (Stack n d) e))
    (g : Fin n → (Stack 1 d).Idx → Elt F e) (x : (Stack n d).Idx → Elt F e) (hL : v.read (Elt F) (v.writes (Elt F) f L) = mid g x u.val) (hw : w = g u) :
    v.read (Elt F) (v.writes (Elt F) f (⟨Rect.unit (s := Stack n d) o (Stack 1 d).size inb, w⟩ :: L)) = mid g x (u.val + 1) := by
  rw [View.read_writes_cons_put v f inb w L ho, hL, hw]
  exact put_mid g x u

theorem off2_one (k : Fin k0_t1_loop.trips) : k0_off2 k 1#32 = ![(hd k 1).val, 0, 0] := Gen.k0_off2_eq k 0
theorem off2_two (k : Fin k0_t1_loop.trips) : k0_off2 k 2#32 = ![(hd k 2).val, 0, 0] := Gen.k0_off2_eq k 1
theorem off2_three (k : Fin k0_t1_loop.trips) : k0_off2 k 3#32 = ![(hd k 3).val, 0, 0] := Gen.k0_off2_eq k 2
theorem off3_one (k : Fin k0_t1_loop.trips) : k0_off3 k 1#32 = ![(hd k 1).val, 0, 0] := Gen.k0_off3_eq k 0
theorem off3_two (k : Fin k0_t1_loop.trips) : k0_off3 k 2#32 = ![(hd k 2).val, 0, 0] := Gen.k0_off3_eq k 1
theorem off5_hd (k : Fin k0_t1_loop.trips) : k0_off5 k = ![(hd k 0).val, 0, 0] := Gen.k0_off5_eq k

theorem lanes_zero (v2 v4 : IVec S1x128 1) (k : Fin k0_t1_loop.trips) : lanes v2 v4 (hd k 0) = v2 := if_pos (by show (2 * k.val + 0) % 2 = 0; omega)
theorem lanes_one (v2 v4 : IVec S1x128 1) (k : Fin k0_t1_loop.trips) : lanes v2 v4 (hd k 1) = v4 := if_neg (by show ¬ (2 * k.val + 1) % 2 = 0; omega)

variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole) (arg8 : Memref sig .tc .vmem S16x512x1 .f32) (harg8 : arg8.IsWhole) (arg9 : Memref sig .tc .vmem S16x512x128 .f32) (harg9 : arg9.IsWhole) (arg10 : Memref sig .tc .vmem S16x512x128 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1 .f32) (harg15 : arg15.IsWhole) (arg16 : Memref sig .tc .vmem S512x1 .f32) (harg16 : arg16.IsWhole) (v2 : IVec S1x128 1) (v4 : IVec S1x128 1) (k0_h2 : k0_cond2 i = 1#1) (v38 : FVec F S512x1 .f32) (v41 : FVec F S512x1 .f32) (v45 : FVec F S512x512 .bf16)

/-- What the loop holds before trip `k`. -/
def held (f4 : Bf (F := F) c arg4) (f5 : Bf (F := F) c arg5) (f6 : Bf (F := F) c arg6) (f10 : Bf (F := F) c arg10)
    (m0 : Vec F S16x512x1 .f32) (a0 : Vec F S16x512x128 .f32) (k : ℕ) (u0 u1 : Fin 16) : sProp 𝕄 :=
  iprop(pt c arg4 f4 ∗ pt c arg5 f5 ∗ pt c arg6 f6 ∗ pt c arg10 f10
    ∗ (∃ f8, pt c arg8 f8 ∗ ⌜arg8.view.read (Elt F) f8
        = mid (maxima (arg4.view.read (Elt F) f4) (arg6.view.read (Elt F) f6) (arg10.view.read (Elt F) f10) m0) m0 (2 * k + 1)⌝)
    ∗ (∃ f9, pt c arg9 f9 ∗ ⌜arg9.view.read (Elt F) f9
        = mid (sums v2 v4 (arg4.view.read (Elt F) f4) (arg5.view.read (Elt F) f5) (arg6.view.read (Elt F) f6) (arg10.view.read (Elt F) f10) m0 a0) a0 (2 * k)⌝)
    ∗ (∃ f11, pt c arg11 f11)
    ∗ (∃ f12, pt c arg12 f12 ∗ ⌜arg12.view.read (Elt F) f12 = scores (arg4.view.read (Elt F) f4) (arg10.view.read (Elt F) f10) u1⌝)
    ∗ (∃ f13, pt c arg13 f13 ∗ ⌜arg13.view.read (Elt F) f13 = probs (arg4.view.read (Elt F) f4) (arg6.view.read (Elt F) f6) (arg10.view.read (Elt F) f10) m0 u0⌝)
    ∗ (∃ f14, pt c arg14 f14)
    ∗ (∃ f15, pt c arg15 f15 ∗ ⌜arg15.view.read (Elt F) f15 = alpha (arg4.view.read (Elt F) f4) (arg6.view.read (Elt F) f6) (arg10.view.read (Elt F) f10) m0 u0⌝)
    ∗ (∃ f16, pt c arg16 f16))

set_option backward.proofsInPublic true in
theorem trip (k : Fin k0_t1_loop.trips) (f4 : Bf (F := F) c arg4) (f5 : Bf (F := F) c arg5) (f6 : Bf (F := F) c arg6)
   (f10 : Bf (F := F) c arg10) (m0 : Vec F S16x512x1 .f32) (a0 : Vec F S16x512x128 .f32)  :
   held c arg4 arg5 arg6 arg8 arg9 arg10 arg11 arg12 arg13 arg14 arg15 arg16 v2 v4 f4 f5 f6 f10 m0 a0 k.val (hd k 0) (hd k 1)
    ⊢ wp frame (wpE (defs₀ (F := F)) 𝒱₀ (c : Thread nD τ) none) Set.univ
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v2 v4 k0_h2 v38 v41 v45 k ())
      (fun _ => held c arg4 arg5 arg6 arg8 arg9 arg10 arg11 arg12 arg13 arg14 arg15 arg16 v2 v4 f4 f5 f6 f10 m0 a0 (k.val + 1) (hd k 2) (hd k 3)) := by
  unfold held
  iintro ⟨H4, H5, H6, H10, ⟨%f8, H8, %h8⟩, ⟨%f9, H9, %h9⟩, ⟨%f11, H11⟩, ⟨%f12, H12, %h12⟩, ⟨%f13, H13, %h13⟩, ⟨%f14, H14⟩, ⟨%f15, H15, %h15⟩, ⟨%f16, H16⟩⟩
  sl_unfold [k0_t1_body]
  sl_exec
  sl_step
  have s2 : trip.sl.v273 c i arg4 arg10 arg11 k0_h2 k f4 f10 = scores (arg4.view.read (Elt F) f4) (arg10.view.read (Elt F) f10) (hd k 2) := by
    delta trip.sl.v273 trip.sl.H11_1
    rw [View.readCov_full]
    show k0_pay50 (F := F) (arg4.view.readAt (Elt F) (Rect.unit (s := S8x512x128) (k0_off1 k 2#32) S1x512x128.size (k0_off1_inb i k k0_h2 1)).toLoadRect f4)
      (arg10.view.readAt (Elt F) (Rect.unit (s := S16x512x128) (k0_off2 k 2#32) S1x512x128.size (k0_off2_inb i k k0_h2 1)).toLoadRect f10) = _
    rw [readAt_plane arg4.view f4 (chunk (hd k 2)) (off1_two k), readAt_plane arg10.view f10 (hd k 2) (off2_two k)]
    rfl
  isplitl [H4]; · iexact H4
  isplitl [H5]; · iexact H5
  isplitl [H6]; · iexact H6
  isplitl [H10]; · iexact H10
  isplitl [H8]
  · iexists _
    isplitl [H8]; · iexact H8
    ipureintro
    refine writes_plane arg8.view f8 (hd k 2) (off3_two k) _ _ _ (maxima _ _ _ m0) m0 ?_ ?_
    · refine writes_plane arg8.view f8 (hd k 1) (off3_one k) _ _ _ (maxima _ _ _ m0) m0 h8 ?_
      rw [View.readAt_full, View.readAt_full, readAt_plane arg8.view f8 (hd k 1) (off3_one k), h8, h12, plane_mid _ _ (hd k 1) (2 * k.val + 1) (le_refl _)]
      rfl
    · delta trip.sl.v279
      rw [s2, View.readAt_full, readAt_plane arg8.view f8 (hd k 2) (off3_two k), h8, plane_mid _ _ (hd k 2) (2 * k.val + 1) (Nat.le_succ _)]
      rfl
  isplitl [H9]
  · iexists _
    isplitl [H9]; · iexact H9
    ipureintro
    refine writes_plane arg9.view f9 (hd k 1) (off2_one k) _ _ _ (sums v2 v4 _ _ _ _ m0 a0) a0 ?_ ?_
    · refine writes_plane arg9.view f9 (hd k 0) (off5_hd k) _ _ _ (sums v2 v4 _ _ _ _ m0 a0) a0 h9 ?_
      delta trip.sl.r_2
      rw [readAt_plane arg5.view f5 (chunk (hd k 0)) (off4_eq k), readAt_plane arg9.view f9 (hd k 0) (off5_hd k), View.readAt_full, View.readAt_full,
        h9, h13, h15, plane_mid _ _ (hd k 0) (2 * k.val) (le_refl _)]
      unfold sums
      rw [lanes_zero]
    · delta trip.sl.r_5 trip.sl.r_6 trip.sl.v342 trip.sl.v338 trip.sl.v336 trip.sl.H16_1 trip.sl.H14_1
      rw [View.readCov_full, View.readCov_full, readAt_plane arg5.view f5 (chunk (hd k 1)) (off1_one k), readAt_plane arg9.view f9 (hd k 1) (off2_one k),
        View.readAt_full, View.readAt_full, readAt_plane arg8.view f8 (hd k 1) (off3_one k), h8, h9, h12, plane_mid _ _ (hd k 1) (2 * k.val + 1) (le_refl _),
        plane_mid _ _ (hd k 1) (2 * k.val) (Nat.le_succ _)]
      unfold sums
      rw [lanes_one]
      rfl
  isplitl [H11]
  · iexists _; iexact H11
  isplitl [H12]
  · iexists _
    isplitl [H12]; · iexact H12
    ipureintro
    rw [View.read_writes_full]
    delta trip.sl.r_3 trip.sl.r_4 trip.sl.cst_163
    rw [readAt_plane arg4.view f4 (chunk (hd k 3)) (off1_three k), readAt_plane arg10.view f10 (hd k 3) (off2_three k)]
    rfl
  isplitl [H13]
  · iexists _
    isplitl [H13]; · iexact H13
    ipureintro
    delta trip.sl.v279
    rw [View.read_writes_full, s2, View.readAt_full, readAt_plane arg8.view f8 (hd k 2) (off3_two k), h8, plane_mid _ _ (hd k 2) (2 * k.val + 1) (Nat.le_succ _)]
    rfl
  isplitl [H14]
  · iexists _; iexact H14
  isplitl [H15]
  · iexists _
    isplitl [H15]; · iexact H15
    ipureintro
    delta trip.sl.v279
    rw [View.read_writes_full, s2, View.readAt_full, readAt_plane arg8.view f8 (hd k 2) (off3_two k), h8, plane_mid _ _ (hd k 2) (2 * k.val + 1) (Nat.le_succ _)]
    rfl
  iexists _; iexact H16

end Cert.Proof.KernelIdeal
end
-- ==== Proof.KI.Blocks.lean ====
/-
  The body of one grid point as three pieces in a row: set up, attend to one key block, finish.
-/
module

public import proofs.«01_k».proof.Proof.KI.Vocab

@[expose] public section

set_option maxRecDepth 65536
set_option maxHeartbeats 2000000

noncomputable section

namespace Cert.Proof.KernelIdeal

open Cert.KernelIdeal Cert.KernelIdeal.Gen
open Idealize.ShloMosaic
open Idealize.SL Idealize.SL.Sem

variable {F : FTy → Type} [FloatOps F]

/-- Whether this is the first key block. -/
def cond1 (i : grid0.Coords) : BitVec 1 := Scalar.cmpi .ne (Scalar.extui (Scalar.cmpi .eq (BitVec.ofNat 32 (i 2).val) 0#32) : BitVec 32) 0#32

variable (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole) (arg8 : Memref sig .tc .vmem S16x512x1 .f32) (harg8 : arg8.IsWhole) (arg9 : Memref sig .tc .vmem S16x512x128 .f32) (harg9 : arg9.IsWhole) (arg10 : Memref sig .tc .vmem S16x512x128 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1 .f32) (harg15 : arg15.IsWhole) (arg16 : Memref sig .tc .vmem S512x1 .f32) (harg16 : arg16.IsWhole)

/-- At the first key block: the maxima and sums set up, and the queries of each head laid apart. -/
def start : Prog (TpuEff nD τ sig (Elt F) Λ₀ .tc) PUnit := do
  if k0_h1 : cond1 i = 1#1 then do
    let ⟨v44, cst_28, v46⟩ : Σ' (v44 : FVec F S512x128 .bf16) (cst_28 : F .bf16), IVec S512x128 1 ← k0_part1 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2
    k0_part2 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2 v44 cst_28 v46
    let ⟨v107, v109, v110⟩ : Σ' (v107 : FVec F S512x128 .bf16) (v109 : IVec S512x128 1), FVec F S512x128 .bf16 ← k0_part3 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2
    k0_part4 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2 v107 v109 v110
    let v142 : Vec F S1x512x128 .bf16 ← Prog.lift (.load arg3 (Rect.unit (s := S8x512x128) ![6, 0, 0] S1x512x128.size inb_S8x512x128_S1x512x128_6_0_0).toLoadRect (View.loadsAt_vmem h_S1x512x128))
    let v148 : Vec F S1x512x128 .bf16 ← Prog.lift (.load arg10 (Rect.unit (s := S16x512x128) ![13, 0, 0] S1x512x128.size inb_S16x512x128_S1x512x128_13_0_0).toLoadRect (View.loadsAt_vmem h_S1x512x128))
    Prog.lift (.store arg10 (Rect.unit (s := S16x512x128) ![13, 0, 0] S1x512x128.size inb_S16x512x128_S1x512x128_13_0_0) (k0_pay3 v142) Finset.univ (View.stores_vmem h_S1x512x128 (harg10.storeExact_slice rfl _ packedbf16_S16x512x128_S1x512x128_13_0_0) (fun _ => rfl)) (.inl rfl))
    let v151 : Vec F S1x512x128 .bf16 ← Prog.lift (.load arg3 (Rect.unit (s := S8x512x128) ![7, 0, 0] S1x512x128.size inb_S8x512x128_S1x512x128_7_0_0).toLoadRect (View.loadsAt_vmem h_S1x512x128))
    let v157 : Vec F S1x512x128 .bf16 ← Prog.lift (.load arg10 (Rect.unit (s := S16x512x128) ![14, 0, 0] S1x512x128.size inb_S16x512x128_S1x512x128_14_0_0).toLoadRect (View.loadsAt_vmem h_S1x512x128))
    Prog.lift (.store arg10 (Rect.unit (s := S16x512x128) ![14, 0, 0] S1x512x128.size inb_S16x512x128_S1x512x128_14_0_0) (k0_pay4 v151) Finset.univ (View.stores_vmem h_S1x512x128 (harg10.storeExact_slice rfl _ packedbf16_S16x512x128_S1x512x128_14_0_0) (fun _ => rfl)) (.inl rfl))
    let v160 : Vec F S1x512x128 .bf16 ← Prog.lift (.load arg3 (Rect.unit (s := S8x512x128) ![7, 0, 0] S1x512x128.size inb_S8x512x128_S1x512x128_7_0_0).toLoadRect (View.loadsAt_vmem h_S1x512x128))
    let v166 : Vec F S1x512x128 .bf16 ← Prog.lift (.load arg10 (Rect.unit (s := S16x512x128) ![15, 0, 0] S1x512x128.size inb_S16x512x128_S1x512x128_15_0_0).toLoadRect (View.loadsAt_vmem h_S1x512x128))
    Prog.lift (.store arg10 (Rect.unit (s := S16x512x128) ![15, 0, 0] S1x512x128.size inb_S16x512x128_S1x512x128_15_0_0) (k0_pay5 v160) Finset.univ (View.stores_vmem h_S1x512x128 (harg10.storeExact_slice rfl _ packedbf16_S16x512x128_S1x512x128_15_0_0) (fun _ => rfl)) (.inl rfl))
    pure ⟨⟩
  else do
    pure ⟨⟩

/-- The attention of one key block, where the block exists. -/
def attend : Prog (TpuEff nD τ sig (Elt F) Λ₀ .tc) PUnit := do
  if k0_h2 : k0_cond2 i = 1#1 then do
    let ⟨v38, v41, v45⟩ : Σ' (v38 : FVec F S512x1 .f32) (v41 : FVec F S512x1 .f32), FVec F S512x512 .bf16 ← k0_part11 i arg3 harg3 arg4 harg4 arg5 harg5 arg6 harg6 arg7 harg7 arg8 harg8 arg9 harg9 arg10 harg10 arg11 harg11 arg12 harg12 arg13 harg13 arg14 harg14 arg15 harg15 arg16 harg16
    let ⟨v66, v75⟩ : Σ' (v66 : FVec F S512x1 .f32), FVec F S512x1 .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2 k0_h2 v38 v41 v45
    let ⟨v104, v105, v107⟩ : Σ' (v104 : FVec F S512x128 .bf16) (v105 : Vec F S512x1 .f32), FVec F S512x128 .f32 ← k0_part13 i arg3 harg3 arg4 harg4 arg5 harg5 arg6 harg6 arg7 harg7 arg8 harg8 arg9 harg9 arg10 harg10 arg11 harg11 arg12 harg12 arg13 harg13 arg14 harg14 arg15 harg15 arg16 harg16 k0_pay1 k0_pay2 v66 v75
    let v110 : Vec F S512x512 .bf16 ← Prog.lift (.load arg14 (Rect.unit (s := S512x512) ![0, 0] S512x512.size inb_S512x512_S512x512_0_0).toLoadRect (View.loadsAt_vmem h_S512x512))
    let v113 : Vec F S1x512x128 .f32 ← Prog.lift (.load arg9 (Rect.unit (s := S16x512x128) ![15, 0, 0] S1x512x128.size inb_S16x512x128_S1x512x128_15_0_0).toLoadRect (View.loadsAt_vmem h_S1x512x128))
    Prog.lift (.store arg9 (Rect.unit (s := S16x512x128) ![15, 0, 0] S1x512x128.size inb_S16x512x128_S1x512x128_15_0_0) (k0_pay6 v104 v105 v107 v110) Finset.univ (View.stores_vmem_bits_univ h_S1x512x128 rfl) (.inl rfl))
    pure ⟨⟩
  else do
    pure ⟨⟩

/-- At the last key block: the quotient, written to the result. -/
def finish : Prog (TpuEff nD τ sig (Elt F) Λ₀ .tc) PUnit := do
  if k0_h3 : k0_cond3 i = 1#1 then do
    let v50 : FVec F S512x128 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 k0_pay1
    let ⟨v82, v84, v86⟩ : Σ' (v82 : FVec F S512x128 .f32) (v84 : FVec F S512x128 .f32), IVec S512x128 1 ← k0_part15 i arg3 harg3 arg4 harg4 arg5 harg5 arg6 harg6 arg7 harg7 arg8 harg8 arg9 harg9 arg10 harg10 arg11 harg11 arg12 harg12 arg13 harg13 arg14 harg14 arg15 harg15 arg16 harg16 k0_pay1 v50
    let ⟨v119, v123⟩ : Σ' (v119 : FVec F S512x128 .f32), FVec F S512x128 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 k0_pay1 v82 v84 v86
    let v126 : Vec F S1x512x128 .bf16 ← Prog.lift (.load arg7 (Rect.unit (s := S8x512x128) ![6, 0, 0] S1x512x128.size inb_S8x512x128_S1x512x128_6_0_0).toLoadRect (View.loadsAt_vmem h_S1x512x128))
    Prog.lift (.store arg7 (Rect.unit (s := S8x512x128) ![6, 0, 0] S1x512x128.size inb_S8x512x128_S1x512x128_6_0_0) (k0_pay7 v119 v123) Finset.univ (View.stores_vmem h_S1x512x128 (harg7.storeExact_slice rfl _ packedbf16_S8x512x128_S1x512x128_6_0_0) (fun _ => rfl)) (.inl rfl))
    let v129 : Vec F S1x512x128 .f32 ← Prog.lift (.load arg9 (Rect.unit (s := S16x512x128) ![14, 0, 0] S1x512x128.size inb_S16x512x128_S1x512x128_14_0_0).toLoadRect (View.loadsAt_vmem h_S1x512x128))
    let v131 : Vec F S1x512x128 .f32 ← Prog.lift (.load arg9 (Rect.unit (s := S16x512x128) ![15, 0, 0] S1x512x128.size inb_S16x512x128_S1x512x128_15_0_0).toLoadRect (View.loadsAt_vmem h_S1x512x128))
    let v142 : Vec F S1x512x128 .bf16 ← Prog.lift (.load arg7 (Rect.unit (s := S8x512x128) ![7, 0, 0] S1x512x128.size inb_S8x512x128_S1x512x128_7_0_0).toLoadRect (View.loadsAt_vmem h_S1x512x128))
    Prog.lift (.store arg7 (Rect.unit (s := S8x512x128) ![7, 0, 0] S1x512x128.size inb_S8x512x128_S1x512x128_7_0_0) (k0_pay8 v129 v131) Finset.univ (View.stores_vmem h_S1x512x128 (harg7.storeExact_slice rfl _ packedbf16_S8x512x128_S1x512x128_7_0_0) (fun _ => rfl)) (.inl rfl))
    pure ⟨⟩
  else do
    pure ⟨⟩

set_option backward.proofsInPublic true in
theorem body_eq : cc0_flash_dilated (F := F) i arg3 harg3 arg4 harg4 arg5 harg5 arg6 harg6 arg7 harg7 arg8 harg8 arg9 harg9 arg10 harg10 arg11 harg11 arg12 harg12 arg13 harg13 arg14 harg14 arg15 harg15 arg16 harg16
    = (do start (F := F) i arg3 harg3 arg4 harg4 arg5 harg5 arg6 harg6 arg7 harg7 arg8 harg8 arg9 harg9 arg10 harg10 arg11 harg11 arg12 harg12 arg13 harg13 arg14 harg14 arg15 harg15 arg16 harg16
          attend (F := F) i arg3 harg3 arg4 harg4 arg5 harg5 arg6 harg6 arg7 harg7 arg8 harg8 arg9 harg9 arg10 harg10 arg11 harg11 arg12 harg12 arg13 harg13 arg14 harg14 arg15 harg15 arg16 harg16
          finish (F := F) i arg3 harg3 arg4 harg4 arg5 harg5 arg6 harg6 arg7 harg7 arg8 harg8 arg9 harg9 arg10 harg10 arg11 harg11 arg12 harg12 arg13 harg13 arg14 harg14 arg15 harg15 arg16 harg16) := by
  rw [cc0_flash_dilated_eq_skeleton]
  unfold cc0_flash_dilated_skel start attend finish
  by_cases h1 : cond1 i = 1#1
  all_goals
    have h1' := h1
    unfold cond1 at h1'
    by_cases h2 : k0_cond2 i = 1#1
    all_goals
      by_cases h3 : k0_cond3 i = 1#1
      all_goals
        simp only [h1, h1', h2, h3, dite_true, dite_false, pure_bind, bind_assoc, bind_pure]
        try rfl

end Cert.Proof.KernelIdeal
end
-- ==== Proof.KI.Attend.lean ====
/-
  The attention of one key block: all sixteen heads' maxima and sums carried over the block.
-/
module

public import proofs.«01_k».proof.Proof.KI.Trip
public import proofs.«01_k».proof.Proof.KI.Blocks

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole) (arg8 : Memref sig .tc .vmem S16x512x1 .f32) (harg8 : arg8.IsWhole) (arg9 : Memref sig .tc .vmem S16x512x128 .f32) (harg9 : arg9.IsWhole) (arg10 : Memref sig .tc .vmem S16x512x128 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1 .f32) (harg15 : arg15.IsWhole) (arg16 : Memref sig .tc .vmem S512x1 .f32) (harg16 : arg16.IsWhole)

/-- The buffers of one grid point: the keys, values, bias and padded queries, and the maxima and sums at `m`, `a`. -/
def state (f4 : Bf (F := F) c arg4) (f5 : Bf (F := F) c arg5) (f6 : Bf (F := F) c arg6) (Q : Vec F S16x512x128 .bf16)
    (m : Vec F S16x512x1 .f32) (a : Vec F S16x512x128 .f32) : sProp 𝕄 :=
  iprop(pt c arg4 f4 ∗ pt c arg5 f5 ∗ pt c arg6 f6
    ∗ (∃ f8, pt c arg8 f8 ∗ ⌜arg8.view.read (Elt F) f8 = m⌝)
    ∗ (∃ f9, pt c arg9 f9 ∗ ⌜arg9.view.read (Elt F) f9 = a⌝)
    ∗ (∃ f10, pt c arg10 f10 ∗ ⌜arg10.view.read (Elt F) f10 = Q⌝)
    ∗ (∃ f11, pt c arg11 f11) ∗ (∃ f12, pt c arg12 f12) ∗ (∃ f13, pt c arg13 f13)
    ∗ (∃ f14, pt c arg14 f14) ∗ (∃ f15, pt c arg15 f15) ∗ (∃ f16, pt c arg16 f16))

set_option backward.proofsInPublic true in
theorem attend_run (k0_h2 : k0_cond2 i = 1#1) (f4 : Bf (F := F) c arg4) (f5 : Bf (F := F) c arg5) (f6 : Bf (F := F) c arg6)
   (Q : Vec F S16x512x128 .bf16) (m0 : Vec F S16x512x1 .f32) (a0 : Vec F S16x512x128 .f32) :
   state c arg4 arg5 arg6 arg8 arg9 arg10 arg11 arg12 arg13 arg14 arg15 arg16 f4 f5 f6 Q m0 a0
    ⊢ wp frame (wpE (defs₀ (F := F)) 𝒱₀ (c : Thread nD τ) none) Set.univ (attend (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => state c arg4 arg5 arg6 arg8 arg9 arg10 arg11 arg12 arg13 arg14 arg15 arg16 f4 f5 f6 Q
        (stack (maxima (arg4.view.read (Elt F) f4) (arg6.view.read (Elt F) f6) Q m0))
        (stack (sums k0_pay1 k0_pay2 (arg4.view.read (Elt F) f4) (arg5.view.read (Elt F) f5) (arg6.view.read (Elt F) f6) Q m0 a0))) := by
  unfold state attend
  rw [dif_pos k0_h2]
  iintro ⟨H4, H5, H6, ⟨%f8, H8, %h8⟩, ⟨%f9, H9, %h9⟩, ⟨%f10, H10, %h10⟩, ⟨%f11, H11⟩, ⟨%f12, H12⟩, ⟨%f13, H13⟩, ⟨%f14, H14⟩, ⟨%f15, H15⟩, ⟨%f16, H16⟩⟩
  subst h8 h9 h10
  sl_exec
  have s0 : attend_run.sl.v33 c arg4 arg10 arg11 f4 f10 = scores (arg4.view.read (Elt F) f4) (arg10.view.read (Elt F) f10) 0 := by
    delta attend_run.sl.v33 attend_run.sl.H11_1
    rw [View.readCov_full, readAt_plane arg4.view f4 (chunk 0) (o := ![0, 0, 0]) rfl, readAt_plane arg10.view f10 0 (o := ![0, 0, 0]) rfl]
    rfl
  sl_for (fun (k : ℕ) (_ : PUnit) => held (F := F) c arg4 arg5 arg6 arg8 arg9 arg10 arg11 arg12 arg13 arg14 arg15 arg16 k0_pay1 k0_pay2 f4 f5 f6 f10
    (arg8.view.read (Elt F) f8) (arg9.view.read (Elt F) f9) k (Fin.ofNat 16 (2 * k)) (Fin.ofNat 16 (2 * k + 1))) $$ [H4 H5 H6 H8 H9 H10 H11 H12 H13 H14 H15 H16]
  case region =>
    intro k _
    have e0 : Fin.ofNat 16 (2 * k.val) = hd k 0 := Fin.ext (by show 2 * k.val % 16 = 2 * k.val + 0; have := trips_lt k; omega)
    have e1 : Fin.ofNat 16 (2 * k.val + 1) = hd k 1 := Fin.ext (by show (2 * k.val + 1) % 16 = 2 * k.val + 1; have := trips_lt k; omega)
    have e2 : Fin.ofNat 16 (2 * (k.val + 1)) = hd k 2 := Fin.ext (by show 2 * (k.val + 1) % 16 = 2 * k.val + 2; have := trips_lt k; omega)
    have e3 : Fin.ofNat 16 (2 * (k.val + 1) + 1) = hd k 3 := Fin.ext (by show (2 * (k.val + 1) + 1) % 16 = 2 * k.val + 3; have := trips_lt k; omega)
    rw [e0, e1, e2, e3]
    exact trip (F := F) _ _ _ _ _ _ _ _ _ _ _ _ _ _ _ _ _ _ _ _ _ _ _ _ _ _ _ _ _ _ _ _ _ _ _ _ _ _ _ _ _ _ _
  · unfold held
    isplitl [H4]; · iexact H4
    isplitl [H5]; · iexact H5
    isplitl [H6]; · iexact H6
    isplitl [H10]; · iexact H10
    isplitl [H8]
    · iexists _
      isplitl [H8]; · iexact H8
      ipureintro
      refine writes_plane arg8.view f8 0 rfl _ _ _ (maxima _ _ _ _) _ rfl ?_
      delta attend_run.sl.r_1
      rw [s0, View.readAt_full, readAt_plane arg8.view f8 0 (o := ![0, 0, 0]) rfl]
      rfl
    isplitl [H9]
    · iexists _
      isplitl [H9]; · iexact H9
      ipureintro
      rfl
    isplitl [H11]
    · iexists _; iexact H11
    isplitl [H12]
    · iexists _
      isplitl [H12]; · iexact H12
      ipureintro
      delta attend_run.sl.H12_1
      rw [View.read_writes_full, readAt_plane arg4.view f4 (chunk 1) (o := ![0, 0, 0]) rfl, readAt_plane arg10.view f10 1 (o := ![1, 0, 0]) rfl]
      rfl
    isplitl [H13]
    · iexists _
      isplitl [H13]; · iexact H13
      ipureintro
      delta attend_run.sl.H13_1 attend_run.sl.r_2
      rw [View.read_writes_full, s0, View.readAt_full, readAt_plane arg8.view f8 0 (o := ![0, 0, 0]) rfl]
      rfl
    isplitl [H14]
    · iexists _; iexact H14
    isplitl [H15]
    · iexists _
      isplitl [H15]; · iexact H15
      ipureintro
      delta attend_run.sl.H15_1 attend_run.sl.r attend_run.sl.r_1
      rw [View.read_writes_full, s0, View.readAt_full, readAt_plane arg8.view f8 0 (o := ![0, 0, 0]) rfl]
      rfl
    iexists _; iexact H16
  · iintro %_ H
    unfold held
    icases H with ⟨H4, H5, H6, H10, ⟨%g8, H8, %h8⟩, ⟨%g9, H9, %h9⟩, ⟨%g11, H11⟩, ⟨%g12, H12, %h12⟩, ⟨%g13, H13, %h13⟩, ⟨%g14, H14⟩, ⟨%g15, H15, %h15⟩, ⟨%g16, H16⟩⟩
    have ht : Scf.trips k0_t1_loop.lb k0_t1_loop.ub k0_t1_loop.st = 7 := rfl
    rw [ht] at h8 h9 h12 h13 h15
    sl_exec
    sl_step
    isplitl [H4]; · iexact H4
    isplitl [H5]; · iexact H5
    isplitl [H6]; · iexact H6
    isplitl [H8]
    · iexists _
      isplitl [H8]; · iexact H8
      ipureintro
      refine (writes_plane arg8.view g8 15 rfl _ _ [] (maxima _ _ _ _) _ h8 ?_).trans (mid_full _ _)
      delta attend_run.sl.r_3
      rw [View.readAt_full, View.readAt_full, readAt_plane arg8.view g8 15 (o := ![15, 0, 0]) rfl, h8, h12, plane_mid _ _ (15 : Fin 16) (2 * 7 + 1) (le_refl _)]
      rfl
    isplitl [H9]
    · iexists _
      isplitl [H9]; · iexact H9
      ipureintro
      refine (writes_plane arg9.view g9 15 rfl _ _ _ (sums _ _ _ _ _ _ _ _) _
        (writes_plane arg9.view g9 14 rfl _ _ [] (sums _ _ _ _ _ _ _ _) _ h9 ?_) ?_).trans (mid_full _ _)
      · rw [readAt_plane arg5.view f5 7 (o := ![7, 0, 0]) rfl, readAt_plane arg9.view g9 14 (o := ![14, 0, 0]) rfl, View.readAt_full, View.readAt_full, h9, h13, h15,
          plane_mid _ _ (14 : Fin 16) (2 * 7) (le_refl _)]
        rfl
      · delta attend_run.sl.r_5 attend_run.sl.r_6 attend_run.sl.v105 attend_run.sl.v110 attend_run.sl.v106 attend_run.sl.H16_1 attend_run.sl.H14_1 attend_run.sl.r_4
        rw [View.readCov_full, View.readCov_full, readAt_plane arg5.view f5 7 (o := ![7, 0, 0]) rfl, readAt_plane arg9.view g9 15 (o := ![15, 0, 0]) rfl, View.readAt_full, View.readAt_full,
          readAt_plane arg8.view g8 15 (o := ![15, 0, 0]) rfl, h8, h9, h12, plane_mid _ _ (15 : Fin 16) (2 * 7 + 1) (le_refl _), plane_mid _ _ (15 : Fin 16) (2 * 7) (Nat.le_succ _)]
        rfl
    isplitl [H10]
    · iexists _
      isplitl [H10]; · iexact H10
      ipureintro
      rfl
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Proof.KernelIdeal
end
-- ==== Proof.KI.Ends.lean ====
/-
  The first piece of a grid point's body, at the first key block, and the last, at the last key block.
-/
module

public import proofs.«01_k».proof.Proof.KI.Attend

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole) (arg8 : Memref sig .tc .vmem S16x512x1 .f32) (harg8 : arg8.IsWhole) (arg9 : Memref sig .tc .vmem S16x512x128 .f32) (harg9 : arg9.IsWhole) (arg10 : Memref sig .tc .vmem S16x512x128 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1 .f32) (harg15 : arg15.IsWhole) (arg16 : Memref sig .tc .vmem S512x1 .f32) (harg16 : arg16.IsWhole)

set_option backward.proofsInPublic true in
theorem start_run (h1 : cond1 i = 1#1) (f3 : Bf (F := F) c arg3) (f8 : Bf (F := F) c arg8) (f9 : Bf (F := F) c arg9) (f10 : Bf (F := F) c arg10) :
   iprop(pt c arg3 f3 ∗ pt c arg8 f8 ∗ pt c arg9 f9 ∗ pt c arg10 f10)
    ⊢ wp frame (wpE (defs₀ (F := F)) 𝒱₀ (c : Thread nD τ) none) Set.univ (start (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => iprop(pt c arg3 f3
    ∗ (∃ f8, pt c arg8 f8 ∗ ⌜arg8.view.read (Elt F) f8 = k0_pay9⌝)
    ∗ (∃ f9, pt c arg9 f9 ∗ ⌜arg9.view.read (Elt F) f9 = k0_pay10⌝)
    ∗ (∃ f10, pt c arg10 f10 ∗ ⌜arg10.view.read (Elt F) f10 = stack (padded (arg3.view.read (Elt F) f3))⌝))) := by
  unfold start
  rw [dif_pos h1]
  iintro ⟨H3, H8, H9, H10⟩
  sl_exec
  sl_step
  isplitl [H3]; · iexact H3
  isplitl [H8]
  · iexists _
    isplitl [H8]; · iexact H8
    ipureintro
    rw [View.read_writes_full]
  isplitl [H9]
  · iexists _
    isplitl [H9]; · iexact H9
    ipureintro
    rw [View.read_writes_full]
  iexists _
  isplitl [H10]; · iexact H10
  ipureintro
  refine (?_ : _ = mid (padded (arg3.view.read (Elt F) f3)) (arg10.view.read (Elt F) f10) 16).trans (mid_full _ _)
  refine writes_plane arg10.view f10 15 rfl _ _ _ _ _ ?_ rfl
  refine writes_plane arg10.view f10 14 rfl _ _ _ _ _ ?_ rfl
  refine writes_plane arg10.view f10 13 rfl _ _ _ _ _ ?_ rfl
  refine writes_plane arg10.view f10 12 rfl _ _ _ _ _ ?_ rfl
  refine writes_plane arg10.view f10 11 rfl _ _ _ _ _ ?_ rfl
  refine writes_plane arg10.view f10 10 rfl _ _ _ _ _ ?_ rfl
  refine writes_plane arg10.view f10 9 rfl _ _ _ _ _ ?_ rfl
  refine writes_plane arg10.view f10 8 rfl _ _ _ _ _ ?_ rfl
  refine writes_plane arg10.view f10 7 rfl _ _ _ _ _ ?_ rfl
  refine writes_plane arg10.view f10 6 rfl _ _ _ _ _ ?_ rfl
  refine writes_plane arg10.view f10 5 rfl _ _ _ _ _ ?_ rfl
  refine writes_plane arg10.view f10 4 rfl _ _ _ _ _ ?_ rfl
  refine writes_plane arg10.view f10 3 rfl _ _ _ _ _ ?_ rfl
  refine writes_plane arg10.view f10 2 rfl _ _ _ _ _ ?_ rfl
  refine writes_plane arg10.view f10 1 rfl _ _ _ _ _ ?_ rfl
  exact writes_plane arg10.view f10 0 rfl _ _ [] _ _ rfl rfl

set_option backward.proofsInPublic true in
theorem finish_run (h3 : k0_cond3 i = 1#1) (f9 : Bf (F := F) c arg9) (f7 : Bf (F := F) c arg7) :
   iprop(pt c arg9 f9 ∗ pt c arg7 f7)
    ⊢ wp frame (wpE (defs₀ (F := F)) 𝒱₀ (c : Thread nD τ) none) Set.univ (finish (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => iprop(pt c arg9 f9
    ∗ (∃ f7, pt c arg7 f7 ∗ ⌜arg7.view.read (Elt F) f7 = stack (quots (arg9.view.read (Elt F) f9))⌝))) := by
  unfold finish
  rw [dif_pos h3]
  iintro ⟨H9, H7⟩
  sl_exec
  sl_step
  isplitl [H9]; · iexact H9
  iexists _
  isplitl [H7]; · iexact H7
  ipureintro
  refine (?_ : _ = mid (quots (arg9.view.read (Elt F) f9)) (arg7.view.read (Elt F) f7) 8).trans (mid_full _ _)
  refine writes_plane arg7.view f7 7 rfl _ _ _ _ _ ?_ rfl
  refine writes_plane arg7.view f7 6 rfl _ _ _ _ _ ?_ rfl
  refine writes_plane arg7.view f7 5 rfl _ _ _ _ _ ?_ rfl
  refine writes_plane arg7.view f7 4 rfl _ _ _ _ _ ?_ rfl
  refine writes_plane arg7.view f7 3 rfl _ _ _ _ _ ?_ rfl
  refine writes_plane arg7.view f7 2 rfl _ _ _ _ _ ?_ rfl
  refine writes_plane arg7.view f7 1 rfl _ _ _ _ _ ?_ rfl
  exact writes_plane arg7.view f7 0 rfl _ _ [] _ _ rfl rfl

end Cert.Proof.KernelIdeal
end
-- ==== Proof.KI.Body.lean ====
/-
  One grid point: the three pieces run in a row, whichever of them the point calls for.
-/
module

public import proofs.«01_k».proof.Proof.KI.Ends

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole) (arg8 : Memref sig .tc .vmem S16x512x1 .f32) (harg8 : arg8.IsWhole) (arg9 : Memref sig .tc .vmem S16x512x128 .f32) (harg9 : arg9.IsWhole) (arg10 : Memref sig .tc .vmem S16x512x128 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x1 .f32) (harg15 : arg15.IsWhole) (arg16 : Memref sig .tc .vmem S512x1 .f32) (harg16 : arg16.IsWhole)

variable (F) in
/-- What is carried from one grid point to the next: padded queries, maxima, sums. -/
abbrev Carry : Type := Vec F S16x512x128 .bf16 × Vec F S16x512x1 .f32 × Vec F S16x512x128 .f32

/-- What is carried once the point's first piece has run. -/
def begun (q : Vec F S8x512x128 .bf16) (s : Carry F) : Carry F :=
  if cond1 i = 1#1 then (stack (padded q), k0_pay9, k0_pay10) else s

/-- What is carried once the point's key block has been attended to. -/
def attended (K V : Vec F S8x512x128 .bf16) (B : Vec F S1x512x512 .f32) (s : Carry F) : Carry F :=
  if k0_cond2 i = 1#1 then (s.1, stack (maxima K B s.1 s.2.1), stack (sums k0_pay1 k0_pay2 K V B s.1 s.2.1 s.2.2)) else s

/-- What is carried out of a point, from what is carried in. -/
def step (q K V : Vec F S8x512x128 .bf16) (B : Vec F S1x512x512 .f32) (s : Carry F) : Carry F :=
  attended i K V B (begun i q s)

set_option backward.proofsInPublic true in
theorem start_any (f3 : Bf (F := F) c arg3) (f4 : Bf (F := F) c arg4) (f5 : Bf (F := F) c arg5) (f6 : Bf (F := F) c arg6) (s : Carry F) :
   iprop(pt c arg3 f3 ∗ state c arg4 arg5 arg6 arg8 arg9 arg10 arg11 arg12 arg13 arg14 arg15 arg16 f4 f5 f6 s.1 s.2.1 s.2.2)
    ⊢ wp frame (wpE (defs₀ (F := F)) 𝒱₀ (c : Thread nD τ) none) Set.univ (start (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => iprop(pt c arg3 f3 ∗ state c arg4 arg5 arg6 arg8 arg9 arg10 arg11 arg12 arg13 arg14 arg15 arg16 f4 f5 f6 (begun i (arg3.view.read (Elt F) f3) s).1 (begun i (arg3.view.read (Elt F) f3) s).2.1 (begun i (arg3.view.read (Elt F) f3) s).2.2)) := by
  by_cases h1 : cond1 i = 1#1
  · simp only [begun, if_pos h1]
    unfold state
    iintro ⟨H3, H4, H5, H6, ⟨%f8, H8, %h8⟩, ⟨%f9, H9, %h9⟩, ⟨%f10, H10, %h10⟩, HR⟩
    iapply wp_wand_r frame (wpE (defs₀ (F := F)) 𝒱₀ (c : Thread nD τ) none) Set.univ
    isplitl [H3 H8 H9 H10]
    · iapply (start_run c i arg3 harg3 arg4 harg4 arg5 harg5 arg6 harg6 arg7 harg7 arg8 harg8 arg9 harg9 arg10 harg10 arg11 harg11 arg12 harg12 arg13 harg13 arg14 harg14 arg15 harg15 arg16 harg16 h1 f3 f8 f9 f10)
      isplitl [H3]; · iexact H3
      isplitl [H8]; · iexact H8
      isplitl [H9]; · iexact H9
      iexact H10
    iintro %_ ⟨H3, H8, H9, H10⟩
    isplitl [H3]; · iexact H3
    isplitl [H4]; · iexact H4
    isplitl [H5]; · iexact H5
    isplitl [H6]; · iexact H6
    isplitl [H8]; · iexact H8
    isplitl [H9]; · iexact H9
    isplitl [H10]; · iexact H10
    iexact HR
  · simp only [begun, if_neg h1]
    unfold start
    rw [dif_neg h1]
    iintro H
    rw [wp_pure]
    iexact H

set_option backward.proofsInPublic true in
theorem attend_any (f4 : Bf (F := F) c arg4) (f5 : Bf (F := F) c arg5) (f6 : Bf (F := F) c arg6) (s : Carry F) :
   state c arg4 arg5 arg6 arg8 arg9 arg10 arg11 arg12 arg13 arg14 arg15 arg16 f4 f5 f6 s.1 s.2.1 s.2.2
    ⊢ wp frame (wpE (defs₀ (F := F)) 𝒱₀ (c : Thread nD τ) none) Set.univ (attend (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => state c arg4 arg5 arg6 arg8 arg9 arg10 arg11 arg12 arg13 arg14 arg15 arg16 f4 f5 f6 (attended i (arg4.view.read (Elt F) f4) (arg5.view.read (Elt F) f5) (arg6.view.read (Elt F) f6) s).1 (attended i (arg4.view.read (Elt F) f4) (arg5.view.read (Elt F) f5) (arg6.view.read (Elt F) f6) s).2.1 (attended i (arg4.view.read (Elt F) f4) (arg5.view.read (Elt F) f5) (arg6.view.read (Elt F) f6) s).2.2) := by
  by_cases h2 : k0_cond2 i = 1#1
  · simp only [attended, if_pos h2]
    exact attend_run c i arg3 harg3 arg4 harg4 arg5 harg5 arg6 harg6 arg7 harg7 arg8 harg8 arg9 harg9 arg10 harg10 arg11 harg11 arg12 harg12 arg13 harg13 arg14 harg14 arg15 harg15 arg16 harg16 h2 f4 f5 f6 s.1 s.2.1 s.2.2
  · simp only [attended, if_neg h2]
    unfold attend
    rw [dif_neg h2]
    iintro H
    rw [wp_pure]
    iexact H

/-- The result's buffer after the point, when it was `x` before. -/
def left (a : Vec F S16x512x128 .f32) (x : Vec F S8x512x128 .bf16) : Vec F S8x512x128 .bf16 :=
  if k0_cond3 i = 1#1 then stack (quots a) else x

set_option backward.proofsInPublic true in
theorem finish_any (f4 : Bf (F := F) c arg4) (f5 : Bf (F := F) c arg5) (f6 : Bf (F := F) c arg6) (f7 : Bf (F := F) c arg7) (s : Carry F) :
   iprop(pt c arg7 f7 ∗ state c arg4 arg5 arg6 arg8 arg9 arg10 arg11 arg12 arg13 arg14 arg15 arg16 f4 f5 f6 s.1 s.2.1 s.2.2)
    ⊢ wp frame (wpE (defs₀ (F := F)) 𝒱₀ (c : Thread nD τ) none) Set.univ (finish (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => iprop((∃ g7, pt c arg7 g7 ∗ ⌜arg7.view.read (Elt F) g7 = left i s.2.2 (arg7.view.read (Elt F) f7)⌝) ∗ state c arg4 arg5 arg6 arg8 arg9 arg10 arg11 arg12 arg13 arg14 arg15 arg16 f4 f5 f6 s.1 s.2.1 s.2.2)) := by
  by_cases h3 : k0_cond3 i = 1#1
  · simp only [left, if_pos h3]
    unfold state
    iintro ⟨H7, H4, H5, H6, H8, ⟨%f9, H9, %h9⟩, HR⟩
    iapply wp_wand_r frame (wpE (defs₀ (F := F)) 𝒱₀ (c : Thread nD τ) none) Set.univ
    isplitl [H7 H9]
    · iapply (finish_run c i arg3 harg3 arg4 harg4 arg5 harg5 arg6 harg6 arg7 harg7 arg8 harg8 arg9 harg9 arg10 harg10 arg11 harg11 arg12 harg12 arg13 harg13 arg14 harg14 arg15 harg15 arg16 harg16 h3 f9 f7)
      isplitl [H9]; · iexact H9
      iexact H7
    iintro %_ ⟨H9, ⟨%g7, H7, %h7⟩⟩
    isplitl [H7]
    · iexists g7
      isplitl [H7]; · iexact H7
      ipureintro
      rw [h7, h9]
    isplitl [H4]; · iexact H4
    isplitl [H5]; · iexact H5
    isplitl [H6]; · iexact H6
    isplitl [H8]; · iexact H8
    isplitl [H9]
    · iexists f9
      isplitl [H9]; · iexact H9
      ipureintro
      exact h9
    iexact HR
  · simp only [left, if_neg h3]
    unfold finish
    rw [dif_neg h3]
    iintro ⟨H7, H⟩
    rw [wp_pure]
    isplitl [H7]
    · iexists f7
      isplitl [H7]; · iexact H7
      ipureintro
      rfl
    iexact H

set_option backward.proofsInPublic true in
/-- One grid point's body: the carried buffers take a step, and the result's buffer is written at the last key block. -/
theorem body_run (f3 : Bf (F := F) c arg3) (f4 : Bf (F := F) c arg4) (f5 : Bf (F := F) c arg5) (f6 : Bf (F := F) c arg6) (f7 : Bf (F := F) c arg7) (s : Carry F) :
   iprop(pt c arg3 f3 ∗ pt c arg7 f7 ∗ state c arg4 arg5 arg6 arg8 arg9 arg10 arg11 arg12 arg13 arg14 arg15 arg16 f4 f5 f6 s.1 s.2.1 s.2.2)
    ⊢ wp frame (wpE (defs₀ (F := F)) 𝒱₀ (c : Thread nD τ) none) Set.univ (cc0_flash_dilated (F := F) i arg3 harg3 arg4 harg4 arg5 harg5 arg6 harg6 arg7 harg7 arg8 harg8 arg9 harg9 arg10 harg10 arg11 harg11 arg12 harg12 arg13 harg13 arg14 harg14 arg15 harg15 arg16 harg16)
      (fun _ => iprop(∃ s' : Carry F, ⌜s' = step i (arg3.view.read (Elt F) f3) (arg4.view.read (Elt F) f4) (arg5.view.read (Elt F) f5) (arg6.view.read (Elt F) f6) s⌝ ∗ pt c arg3 f3 ∗ (∃ g7, pt c arg7 g7 ∗ ⌜arg7.view.read (Elt F) g7 = left i s'.2.2 (arg7.view.read (Elt F) f7)⌝)
        ∗ state c arg4 arg5 arg6 arg8 arg9 arg10 arg11 arg12 arg13 arg14 arg15 arg16 f4 f5 f6 s'.1 s'.2.1 s'.2.2)) := by
  rw [body_eq, wp_bind]
  iintro ⟨H3, H7, H⟩
  iapply wp_wand_r frame (wpE (defs₀ (F := F)) 𝒱₀ (c : Thread nD τ) none) Set.univ
  isplitl [H3 H]
  · iapply (start_any c i arg3 harg3 arg4 harg4 arg5 harg5 arg6 harg6 arg7 harg7 arg8 harg8 arg9 harg9 arg10 harg10 arg11 harg11 arg12 harg12 arg13 harg13 arg14 harg14 arg15 harg15 arg16 harg16 f3 f4 f5 f6 s)
    isplitl [H3]; · iexact H3
    iexact H
  iintro %_ ⟨H3, H⟩
  rw [wp_bind]
  iapply wp_wand_r frame (wpE (defs₀ (F := F)) 𝒱₀ (c : Thread nD τ) none) Set.univ
  isplitl [H]
  · iapply (attend_any c i arg3 harg3 arg4 harg4 arg5 harg5 arg6 harg6 arg7 harg7 arg8 harg8 arg9 harg9 arg10 harg10 arg11 harg11 arg12 harg12 arg13 harg13 arg14 harg14 arg15 harg15 arg16 harg16 f4 f5 f6 (begun i (arg3.view.read (Elt F) f3) s))
    iexact H
  iintro %_ H
  iapply wp_wand_r frame (wpE (defs₀ (F := F)) 𝒱₀ (c : Thread nD τ) none) Set.univ
  isplitl [H H7]
  · iapply (finish_any c i arg3 harg3 arg4 harg4 arg5 harg5 arg6 harg6 arg7 harg7 arg8 harg8 arg9 harg9 arg10 harg10 arg11 harg11 arg12 harg12 arg13 harg13 arg14 harg14 arg15 harg15 arg16 harg16 f4 f5 f6 f7 (attended i (arg4.view.read (Elt F) f4) (arg5.view.read (Elt F) f5) (arg6.view.read (Elt F) f6) (begun i (arg3.view.read (Elt F) f3) s)))
    isplitl [H7]; · iexact H7
    iexact H
  iintro %_ ⟨H7, H⟩
  iexists (step i (arg3.view.read (Elt F) f3) (arg4.view.read (Elt F) f4) (arg5.view.read (Elt F) f5) (arg6.view.read (Elt F) f6) s)
  isplitr
  · ipureintro; rfl
  isplitl [H3]; · iexact H3
  isplitl [H7]; · iexact H7
  iexact H

end Cert.Proof.KernelIdeal

end
-- ==== Proof.KI.Run.lean ====
/-
  The pipeline's proof data: what the scratch buffers carry from point to point, and what each point leaves.
-/
module

public import proofs.«01_k».proof.Proof.KI.Body
public import proofs.«01_k».proof.Proof.Gen.KernelIdeal.Frame

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

local notation "𝕄" => MT nD τ sig Unit (Elt F) ℕ (UU nD τ) ℕ

theorem owns_whole_memref (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := h
  subst hsp hsh he
  cases h
  unfold owns
  simp only [Memref.view_whole, View.set_whole]

variable (m : (ℓ : Loc nD τ sig) → Buf (Elt F) ℓ) (ρ : Dev nD → PrngReg) (c : Dev nD)

/-- The blocks of a grid point: queries, keys, values, bias. -/
def qBlk (t : Fin cfg0.N) : Vec F S8x512x128 .bf16 := iblk m c 0 t
def kBlk (t : Fin cfg0.N) : Vec F S8x512x128 .bf16 := iblk m c 1 t
def vBlk (t : Fin cfg0.N) : Vec F S8x512x128 .bf16 := iblk m c 2 t
def bBlk (t : Fin cfg0.N) : Vec F S1x512x512 .f32 := iblk m c 3 t

/-- A point's step. -/
def stepAt (t : Fin cfg0.N) (s : Carry F) : Carry F := step (grid0.coords t) (qBlk m c t) (kBlk m c t) (vBlk m c t) (bBlk m c t) s

/-- What is carried into point `n`; into the first point, anything. -/
def carry : ℕ → Carry F
  | 0 => (stack (padded (qBlk m c ⟨0, by decide⟩)), k0_pay9, k0_pay10)
  | n + 1 => if h : n < cfg0.N then stepAt m c ⟨n, h⟩ (carry n) else carry n

theorem carry_succ (t : Fin cfg0.N) : carry m c (t.val + 1) = stepAt m c t (carry m c t.val) := by
  rw [carry, dif_pos t.isLt]

/-- The first of five points sets its buffers up whatever they held. -/
theorem first_point : ∀ t : Fin cfg0.N, cond1 (grid0.coords t) = 1#1 ↔ t.val % 5 = 0 :=
  (by decide +kernel : ∀ t : Fin grid0.N, cond1 (grid0.coords t) = 1#1 ↔ t.val % 5 = 0)

theorem last_point : ∀ t : Fin cfg0.N, k0_cond3 (grid0.coords t) = 1#1 ↔ t.val % 5 = 4 :=
  (by decide +kernel : ∀ t : Fin grid0.N, k0_cond3 (grid0.coords t) = 1#1 ↔ t.val % 5 = 4)

theorem stepAt_first (t : Fin cfg0.N) (h : t.val % 5 = 0) (s s' : Carry F) : stepAt m c t s = stepAt m c t s' := by
  unfold stepAt step begun
  rw [if_pos ((first_point t).mpr h), if_pos ((first_point t).mpr h)]

/-- The scratch buffers, the carried three at `s`. -/
def scratch (s : Carry F) : sProp 𝕄 :=
  iprop((∃ f8, pt c (Memref.whole cc0_scratch0) f8 ∗ ⌜(Memref.whole cc0_scratch0).view.read (Elt F) f8 = s.2.1⌝)
    ∗ (∃ f9, pt c (Memref.whole cc0_scratch1) f9 ∗ ⌜(Memref.whole cc0_scratch1).view.read (Elt F) f9 = s.2.2⌝)
    ∗ (∃ f10, pt c (Memref.whole cc0_scratch2) f10 ∗ ⌜(Memref.whole cc0_scratch2).view.read (Elt F) f10 = s.1⌝)
    ∗ (∃ f11, pt c (Memref.whole cc0_scratch3) f11) ∗ (∃ f12, pt c (Memref.whole cc0_scratch4) f12) ∗ (∃ f13, pt c (Memref.whole cc0_scratch5) f13)
    ∗ (∃ f14, pt c (Memref.whole cc0_scratch6) f14) ∗ (∃ f15, pt c (Memref.whole cc0_scratch7) f15) ∗ (∃ f16, pt c (Memref.whole cc0_scratch8) f16))

/-- The invariant before point `n`. -/
def inv (n : ℕ) : sProp 𝕄 :=
  iprop((∃ s : Carry F, ⌜n ≠ 0 → s = carry m c n⌝ ∗ scratch c s) ∗ ∃ r, prngReg c r)

/-- The result's block a point leaves: the quotients, read at the last of five. -/
def outBlk (t : Fin cfg0.N) : Vec F S8x512x128 .bf16 := stack (quots (carry m c (t.val + 1)).2.2)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after_in0 (t : Fin cfg0.N) : (dats m 0 c).after 0 t = iblk m c 0 t := by dsimp only [dats]
theorem after_in1 (t : Fin cfg0.N) : (dats m 0 c).after 1 t = iblk m c 1 t := by dsimp only [dats]
theorem after_in2 (t : Fin cfg0.N) : (dats m 0 c).after 2 t = iblk m c 2 t := by dsimp only [dats]
theorem after_in3 (t : Fin cfg0.N) : (dats m 0 c).after 3 t = iblk m c 3 t := by dsimp only [dats]
theorem after_out (t : Fin cfg0.N) : (dats m 0 c).after 4 t = outBlk m c t := by dsimp only [dats]

theorem idle_out (t : Fin cfg0.N) : cfg0.idle 4 (cfg0.grid.coords t) = !(k0_cond3 (grid0.coords t) == 1#1) := rfl

/-- One point, its staging memrefs symbolic. -/
theorem point_run (t : Fin cfg0.N) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S1x512x512 .f32) (harg6 : arg6.IsWhole) (arg7 : Memref sig .tc .vmem S8x512x128 .bf16) (harg7 : arg7.IsWhole)
    (x : Vec F S8x512x128 .bf16) :
    iprop(inv m c t.val ∗ owns (c : Thread nD τ) arg3 fullShare (qBlk m c t) ∗ owns (c : Thread nD τ) arg4 fullShare (kBlk m c t)
        ∗ owns (c : Thread nD τ) arg5 fullShare (vBlk m c t) ∗ owns (c : Thread nD τ) arg6 fullShare (bBlk m c t) ∗ owns (c : Thread nD τ) arg7 fullShare x)
    ⊢ wp frame (wpE (defs₀ (F := F)) 𝒱₀ (c : Thread nD τ) none) Set.univ
      (cc0_flash_dilated (F := F) (grid0.coords t) arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _))
      (fun _ => iprop(inv m c (t.val + 1) ∗ owns (c : Thread nD τ) arg3 fullShare (qBlk m c t) ∗ owns (c : Thread nD τ) arg4 fullShare (kBlk m c t)
        ∗ owns (c : Thread nD τ) arg5 fullShare (vBlk m c t) ∗ owns (c : Thread nD τ) arg6 fullShare (bBlk m c t)
        ∗ owns (c : Thread nD τ) arg7 fullShare (left (grid0.coords t) (carry m c (t.val + 1)).2.2 x))) := by
  rw [owns_whole_memref c harg3, owns_whole_memref c harg4, owns_whole_memref c harg5, owns_whole_memref c harg6, owns_whole_memref c harg7, owns_whole_memref c harg7]
  unfold inv scratch
  iintro ⟨⟨⟨%s, %hs, H8, H9, H10, HR⟩, HP⟩, ⟨%f3, %h3, H3⟩, ⟨%f4, %h4, H4⟩, ⟨%f5, %h5, H5⟩, ⟨%f6, %h6, H6⟩, ⟨%f7, %h7, H7⟩⟩
  iapply wp_wand_r frame (wpE (defs₀ (F := F)) 𝒱₀ (c : Thread nD τ) none) Set.univ
  isplitl [H3 H4 H5 H6 H7 H8 H9 H10 HR]
  · iapply (body_run c (grid0.coords t) arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f3 f4 f5 f6 f7 s)
    isplitl [H3]; · iexact H3
    isplitl [H7]; · iexact H7
    unfold state
    isplitl [H4]; · iexact H4
    isplitl [H5]; · iexact H5
    isplitl [H6]; · iexact H6
    isplitl [H8]; · iexact H8
    isplitl [H9]; · iexact H9
    isplitl [H10]; · iexact H10
    iexact HR
  unfold state
  iintro %_ ⟨%s', %hs', H3, ⟨%g7, H7, %h7'⟩, H4, H5, H6, H8, H9, H10, HR⟩
  have e : s' = carry m c (t.val + 1) := by
    rw [carry_succ, hs', h3, h4, h5, h6]
    show stepAt m c t s = _
    by_cases h0 : t.val = 0
    · exact stepAt_first m c t (by rw [h0]) _ _
    · rw [hs h0]
  rw [h7, e] at h7'
  isplitl [H8 H9 H10 HR HP]
  · isplitl [H8 H9 H10 HR]
    · iexists s'
      isplitr; · ipureintro; exact fun _ => e
      isplitl [H8]; · iexact H8
      isplitl [H9]; · iexact H9
      isplitl [H10]; · iexact H10
      iexact HR
    iexact HP
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  iexists g7; isplitr; (· ipureintro; exact h7'); iexact H7

theorem body_obligation : BodyObligation (dats m 0 c) (defs₀ (F := F)) 𝒱₀ () Set.univ := fun t => by
  rw [bigSep_W0, bigSep_W0]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  iintro ⟨HΦ, ⟨%W, %hW, HO⟩, ⟨%d0, H0⟩, ⟨%d1, H1⟩, ⟨%d2, H2⟩, ⟨%d3, H3⟩, ⟨%d4, H4⟩⟩
  rw [before0_0_of m (dats m 0 c) (A_eq m c 0) (after_in0 m c) t d0, before0_1_of m (dats m 0 c) (A_eq m c 1) (after_in1 m c) t d1,
    before0_2_of m (dats m 0 c) (A_eq m c 2) (after_in2 m c) t d2, before0_3_of m (dats m 0 c) (A_eq m c 3) (after_in3 m c) t d3]
  iapply wp_wand_r frame (wpE (defs₀ (F := F)) 𝒱₀ (c : Thread nD τ) none) Set.univ
  isplitl [HΦ H0 H1 H2 H3 H4]
  · iapply (point_run m c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) ((dats m 0 c).before 4 t d4))
    isplitl [HΦ]; · iexact HΦ
    isplitl [H0]; · iexact H0
    isplitl [H1]; · iexact H1
    isplitl [H2]; · iexact H2
    isplitl [H3]; · iexact H3
    iexact H4
  iintro %_ ⟨HΦ, H0, H1, H2, H3, H4⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  isplitl [H3]; · iexact H3
  rw [idle_out, after_out]
  by_cases h3 : k0_cond3 (grid0.coords t) = 1#1
  · rw [show (!(k0_cond3 (grid0.coords t) == 1#1)) = false from by rw [h3]; rfl]
    unfold left
    rw [if_pos h3]
    iexact H4
  · rw [show (!(k0_cond3 (grid0.coords t) == 1#1)) = true from by rw [beq_eq_false_iff_ne.mpr h3]; rfl,
      show (cfg0.win 4).flush t = false from Bool.eq_false_iff.mpr fun hf => h3 ((last_point t).mpr ((flush0_4 t).mp hf))]
    unfold left
    rw [if_neg h3]
    iexists d4
    iexact H4

end Cert.Proof.KernelIdeal

end
-- ==== Proof.KI.Launch.lean ====
/-
  The launch: the run of the whole program, its frame and the arrays it ends with.
-/
module

public import proofs.«01_k».proof.Proof.KI.Run
public import proofs.«01_k».proof.Proof.Gen.KernelIdeal.Frame

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

theorem enter (c : Dev nD) : Pipeline.ΦA spec0 c ⊢ (inv m c 0 : sProp 𝕄) := by
  unfold Pipeline.ΦA inv scratch
  rw [scopedRest0_eq]
  iintro ⟨⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, HP⟩
  isplitl [H8 H9 H10 H11 H12 H13 H14 H15 H16]
  · iexists ((Memref.whole cc0_scratch2).view.read (Elt F) f10, (Memref.whole cc0_scratch0).view.read (Elt F) f8, (Memref.whole cc0_scratch1).view.read (Elt F) f9)
    isplitr; · ipureintro; exact fun h => absurd rfl h
    isplitl [H8]; · iexists f8; isplitl [H8]; (· iexact H8); ipureintro; rfl
    isplitl [H9]; · iexists f9; isplitl [H9]; (· iexact H9); ipureintro; rfl
    isplitl [H10]; · iexists f10; isplitl [H10]; (· iexact H10); ipureintro; rfl
    isplitl [H11]; · iexists f11; iexact H11
    isplitl [H12]; · iexists f12; iexact H12
    isplitl [H13]; · iexists f13; iexact H13
    isplitl [H14]; · iexists f14; iexact H14
    isplitl [H15]; · iexists f15; iexact H15
    iexists f16; iexact H16
  iexact HP

theorem leave (c : Dev nD) (n : ℕ) : (inv m c n : sProp 𝕄) ⊢ Pipeline.ΦA spec0 c := by
  unfold Pipeline.ΦA inv scratch
  rw [scopedRest0_eq]
  iintro ⟨⟨%s, %hs, ⟨%f8, H8, %h8⟩, ⟨%f9, H9, %h9⟩, ⟨%f10, H10, %h10⟩, HR⟩, HP⟩
  isplitl [H8 H9 H10 HR]
  · isplitl [H8]; · iexists f8; iexact H8
    isplitl [H9]; · iexists f9; iexact H9
    isplitl [H10]; · iexists f10; iexact H10
    iexact HR
  iexact HP

/-- The kernel's run: it ends with every array at what the pipeline's proof data says. -/
theorem run_main : θ_run (defs (F := F)) (onTc (τ := τ) (main (F := F))) ⟨m, fun _ => 0, ρ⟩
    (fun r => Pipeline.FramePost cfgs (dats m) 0 (V m) r ∧ r.2.sem = (fun _ => 0)) :=
  Pipeline.θ_run_frame_track_shared cfgs (dats m) 0 launch₀0 defs₀ 𝒱₀ m ρ main
    (fun c => (body_obligation m c).loose) (fun _ _ _ => rfl) (fun _ _ => rfl) (V m) (hmain m 𝒱₀) (A_eq m)
    (fun c => enter m c) (fun c => leave m c _) _ (fun _ h => h)

/-- The frame: the argument as it was, every counter at zero. -/
theorem quiescent : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = (fun _ => 0)) :=
  (θ_run defs _ _).mono (fun _ h => ⟨fun c => ((h.1 c).1 2).trans (((dats m 0 c).arrAt_in 2 rfl _).trans ((A_eq m c 2).trans (V_main_arg0 m c))), h.2⟩) (run_main m ρ)

end Cert.Proof.KernelIdeal

end
-- ==== Proof.K.Frame.lean ====
/-
  The frame of the kernel as it stands: its program is the idealized one, word for word.
-/
module

public import proofs.«01_k».proof.Proof.KI.Launch
public import proofs.«01_k».proof.Proof.Gen.Kernel

@[expose] public section

set_option maxRecDepth 65536
set_option maxHeartbeats 2000000

noncomputable section

namespace Cert.Proof.Kernel

open Idealize.ShloMosaic Idealize.ShloMosaic.TcCoe
open Idealize.SL Idealize.SL.Sem
open Cert.Kernel Cert.Kernel.Gen

variable {F : FTy → Type} [FloatOps F]

theorem body_same : (cc0_flash_dilated (F := F)) = Cert.KernelIdeal.cc0_flash_dilated (F := F) := rfl

theorem defs₀_same : (defs₀ (F := F)) = Cert.KernelIdeal.defs₀ (F := F) := by
  unfold defs₀ Cert.KernelIdeal.defs₀
  congr 1
  funext l a
  match l, a with
  | 0, (t, s) => rfl

theorem defs_same : (defs (F := F)) = Cert.KernelIdeal.defs (F := F) := by
  unfold defs Cert.KernelIdeal.defs
  rw [defs₀_same]
  rfl

theorem main_same : (main (F := F)) = Cert.KernelIdeal.main (F := F) := rfl

variable (m : (ℓ : Loc nD τ sig) → Buf (Elt F) ℓ) (ρ : Dev nD → PrngReg)

/-- The frame: the argument as it was, every counter at zero. -/
theorem quiescent : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = (fun _ => 0)) := by
  rw [main_same, defs_same]
  exact Cert.Proof.KernelIdeal.quiescent (F := F) m ρ

end Cert.Proof.Kernel

end
-- ==== Proof.Softmax.lean ====
/-
  The arithmetic of a softmax over weighted keys, on the reals. Key `c` has the score `X c` (in base 2), the weight
  `n c` and the value `w c`; the result is the quotient of `∑ n 2^X w` by `∑ n 2^X`. Here: one step of the running form
  (a real reference point `μ` in place of the maximum suffices), and the form that normalises three branches apart and
  joins them by their logarithms.
-/
module

public import Idealize.ShloMosaic.PureOps.Ideal

@[expose] public section

noncomputable section

namespace Cert.Proof

open Idealize.ShloMosaic

theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_of_ne {x : EReal} (h : x ≠ ⊥) (h' : x ≠ ⊤) : ∃ r : ℝ, x = r := ⟨x.toReal, (EReal.coe_toReal h' h).symm⟩

/-- A maximum over entries of which none is `⊤` and one is real is real. -/
theorem fold_max_real {ι : Type*} (s : Finset ι) (f : ι → EReal) (hf : ∀ i ∈ s, f i ≠ ⊤) (i : ι) (hi : i ∈ s) (hb : f i ≠ ⊥) :
    ∃ r : ℝ, s.fold max ⊥ f = r := by
  refine real_of_ne (fun h => hb ?_) (fun h => ?_)
  · have : f i ≤ s.fold max ⊥ f := Finset.le_fold_max _ |>.mpr (.inr ⟨i, hi, le_rfl⟩)
    rw [h] at this
    exact le_bot_iff.mp this
  · have : s.fold max ⊥ f < ⊤ := (Finset.fold_max_lt _).mpr ⟨bot_lt_top, fun j hj => lt_top_iff_ne_top.mpr (hf j hj)⟩
    exact this.ne h

/-- A weight `n` given as an addend of a base-2 exponent: its logarithm, or `⊥` for 0. -/
def IsBias (e : EReal) (n : ℝ) : Prop := (e = ⊥ ∧ n = 0) ∨ ∃ β : ℝ, e = β ∧ Real.rpow 2 β = n

theorem two_add (a b : ℝ) : Real.rpow 2 (a + b) = Real.rpow 2 a * Real.rpow 2 b := Real.rpow_add two_pos a b

/-- The step of the running maximum: whatever the scores, a real one. -/
theorem max_step {ι : Type*} [Fintype ι] (x b : ι → EReal) (X n : ι → ℝ) (hx : ∀ c, x c = X c) (hb : ∀ c, IsBias (b c) (n c)) (m : ℝ) :
    ∃ μ : ℝ, max (m : EReal) (Finset.univ.fold max ⊥ fun c => x c + b c) = μ := by
  refine real_of_ne (fun h => ?_) (fun h => ?_)
  · have := le_max_left (m : EReal) (Finset.univ.fold max ⊥ fun c => x c + b c)
    rw [h] at this
    exact EReal.coe_ne_bot m (le_bot_iff.mp this)
  · have : max (m : EReal) (Finset.univ.fold max ⊥ fun c => x c + b c) < ⊤ := by
      refine max_lt (EReal.coe_lt_top m) ((Finset.fold_max_lt _).mpr ⟨bot_lt_top, fun c _ => ?_⟩)
      rw [hx]
      rcases hb c with ⟨h0, -⟩ | ⟨β, h0, -⟩
      · rw [h0, EReal.add_bot]; exact bot_lt_top
      · rw [h0, ← EReal.coe_add]; exact EReal.coe_lt_top _
    exact this.ne h

/-- A key's weight against the reference point `μ`. -/
theorem weight_step (x b : EReal) (X n : ℝ) (hx : x = X) (hb : IsBias b n) (μ : ℝ) :
    Ideal.exp2 (x + b - μ) = ((n * Real.rpow 2 X * Real.rpow 2 (-μ) : ℝ) : EReal) := by
  subst hx
  rcases hb with ⟨h0, h1⟩ | ⟨β, h0, h1⟩
  · rw [h0, EReal.add_bot, EReal.bot_sub, Ideal.exp2_bot, h1]; simp
  · rw [h0, ← EReal.coe_add, ← EReal.coe_sub, Ideal.exp2_coe, sub_eq_add_neg, two_add, two_add, h1]
    congr 1; ring

/-- The step of the running sums. -/
theorem sum_step {ι : Type*} [Fintype ι] (p v : ι → EReal) (X n w : ι → ℝ) (m μ S : ℝ) (a al : EReal) (hal : al = Ideal.exp2 ((m : EReal) - μ))
    (ha : a = ((Real.rpow 2 (-m) * S : ℝ) : EReal))
    (hp : ∀ c, p c = ((n c * Real.rpow 2 (X c) * Real.rpow 2 (-μ) : ℝ) : EReal)) (hv : ∀ c, v c = w c) :
    al * a + ∑ c, p c * v c = ((Real.rpow 2 (-μ) * (S + ∑ c, n c * Real.rpow 2 (X c) * w c) : ℝ) : EReal) := by
  rw [hal, ha, ← EReal.coe_sub, Ideal.exp2_coe, ← EReal.coe_mul]
  simp only [hp, hv, ← EReal.coe_mul]
  rw [← coe_sum_real, ← EReal.coe_add]
  congr 1
  rw [mul_add, Finset.mul_sum, ← mul_assoc, sub_eq_add_neg, two_add]
  have h1 : Real.rpow 2 m * Real.rpow 2 (-m) = 1 := by rw [← two_add, add_neg_cancel]; exact Real.rpow_zero 2
  congr 1
  · calc _ = (Real.rpow 2 m * Real.rpow 2 (-m)) * Real.rpow 2 (-μ) * S := by ring
      _ = _ := by rw [h1, one_mul]
  · exact Finset.sum_congr rfl fun c _ => by ring

theorem coe_div (a b : ℝ) (hb : b ≠ 0) : Ideal.div (a : EReal) (b : EReal) = ((a / b : ℝ) : EReal) := by
  rw [Ideal.div_coe hb, ← EReal.coe_mul, mul_one_div]

/-- The quotient of two running sums forgets the reference point. -/
theorem quot_final (m A L : ℝ) (hL : 0 < L) : Ideal.div ((Real.rpow 2 (-m) * A : ℝ) : EReal) ((Real.rpow 2 (-m) * L : ℝ) : EReal) = ((A / L : ℝ) : EReal) := by
  have h : (0 : ℝ) < Real.rpow 2 (-m) := Real.rpow_pos_of_pos two_pos _
  rw [coe_div _ _ (mul_pos h hL).ne', mul_div_mul_left _ _ h.ne']

/-! ## Branches normalised apart -/

/-- A branch's weights `q c` (0 for a key outside it), its scores lowered by `μ`. -/
theorem branch_weight (s : EReal) (S q : ℝ) (h : (s = ⊥ ∧ q = 0) ∨ (s = S ∧ q = 1)) (μ : ℝ) :
    Ideal.exp (s - μ) = ((q * Real.exp S * Real.exp (-μ) : ℝ) : EReal) := by
  rcases h with ⟨h, hq⟩ | ⟨h, hq⟩
  · rw [h, hq, EReal.bot_sub, Ideal.exp_bot]; simp
  · rw [h, hq, ← EReal.coe_sub, Ideal.exp_coe, sub_eq_add_neg, Real.exp_add, one_mul]

/-- A branch's logarithm of its sum of weights. -/
theorem branch_log (L μ : ℝ) (hL : 0 < L) : (μ : EReal) + Ideal.log ((L * Real.exp (-μ) : ℝ) : EReal) = ((Real.log L : ℝ) : EReal) := by
  have h : 0 < L * Real.exp (-μ) := mul_pos hL (Real.exp_pos _)
  rw [Ideal.log_coe, if_neg (not_le.mpr h), ← EReal.coe_add, Real.log_mul hL.ne' (Real.exp_pos _).ne', Real.log_exp]
  congr 1; ring

/-- A branch's sum of weights, and its sum of weighted values. -/
theorem branch_sum {ι : Type*} [Fintype ι] (p : ι → EReal) (q : ι → ℝ) (E : ℝ) (hp : ∀ k, p k = ((q k * E : ℝ) : EReal)) :
    ∑ k, p k = (((∑ k, q k) * E : ℝ) : EReal) := by
  rw [Finset.sum_mul, coe_sum_real]
  exact Finset.sum_congr rfl fun k _ => hp k

theorem branch_values {ι : Type*} [Fintype ι] (p v : ι → EReal) (q w : ι → ℝ) (E : ℝ) (hp : ∀ k, p k = ((q k * E : ℝ) : EReal)) (hv : ∀ k, v k = w k) :
    ∑ k, p k * v k = (((∑ k, q k * w k) * E : ℝ) : EReal) :=
  branch_sum (fun k => p k * v k) (fun k => q k * w k) E fun k => by
    rw [hp, hv, ← EReal.coe_mul, mul_right_comm]

/-- A branch's own result. -/
theorem branch_quot (A L μ : ℝ) (hL : 0 < L) : Ideal.div ((A * Real.exp (-μ) : ℝ) : EReal) ((L * Real.exp (-μ) : ℝ) : EReal) = ((A / L : ℝ) : EReal) := by
  rw [coe_div _ _ (mul_pos hL (Real.exp_pos _)).ne', mul_div_mul_right _ _ (Real.exp_pos _).ne']

/-- A branch's share against the reference point `ν`. -/
theorem branch_share (L ν : ℝ) (hL : 0 < L) : Ideal.exp (((Real.log L : ℝ) : EReal) - ν) = ((L * Real.exp (-ν) : ℝ) : EReal) := by
  rw [← EReal.coe_sub, Ideal.exp_coe, sub_eq_add_neg, Real.exp_add, Real.exp_log hL]

/-- Three branches joined by their shares: the quotient of the joint sums. -/
theorem branches_join (A1 A2 A3 L1 L2 L3 ν : ℝ) (h1 : 0 < L1) (h2 : 0 < L2) (h3 : 0 < L3) :
    Ideal.div (((L1 * Real.exp (-ν) : ℝ) : EReal) * ((A1 / L1 : ℝ) : EReal) + ((L2 * Real.exp (-ν) : ℝ) : EReal) * ((A2 / L2 : ℝ) : EReal)
        + ((L3 * Real.exp (-ν) : ℝ) : EReal) * ((A3 / L3 : ℝ) : EReal))
      (((L1 * Real.exp (-ν) : ℝ) : EReal) + ((L2 * Real.exp (-ν) : ℝ) : EReal) + ((L3 * Real.exp (-ν) : ℝ) : EReal))
      = (((A1 + A2 + A3) / (L1 + L2 + L3) : ℝ) : EReal) := by
  have he : 0 < Real.exp (-ν) := Real.exp_pos _
  simp only [← EReal.coe_mul, ← EReal.coe_add]
  rw [coe_div _ _ (by positivity)]
  congr 1
  field_simp

end Cert.Proof
end
-- ==== Proof.Hits.lean ====
/-
  Which keys a query attends, and how often. From the distance `d` of query and key, a 32-bit word: `hit d W D` says that
  the key is at most `W` back and a multiple of `D` away, `cnt d` counts the branches (three windows with their dilations)
  that hit, and `biasOf d` is that count's base-2 logarithm.
-/
module

public import proofs.«01_k».proof.Proof.Softmax
public import Idealize.ShloMosaic.Lib.Pointwise

@[expose] public section

noncomputable section

namespace Cert.Proof

open Idealize.ShloMosaic

def hit (d W D : BitVec 32) : BitVec 1 :=
  IntOp.andi (IntOp.andi (IntOp.cmpi .sge d 0#32) (IntOp.cmpi .sle d W)) (IntOp.cmpi .eq (IntOp.remsi ArithUnit.host d D) 0#32)

/-- A bit as a number. -/
def bitReal (p : BitVec 1) : ℝ := (p.toNat : ℝ)

def cnt (d : BitVec 32) : ℝ := bitReal (hit d 128#32 1#32) + bitReal (hit d 512#32 4#32) + bitReal (hit d 2048#32 16#32)

/-- The count of three bits, as a word. -/
def cntWord (p q s : BitVec 1) : BitVec 32 :=
  IntOp.addi (IntOp.addi (IntOp.addi 0#32 (BitVec.setWidth 32 p)) (BitVec.setWidth 32 q)) (BitVec.setWidth 32 s)

/-- The base-2 logarithm of a count word, `-∞` for 0. -/
def logWord (w : BitVec 32) : EReal :=
  Scalar.select (IntOp.cmpi .sgt w 0#32)
    (Ideal.div (Ideal.log (FloatOps.sitofp (F := Ideal) FTy.f32 (IntOp.maxsi w 1#32))) (Ideal.log (Ideal.ofBits FTy.f32 0x40000000#32)))
    (Ideal.ofBits FTy.f32 0xFF800000#32)

def biasOf (d : BitVec 32) : EReal := logWord (cntWord (hit d 128#32 1#32) (hit d 512#32 4#32) (hit d 2048#32 16#32))

theorem bits_two : Ideal.ofBits FTy.f32 0x40000000#32 = ((2 : ℝ) : EReal) := by
  simp [Ideal.ofBits, Ideal.ieee, -EReal.coe_mul]; norm_num

theorem bits_bot : Ideal.ofBits FTy.f32 0xFF800000#32 = ⊥ := by
  simp [Ideal.ofBits, Ideal.ieee]

theorem isBias_zero : IsBias (logWord 0#32) 0 := by
  refine .inl ⟨?_, rfl⟩
  unfold logWord
  rw [show IntOp.cmpi .sgt 0#32 0#32 = 0#1 from by decide]
  exact bits_bot

theorem isBias_pos (k : ℕ) (hk : 0 < k) (hk' : k < 4) : IsBias (logWord (BitVec.ofNat 32 k)) k := by
  refine .inr ⟨Real.log k / Real.log 2, ?_, ?_⟩
  · unfold logWord
    have h1 : IntOp.cmpi .sgt (BitVec.ofNat 32 k) 0#32 = 1#1 := by interval_cases k <;> decide
    have h2 : IntOp.maxsi (BitVec.ofNat 32 k) 1#32 = BitVec.ofNat 32 k := by interval_cases k <;> decide
    have h3 : (FloatOps.sitofp (F := Ideal) FTy.f32 (BitVec.ofNat 32 k) : EReal) = ((k : ℝ) : EReal) := by
      show (((BitVec.ofNat 32 k).toInt : ℝ) : EReal) = _
      rw [show (BitVec.ofNat 32 k).toInt = (k : ℤ) from by interval_cases k <;> decide]
      simp
    have hk2 : (0 : ℝ) < k := by exact_mod_cast hk
    rw [h1, h2, h3, bits_two, Ideal.log_coe, Ideal.log_coe, if_neg (not_le.mpr hk2), if_neg (by norm_num), coe_div _ _ (Real.log_pos (by norm_num)).ne']
    rfl
  · have hk2 : (0 : ℝ) < k := by exact_mod_cast hk
    show (2 : ℝ) ^ (Real.log k / Real.log 2) = k
    rw [Real.rpow_def_of_pos two_pos, mul_div_cancel₀ _ (Real.log_pos (by norm_num)).ne', Real.exp_log hk2]

theorem isBias_word (p q s : BitVec 1) : IsBias (logWord (cntWord p q s)) (bitReal p + bitReal q + bitReal s) := by
  have h : ∀ p q s : BitVec 1, cntWord p q s = BitVec.ofNat 32 (p.toNat + q.toNat + s.toNat) := by decide
  have h' : bitReal p + bitReal q + bitReal s = ((p.toNat + q.toNat + s.toNat : ℕ) : ℝ) := by unfold bitReal; push_cast; rfl
  rw [h, h']
  by_cases h0 : p.toNat + q.toNat + s.toNat = 0
  · rw [h0]; simpa using isBias_zero
  · exact isBias_pos _ (by omega) (by have := p.isLt; have := q.isLt; have := s.isLt; omega)

theorem isBias_biasOf (d : BitVec 32) : IsBias (biasOf d) (cnt d) := isBias_word _ _ _

/-- Every branch holds the query's own key. -/
theorem hit_self (W D : BitVec 32) (hW : IntOp.cmpi .sle 0#32 W = 1#1) (hD : IntOp.remsi ArithUnit.host 0#32 D = 0#32) : hit 0#32 W D = 1#1 := by
  unfold hit; rw [hW, hD]; decide

/-- No branch holds a key behind the query's window, or ahead of the query. -/
theorem hit_far (d W D : BitVec 32) (hW : W.toInt ≤ 2048) (h : d.toInt < 0 ∨ 2048 < d.toInt) : hit d W D = 0#1 := by
  have key : IntOp.andi (IntOp.cmpi .sge d 0#32) (IntOp.cmpi .sle d W) = 0#1 := by
    rcases h with h | h
    · have : IntOp.cmpi .sge d 0#32 = 0#1 := by
        have h0 : BitVec.sle 0#32 d = false := by rw [BitVec.sle]; exact decide_eq_false (by rw [show (0#32).toInt = 0 from rfl]; omega)
        show BitVec.ofBool (BitVec.sle 0#32 d) = 0#1
        rw [h0]; rfl
      rw [this]; generalize IntOp.cmpi _ _ _ = z; revert z; decide
    · have : IntOp.cmpi .sle d W = 0#1 := by
        have h0 : BitVec.sle d W = false := by rw [BitVec.sle]; exact decide_eq_false (by omega)
        show BitVec.ofBool (BitVec.sle d W) = 0#1
        rw [h0]; rfl
      rw [this]; generalize IntOp.cmpi _ _ _ = z; revert z; decide
  unfold hit; rw [key]; generalize IntOp.cmpi _ _ _ = z; revert z; decide

theorem cnt_far (d : BitVec 32) (h : d.toInt < 0 ∨ 2048 < d.toInt) : cnt d = 0 := by
  unfold cnt
  rw [hit_far d _ _ (by decide) h, hit_far d _ _ (by decide) h, hit_far d _ _ (by decide) h]
  simp [bitReal]

theorem bitReal_nonneg (p : BitVec 1) : 0 ≤ bitReal p := Nat.cast_nonneg _

theorem cnt_nonneg (d : BitVec 32) : 0 ≤ cnt d := add_nonneg (add_nonneg (bitReal_nonneg _) (bitReal_nonneg _)) (bitReal_nonneg _)

end Cert.Proof
end
-- ==== Proof.KI.Values.lean ====
/-
  The point's vocabulary read at an index, over the extended reals: row `r` of head `u` against key `c`, and lane `l` of
  the running sums.
-/
module

public import proofs.«01_k».proof.Proof.KI.Vocab
public import proofs.«01_k».proof.Proof.Hits

@[expose] public section

set_option maxRecDepth 16384
set_option maxHeartbeats 2000000

noncomputable section

namespace Cert.Proof

open Idealize.ShloMosaic

theorem plane_at {α : Type} {n d : ℕ} (x : (Stack n d).Idx → α) (u : Fin n) (z : Fin 1) (r : Fin 512) (l : Fin d) :
    plane x u (ix3 z r l) = x (ix3 u r l) := by
  rw [plane_apply]
  congr 1

theorem stack_at {α : Type} {n d : ℕ} (f : Fin n → (Stack 1 d).Idx → α) (u : Fin n) (r : Fin 512) (l : Fin d) :
    stack f (ix3 u r l) = f u (ix3 0 r l) := by
  unfold stack
  show f u _ = f u _
  congr 1

namespace KernelIdeal

open Cert.KernelIdeal Cert.KernelIdeal.Gen

variable (v2 v4 : IVec S1x128 1) (K V : Vec Ideal S8x512x128 .bf16) (B : Vec Ideal S1x512x512 .f32) (Q : Vec Ideal S16x512x128 .bf16)
  (m0 : Vec Ideal S16x512x1 .f32) (a0 : Vec Ideal S16x512x128 .f32) (u : Fin 16) (r c : Fin 512) (l : Fin 128)

/-- Lane `l` is one of head `u`'s, within its chunk of two heads. -/
abbrev Own (u : Fin 16) (l : Fin 128) : Prop := l.val / 64 = u.val % 2

theorem scores_at : scores K Q u (ix2 r c) = ∑ l : Fin 128, (Q (ix3 u r l) : EReal) * K (ix3 (chunk u) c l) := by
  unfold scores
  pointwise [k0_pay50]
  exact Finset.sum_congr rfl fun l _ => by rw [plane_at, plane_at]

/-- The new maximum of row `r`. -/
def top : EReal := max (m0 (ix3 u r 0) : EReal) (Finset.univ.fold max ⊥ fun c : Fin 512 => (scores K Q u (ix2 r c) : EReal) + B (ix3 0 r c))

theorem maxima_at : maxima K B Q m0 u (ix3 0 r 0) = top K B Q m0 u r := by
  unfold maxima top
  pointwise [k0_pay36, k0_pay33, k0_pay32, k0_pay31]
  rw [plane_at, bits_bot]

theorem alpha_at : alpha K B Q m0 u (ix2 r 0) = Ideal.exp2 ((m0 (ix3 u r 0) : EReal) - top K B Q m0 u r) := by
  unfold alpha top
  pointwise [k0_pay35, k0_pay33, k0_pay32, k0_pay31]
  rw [plane_at, bits_bot]
  rfl

theorem probs_at : probs K B Q m0 u (ix2 r c) = Ideal.exp2 ((scores K Q u (ix2 r c) : EReal) + B (ix3 0 r c) - top K B Q m0 u r) := by
  unfold probs top
  pointwise [k0_pay34, k0_pay33, k0_pay32, k0_pay31]
  rw [plane_at, bits_bot]
  rfl

theorem sums_at : sums v2 v4 K V B Q m0 a0 u (ix3 0 r l) = (alpha K B Q m0 u (ix2 r 0) : EReal) * a0 (ix3 u r l)
    + ∑ c : Fin 512, (probs K B Q m0 u (ix2 r c) : EReal) * Scalar.select (lanes v2 v4 u (ix2 0 l)) (V (ix3 (chunk u) c l) : EReal) 1 := by
  unfold sums
  pointwise [k0_pay37, k0_pay38]
  rw [plane_at]
  congr 1
  exact Finset.sum_congr rfl fun c _ => by rw [plane_at]

theorem lanes_at : lanes k0_pay1 k0_pay2 u (ix2 0 l) = if Own u l then 1#1 else 0#1 := by
  have h : ∀ l : Fin 128, k0_pay1 (ix2 0 l) = (if l.val / 64 = 0 then 1#1 else 0#1) ∧ k0_pay2 (ix2 0 l) = (if l.val / 64 = 1 then 1#1 else 0#1) := by
    intro l
    have h' : ∀ l : Fin 128, IntOp.cmpi CmpIPredicate.slt (BitVec.ofNat 32 l.val) 64#32 = (if l.val / 64 = 0 then 1#1 else 0#1)
      ∧ IntOp.cmpi CmpIPredicate.sge (BitVec.ofNat 32 l.val) 64#32 = (if l.val / 64 = 1 then 1#1 else 0#1) := by decide +kernel
    constructor
    · pointwise [k0_pay1]
      exact (h' l).1
    · pointwise [k0_pay2]
      exact (h' l).2
  unfold lanes
  rcases Nat.mod_two_eq_zero_or_one u.val with hu | hu
  · rw [if_pos hu]; exact (h l).1.trans (if_congr (by unfold Own; omega) rfl rfl)
  · rw [if_neg (by omega)]; exact (h l).2.trans (if_congr (by unfold Own; omega) rfl rfl)

theorem padded_at (q : Vec Ideal S8x512x128 .bf16) : padded q u (ix3 0 r l) = if Own u l then (q (ix3 (chunk u) r l) : EReal) else 0 := by
  unfold padded
  pointwise [k0_pay11]
  rw [lanes_at, plane_at]
  by_cases h : Own u l
  · rw [if_pos h, if_pos h]; rfl
  · rw [if_neg h, if_neg h]; rfl

/-- The head of chunk `j` that lane `l` belongs to, and the lane of the chunk's other head beside it. -/
def headOf (j : Fin 8) (l : Fin 128) : Fin 16 := ⟨2 * j.val + l.val / 64, by omega⟩
def beside (l : Fin 128) : Fin 128 := ⟨(l.val + 64) % 128, by omega⟩

theorem quots_at (j : Fin 8) : quots a0 j (ix3 0 r l) = Ideal.div (a0 (ix3 (headOf j l) r l)) (a0 (ix3 (headOf j l) r (beside l))) := by
  have hl : ∀ l : Fin 128, k0_pay1 (ix2 0 l) = if l.val / 64 = 0 then 1#1 else 0#1 := fun l => lanes_at 0 l
  unfold quots
  pointwise [k0_pay70]
  simp only [plane_at]
  rw [hl, hl]
  have hb : (⟨(l.val + 128 - 64) % 128, by omega⟩ : Fin 128) = beside l := Fin.ext (by show (l.val + 128 - 64) % 128 = (l.val + 64) % 128; omega)
  rw [hb]
  have h2 : (beside l).val = (l.val + 64) % 128 := rfl
  by_cases h : l.val / 64 = 0
  · rw [if_pos h, if_neg (by rw [h2]; omega)]
    have : headOf j l = evenHead j := Fin.ext (by show 2 * j.val + l.val / 64 = 2 * j.val; omega)
    rw [this]; rfl
  · rw [if_neg h, if_pos (by rw [h2]; omega)]
    have : headOf j l = oddHead j := Fin.ext (by show 2 * j.val + l.val / 64 = 2 * j.val + 1; omega)
    rw [this]; rfl

end KernelIdeal
end Cert.Proof
end
-- ==== Proof.KI.Sums.lean ====
/-
  The running form of the softmax, kept by a point's step: after some blocks of keys, row `r` of head `u` has a real
  reference point `μ`, and its sums are those of the weighted values so far, scaled by `2^(-μ)`.
-/
module

public import proofs.«01_k».proof.Proof.KI.Values
public import proofs.«01_k».proof.Proof.KI.Body

@[expose] public section

set_option maxRecDepth 16384
set_option maxHeartbeats 2000000

noncomputable section

namespace Cert.Proof.KernelIdeal

open Cert.KernelIdeal Cert.KernelIdeal.Gen
open Idealize.ShloMosaic

/-- A block of reals: chunk, row, lane. -/
abbrev RBlk := Fin 8 → Fin 512 → Fin 128 → ℝ

/-- A block of extended reals is one of reals. -/
def Reads (X : Vec Ideal S8x512x128 .bf16) (x : RBlk) : Prop := ∀ j r l, (X (ix3 j r l) : EReal) = x j r l

/-- A block of biases is one of weights. -/
def Weighs (B : Vec Ideal S1x512x512 .f32) (n : Fin 512 → Fin 512 → ℝ) : Prop := ∀ r c, IsBias (B (ix3 0 r c)) (n r c)

/-- The score of row `r` of head `u` against key `c`. -/
def score (q k : RBlk) (u : Fin 16) (r c : Fin 512) : ℝ :=
  ∑ l : Fin 128, (if Own u l then q (chunk u) r l else 0) * k (chunk u) c l

/-- What a block of keys adds to the sums: on the head's own lanes the weighted values, on the others the weights. -/
def added (q k v : RBlk) (n : Fin 512 → Fin 512 → ℝ) (u : Fin 16) (r : Fin 512) (l : Fin 128) : ℝ :=
  ∑ c : Fin 512, n r c * Real.rpow 2 (score q k u r c) * (if Own u l then v (chunk u) c l else 1)

/-- The scratch buffers hold the padded queries `q` and the sums `S`. -/
def Holds (s : Carry Ideal) (q : RBlk) (S : Fin 16 → Fin 512 → Fin 128 → ℝ) : Prop :=
  (∀ u r l, (s.1 (ix3 u r l) : EReal) = ((if Own u l then q (chunk u) r l else 0 : ℝ) : EReal))
    ∧ ∀ u r, ∃ μ : ℝ, (s.2.1 (ix3 u r 0) : EReal) = μ ∧ ∀ l, (s.2.2 (ix3 u r l) : EReal) = ((Real.rpow 2 (-μ) * S u r l : ℝ) : EReal)

theorem holds_begun (q : Vec Ideal S8x512x128 .bf16) (x : RBlk) (hq : Reads q x) :
    Holds (stack (padded q), k0_pay9 (F := Ideal), k0_pay10 (F := Ideal)) x (fun _ _ _ => 0) := by
  refine ⟨fun u r l => ?_, fun u r => ?_⟩
  · show (stack (padded q) (ix3 u r l) : EReal) = _
    rw [stack_at, padded_at]
    by_cases h : Own u l
    · rw [if_pos h, if_pos h, hq]
    · rw [if_neg h, if_neg h]; rfl
  · refine ⟨-(13234890 * 2 ^ 76), ?_, fun l => ?_⟩
    · show (k0_pay9 (F := Ideal) (ix3 u r 0) : EReal) = _
      pointwise [k0_pay9]
      simp [Ideal.ofBits, Ideal.ieee, -EReal.coe_mul, -EReal.coe_neg]
    · show (k0_pay10 (F := Ideal) (ix3 u r l) : EReal) = _
      pointwise [k0_pay10]
      simp

theorem holds_attended (s : Carry Ideal) (K V : Vec Ideal S8x512x128 .bf16) (B : Vec Ideal S1x512x512 .f32) (q k v : RBlk)
    (n : Fin 512 → Fin 512 → ℝ) (S : Fin 16 → Fin 512 → Fin 128 → ℝ) (hK : Reads K k) (hV : Reads V v) (hB : Weighs B n) (hs : Holds s q S) :
    Holds (s.1, stack (maxima K B s.1 s.2.1), stack (sums k0_pay1 k0_pay2 K V B s.1 s.2.1 s.2.2)) q (fun u r l => S u r l + added q k v n u r l) := by
  obtain ⟨hQ, hS⟩ := hs
  refine ⟨hQ, fun u r => ?_⟩
  obtain ⟨m, hm, ha⟩ := hS u r
  have hx : ∀ c, (scores K s.1 u (ix2 r c) : EReal) = score q k u r c := fun c => by
    rw [scores_at]
    unfold score
    rw [coe_sum_real]
    exact Finset.sum_congr rfl fun l _ => by rw [hQ, hK, ← EReal.coe_mul]
  obtain ⟨μ, hμ⟩ := max_step (fun c => (scores K s.1 u (ix2 r c) : EReal)) (fun c => B (ix3 0 r c)) (score q k u r) (n r) hx (hB r) m
  have htop : top K B s.1 s.2.1 u r = μ := by unfold top; rw [hm]; exact hμ
  refine ⟨μ, ?_, fun l => ?_⟩
  · show (stack (maxima K B s.1 s.2.1) (ix3 u r 0) : EReal) = _
    rw [stack_at, maxima_at, htop]
  · show (stack (sums k0_pay1 k0_pay2 K V B s.1 s.2.1 s.2.2) (ix3 u r l) : EReal) = _
    rw [stack_at, sums_at]
    refine sum_step _ _ (score q k u r) (n r) (fun c => if Own u l then v (chunk u) c l else 1) m μ (S u r l) _ _ ?_ (ha l) (fun c => ?_) (fun c => ?_)
    · rw [alpha_at, hm, htop]
    · rw [probs_at, htop]
      exact weight_step _ _ _ _ (hx c) (hB r c) μ
    · rw [lanes_at]
      by_cases h : Own u l
      · rw [if_pos h, if_pos h]; exact hV _ _ _
      · rw [if_neg h, if_neg h]; rfl

/-- A point's step from the state before it. -/
theorem holds_step (i : grid0.Coords) (s : Carry Ideal) (K V : Vec Ideal S8x512x128 .bf16) (B : Vec Ideal S1x512x512 .f32) (q k v : RBlk)
    (n : Fin 512 → Fin 512 → ℝ) (S : Fin 16 → Fin 512 → Fin 128 → ℝ) (hK : Reads K k) (hV : Reads V v) (hB : Weighs B n) (hs : Holds s q S) :
    Holds (attended i K V B s) q (fun u r l => S u r l + if k0_cond2 i = 1#1 then added q k v n u r l else 0) := by
  unfold attended
  by_cases h : k0_cond2 i = 1#1
  · rw [if_pos h]
    simp only [if_pos h]
    exact holds_attended s K V B q k v n S hK hV hB hs
  · rw [if_neg h]
    simp only [if_neg h, add_zero]
    exact hs

end Cert.Proof.KernelIdeal
end
-- ==== Proof.KI.Places.lean ====
/-
  Where a grid point's blocks lie. Point `t` is (batch, query block, key block) = (t / 80, t / 5 % 16, t % 5); its queries
  are the 512 rows from `t / 5 * 512` on, its keys and values the 512 rows of the same batch whose block lies `4 - t % 5`
  blocks further back, and its bias is plane `t % 5`.
-/
module

public import proofs.«01_k».proof.Proof.KI.Sums
public import proofs.«01_k».proof.Proof.KI.Run
public import Idealize.ShloMosaic.Lib.StableHlo.ReadAt
public import Idealize.ShloMosaic.Lib.Pipeline.ValueKit

@[expose] public section

set_option maxRecDepth 16384
set_option maxHeartbeats 2000000

noncomputable section

namespace Cert.Proof.KernelIdeal

open Cert.KernelIdeal Cert.KernelIdeal.Gen
open Idealize.ShloMosaic

variable (m : (ℓ : Loc nD τ sig) → Buf (Elt Ideal) ℓ) (c : Dev nD)

/-- The block of rows that holds the keys of point `t`. -/
def keyBlock (t : ℕ) : ℕ := t / 80 * 16 + (t / 5 % 16 + t % 5 - 4)

theorem keyBlock_lt (t : Fin cfg0.N) : keyBlock t.val < 32 := by
  have : t.val < 160 := t.isLt
  unfold keyBlock; omega

theorem rows_lt (b : ℕ) (hb : b < 32) (r : Fin 512) : b * 512 + r.val < 16384 := by omega

theorem point_lt (t : Fin cfg0.N) : t.val / 5 < 32 := by
  have : t.val < 160 := t.isLt
  omega

theorem index0 : ∀ (t : Fin grid0.N), win0_0.index t = ![0, t.val / 5, 0] := by decide +kernel
theorem index1 : ∀ (t : Fin grid0.N), win0_1.index t = ![1, keyBlock t.val, 0] := by decide +kernel
theorem index2 : ∀ (t : Fin grid0.N), win0_2.index t = ![2, keyBlock t.val, 0] := by decide +kernel
theorem index3 : ∀ (t : Fin grid0.N), win0_3.index t = ![t.val % 5, 0, 0] := by decide +kernel
theorem index4 : ∀ (t : Fin grid0.N), win0_4.index t = ![0, t.val / 5, 0] := by decide +kernel

/-- A point attends to its key block unless that lies before the batch. -/
theorem attends : ∀ (t : Fin grid0.N), k0_cond2 (grid0.coords t) = 1#1 ↔ 4 ≤ t.val / 5 % 16 + t.val % 5 := by decide +kernel

theorem qBlk_at (t : Fin cfg0.N) (j : Fin 8) (r : Fin 512) (l : Fin 128) :
    qBlk m c t (ix3 j r l) = m (c, Proc.devRef .tc main_arg0) (ix3 ⟨j.val, by omega⟩ ⟨t.val / 5 * 512 + r.val, rows_lt _ (point_lt t) r⟩ l) := by
  unfold qBlk
  blk_ext [iblk, V_main_arg0, index0 t]

theorem kBlk_at (t : Fin cfg0.N) (j : Fin 8) (r : Fin 512) (l : Fin 128) :
    kBlk m c t (ix3 j r l) = m (c, Proc.devRef .tc main_arg0) (ix3 ⟨8 + j.val, by omega⟩ ⟨keyBlock t.val * 512 + r.val, rows_lt _ (keyBlock_lt t) r⟩ l) := by
  unfold kBlk
  blk_ext [iblk, V_main_arg0, index1 t]

theorem vBlk_at (t : Fin cfg0.N) (j : Fin 8) (r : Fin 512) (l : Fin 128) :
    vBlk m c t (ix3 j r l) = m (c, Proc.devRef .tc main_arg0) (ix3 ⟨16 + j.val, by omega⟩ ⟨keyBlock t.val * 512 + r.val, rows_lt _ (keyBlock_lt t) r⟩ l) := by
  unfold vBlk
  blk_ext [iblk, V_main_arg0, index2 t]

theorem bBlk_at (t : Fin cfg0.N) (r k : Fin 512) :
    bBlk m c t (ix3 0 r k) = V m c main_v55 (ix3 ⟨t.val % 5, by omega⟩ r k) := by
  unfold bBlk
  blk_ext [iblk, index3 t]

/-- The distance of query row `r` and key row `k` under bias plane `j`. -/
def dist (j r k : ℕ) : BitVec 32 :=
  IntOp.subi (IntOp.addi (IntOp.muli (IntOp.subi 4#32 (BitVec.ofNat 32 j)) 512#32) (BitVec.ofNat 32 r)) (BitVec.ofNat 32 k)

theorem bias_at (j : Fin 5) (r k : Fin 512) : (V m c main_v55 (ix3 j r k) : EReal) = biasOf (dist j.val r.val k.val) := by
  unfold V
  after_reads_at
  rfl

end Cert.Proof.KernelIdeal
end
-- ==== Proof.Spec.lean ====
/-
  The dilated attention on the reals, and the two sums it is met as: over all the 8192 keys of a batch, and over the five
  blocks of 512 keys up to the query's own. `Y a r l` is the input: 8 chunks of two heads' queries, 8 of keys and 8 of
  values, 16384 rows (two batches of 8192), 128 lanes (two heads of 64).
-/
module

public import proofs.«01_k».proof.Proof.Hits

@[expose] public section

noncomputable section

namespace Cert.Proof

open Idealize.ShloMosaic

variable (Y : ℕ → ℕ → ℕ → ℝ)

/-- The base-2 score of query `t` and key `k` of batch `b` at head `h`. -/
def spot (b h t k : ℕ) : ℝ := ∑ x : Fin 64, Y (h / 2) (b * 8192 + t) (h % 2 * 64 + x.val) * Y (8 + h / 2) (b * 8192 + k) (h % 2 * 64 + x.val)

/-- The distance of two rows, as a word. -/
def gap (t k : ℕ) : BitVec 32 := IntOp.subi (BitVec.ofNat 32 t) (BitVec.ofNat 32 k)

/-- Key `k`'s weight for query `t`: how many branches hold it, times its exponential. -/
def heft (b h t k : ℕ) : ℝ := cnt (gap t k) * Real.rpow 2 (spot Y b h t k)

/-- The attention's result. -/
def attention (b h t l : ℕ) : ℝ :=
  (∑ k : Fin 8192, heft Y b h t k.val * Y (16 + h / 2) (b * 8192 + k.val) l) / ∑ k : Fin 8192, heft Y b h t k.val

theorem toInt_gap (t k : ℕ) (ht : t < 8192) (hk : k < 8192) : (gap t k).toInt = (t : ℤ) - k := by
  show (BitVec.ofNat 32 t - BitVec.ofNat 32 k).toInt = _
  rw [BitVec.toInt_sub, BitVec.toInt_ofNat', BitVec.toInt_ofNat']
  have h1 : (t : ℤ).bmod (2 ^ 32) = t := Int.bmod_eq_of_le (by omega) (by omega)
  have h2 : (k : ℤ).bmod (2 ^ 32) = k := Int.bmod_eq_of_le (by omega) (by omega)
  rw [h1, h2]
  exact Int.bmod_eq_of_le (by omega) (by omega)

theorem hit_own (t : ℕ) : hit (gap t t) 128#32 1#32 = 1#1 ∧ hit (gap t t) 512#32 4#32 = 1#1 ∧ hit (gap t t) 2048#32 16#32 = 1#1 := by
  have h : gap t t = 0#32 := by show BitVec.ofNat 32 t - BitVec.ofNat 32 t = 0#32; exact BitVec.sub_self _
  rw [h]
  decide

theorem cnt_own (t : ℕ) : 0 < cnt (gap t t) := by
  obtain ⟨h1, h2, h3⟩ := hit_own t
  unfold cnt
  rw [h1, h2, h3]
  simp [bitReal]
  norm_num

theorem cnt_gap_far (t k : ℕ) (ht : t < 8192) (hk : k < 8192) (h : t < k ∨ k + 2048 < t) : cnt (gap t k) = 0 := by
  refine cnt_far _ ?_
  rw [toInt_gap t k ht hk]
  omega

theorem heft_nonneg (b h t k : ℕ) : 0 ≤ heft Y b h t k := mul_nonneg (cnt_nonneg _) (Real.rpow_pos_of_pos two_pos _).le

theorem heft_sum_pos (b h t : ℕ) (ht : t < 8192) : 0 < ∑ k : Fin 8192, heft Y b h t k.val :=
  Finset.sum_pos' (fun k _ => heft_nonneg Y b h t k.val) ⟨⟨t, ht⟩, Finset.mem_univ _, mul_pos (cnt_own t) (Real.rpow_pos_of_pos two_pos _)⟩

/-- A sum over 8192 keys, block by block. -/
theorem sum_blocks (f : ℕ → ℝ) : ∑ k : Fin 8192, f k.val = ∑ kb ∈ Finset.range 16, ∑ c : Fin 512, f (kb * 512 + c.val) := by
  rw [Finset.sum_range, ← (finProdFinEquiv (m := 16) (n := 512)).sum_comp, Fintype.sum_prod_type]
  refine Finset.sum_congr rfl fun x _ => Finset.sum_congr rfl fun y _ => ?_
  congr 1
  show y.val + 512 * x.val = x.val * 512 + y.val
  omega

/-- Sixteen blocks of which only the five up to block `i` count. -/
theorem five_blocks (F : ℕ → ℝ) (i : ℕ) (hi : i < 16) (h : ∀ kb, kb < 16 → i < kb ∨ kb + 4 < i → F kb = 0) :
    ∑ kb ∈ Finset.range 16, F kb = ∑ j ∈ Finset.range 5, if 4 ≤ i + j then F (i + j - 4) else 0 := by
  have e : ∑ j ∈ Finset.range 5, (if 4 ≤ i + j then F (i + j - 4) else 0) = ∑ j ∈ (Finset.range 5).filter (fun j => 4 ≤ i + j), F (i + j - 4) := by
    rw [Finset.sum_filter]
  rw [e]
  symm
  refine Finset.sum_of_injOn (fun j => i + j - 4) ?_ ?_ ?_ (fun _ _ => rfl)
  · intro a ha b hb hab
    simp only [Finset.coe_filter, Finset.mem_range, Set.mem_setOf_eq] at ha hb hab
    omega
  · intro a ha
    simp only [Finset.coe_filter, Finset.mem_range, Set.mem_setOf_eq, Finset.coe_range, Set.mem_Iio] at ha ⊢
    omega
  · intro kb hkb hn
    simp only [Finset.mem_range] at hkb
    refine h kb hkb ?_
    by_contra hc
    refine hn ⟨kb + 4 - i, ?_, ?_⟩
    · simp only [Finset.coe_filter, Finset.mem_range, Set.mem_setOf_eq]; omega
    · show i + (kb + 4 - i) - 4 = kb; omega

/-- The keys of a batch, or the five blocks up to the query's own: the same sum. -/
theorem sum_five (b h i r : ℕ) (hi : i < 16) (hr : r < 512) (w : ℕ → ℝ) :
    ∑ k : Fin 8192, heft Y b h (i * 512 + r) k.val * w k.val
      = ∑ j ∈ Finset.range 5, if 4 ≤ i + j then ∑ c : Fin 512, heft Y b h (i * 512 + r) ((i + j - 4) * 512 + c.val) * w ((i + j - 4) * 512 + c.val) else 0 := by
  rw [sum_blocks (fun k => heft Y b h (i * 512 + r) k * w k)]
  refine five_blocks (fun kb => ∑ c : Fin 512, heft Y b h (i * 512 + r) (kb * 512 + c.val) * w (kb * 512 + c.val)) i hi fun kb hkb hf => ?_
  refine Finset.sum_eq_zero fun c _ => ?_
  unfold heft
  rw [cnt_gap_far _ _ (by omega) (by omega) (by omega), zero_mul, zero_mul]

/-- A product over a chunk's 128 lanes, the other head's lanes set to zero on one side. -/
theorem sum_own (p : ℕ) (hp : p < 2) (f g : ℕ → ℝ) :
    ∑ l : Fin 128, (if l.val / 64 = p then f l.val else 0) * g l.val = ∑ x : Fin 64, f (p * 64 + x.val) * g (p * 64 + x.val) := by
  rw [Fin.sum_univ_two_halves 64 64 rfl]
  have hp' : p = 0 ∨ p = 1 := by omega
  rcases hp' with rfl | rfl
  · have e : ∑ k : Fin 64, (if (64 + k.val) / 64 = 0 then f (64 + k.val) else 0) * g (64 + k.val) = 0 :=
      Finset.sum_eq_zero fun k _ => by rw [if_neg (by omega), zero_mul]
    refine (congrArg₂ (· + ·) (Finset.sum_congr rfl fun k _ => ?_) e).trans (add_zero _)
    show (if k.val / 64 = 0 then f k.val else 0) * g k.val = _
    rw [if_pos (by omega), Nat.zero_mul, Nat.zero_add]
  · have e : ∑ k : Fin 64, (if k.val / 64 = 1 then f k.val else 0) * g k.val = 0 :=
      Finset.sum_eq_zero fun k _ => by rw [if_neg (by omega), zero_mul]
    refine (congrArg₂ (· + ·) e (Finset.sum_congr rfl fun k _ => ?_)).trans (zero_add _)
    show (if (64 + k.val) / 64 = 1 then f (64 + k.val) else 0) * g (64 + k.val) = _
    rw [if_pos (by omega), Nat.one_mul]

end Cert.Proof
end
-- ==== Proof.KI.Groups.lean ====
/-
  The five points of a block of queries: what they leave is the attention of its rows.
-/
module

public import proofs.«01_k».proof.Proof.KI.Places
public import proofs.«01_k».proof.Proof.Spec

@[expose] public section

set_option maxRecDepth 16384
set_option maxHeartbeats 2000000

noncomputable section

namespace Cert.Proof.KernelIdeal

open Cert.KernelIdeal Cert.KernelIdeal.Gen
open Idealize.ShloMosaic

variable (m : (ℓ : Loc nD τ sig) → Buf (Elt Ideal) ℓ) (c : Dev nD) (Y : ℕ → ℕ → ℕ → ℝ)

/-- The input holds the reals `Y`. -/
def Is : Prop := ∀ (a : Fin 24) (r : Fin 16384) (l : Fin 128), @Eq EReal (m (c, Proc.devRef .tc main_arg0) (ix3 a r l)) (Y a.val r.val l.val : ℝ)

/-- Block `b` of the rows of the chunks from `a` on. -/
def rows (a b : ℕ) : RBlk := fun j r l => Y (a + j.val) (b * 512 + r.val) l.val

/-- What key block `j` adds for query block `g`. -/
def part (g j : ℕ) (u : Fin 16) (r : Fin 512) (l : Fin 128) : ℝ :=
  if 4 ≤ g % 16 + j then
    added (rows Y 0 g) (rows Y 8 (g / 16 * 16 + (g % 16 + j - 4))) (rows Y 16 (g / 16 * 16 + (g % 16 + j - 4))) (fun r k => cnt (dist j r.val k.val)) u r l
  else 0

variable {m c Y}

theorem point_step (hY : Is m c Y) (g : ℕ) (hg : g < 32) (j : ℕ) (hj : j < 5) (s : Carry Ideal) (S : Fin 16 → Fin 512 → Fin 128 → ℝ) (hs : Holds s (rows Y 0 g) S) :
    Holds (attended (grid0.coords ⟨g * 5 + j, by show _ < 160; omega⟩) (kBlk m c ⟨g * 5 + j, by show _ < 160; omega⟩)
      (vBlk m c ⟨g * 5 + j, by show _ < 160; omega⟩) (bBlk m c ⟨g * 5 + j, by show _ < 160; omega⟩) s) (rows Y 0 g) (fun u r l => S u r l + part Y g j u r l) := by
  have hlt : g * 5 + j < 160 := by omega
  set t : Fin cfg0.N := ⟨g * 5 + j, hlt⟩ with ht
  have hv : t.val = g * 5 + j := rfl
  have hkb : keyBlock t.val = g / 16 * 16 + (g % 16 + j - 4) := by unfold keyBlock; omega
  have h := holds_step (grid0.coords t) s (kBlk m c t) (vBlk m c t) (bBlk m c t) (rows Y 0 g) (rows Y 8 (keyBlock t.val)) (rows Y 16 (keyBlock t.val))
    (fun r k => cnt (dist j r.val k.val)) S
    (fun a r l => by rw [kBlk_at]; exact hY _ _ _) (fun a r l => by rw [vBlk_at]; exact hY _ _ _)
    (fun r k => by
      rw [bBlk_at, bias_at]
      have e : (⟨t.val % 5, by omega⟩ : Fin 5).val = j := by show t.val % 5 = j; omega
      rw [e]
      exact isBias_biasOf _) hs
  have hc : (k0_cond2 (grid0.coords t) = 1#1) ↔ 4 ≤ g % 16 + j := by
    rw [attends t]
    have : t.val / 5 % 16 + t.val % 5 = g % 16 + j := by omega
    rw [this]
  unfold part
  rw [← hkb]
  convert h using 5
  exact if_congr hc.symm rfl rfl

/-- After `j + 1` of the five points. -/
theorem group (hY : Is m c Y) (g : ℕ) (hg : g < 32) (j : ℕ) (hj : j < 5) :
    Holds (carry m c (g * 5 + j + 1)) (rows Y 0 g) (fun u r l => ∑ j' ∈ Finset.range (j + 1), part Y g j' u r l) := by
  have hlt : g * 5 + j < 160 := by omega
  induction j with
  | zero =>
    rw [show g * 5 + 0 + 1 = (⟨g * 5 + 0, hlt⟩ : Fin cfg0.N).val + 1 from rfl, carry_succ m c ⟨g * 5 + 0, hlt⟩]
    unfold stepAt step begun
    rw [if_pos ((first_point _).mpr (by show (g * 5 + 0) % 5 = 0; omega))]
    have h := point_step hY g hg 0 (by omega) _ _ (holds_begun (qBlk m c ⟨g * 5 + 0, hlt⟩) (rows Y 0 g) (fun a r l => by
      rw [qBlk_at]
      refine (hY _ _ _).trans ?_
      show ((Y a.val ((g * 5 + 0) / 5 * 512 + r.val) l.val : ℝ) : EReal) = ((Y (0 + a.val) (g * 512 + r.val) l.val : ℝ) : EReal)
      rw [Nat.zero_add, show (g * 5 + 0) / 5 = g from by omega]))
    refine (congrArg (Holds _ _) (funext fun u => funext fun r => funext fun l => ?_)).mp h
    rw [Finset.sum_range_one, zero_add]
  | succ j ih =>
    rw [show g * 5 + (j + 1) + 1 = (⟨g * 5 + (j + 1), hlt⟩ : Fin cfg0.N).val + 1 from rfl, carry_succ m c ⟨g * 5 + (j + 1), hlt⟩]
    unfold stepAt step begun
    rw [if_neg (fun h => by have := (first_point _).mp h; revert this; show (g * 5 + (j + 1)) % 5 = 0 → False; omega)]
    have h := point_step hY g hg (j + 1) hj _ _ (ih (by omega) (by omega))
    simp only [Finset.sum_range_succ _ (j + 1)]
    exact h

/-- The bias plane's distance is that of the rows. -/
theorem dist_eq (i j r k : ℕ) (h : 4 ≤ i + j) (hj : j < 5) : dist j r k = gap (i * 512 + r) ((i + j - 4) * 512 + k) := by
  obtain ⟨e, he⟩ : ∃ e, 4 = j + e := ⟨4 - j, by omega⟩
  obtain ⟨b, hb⟩ : ∃ b, i = b + e := ⟨i - e, by omega⟩
  have hb' : i + j - 4 = b := by omega
  rw [hb', hb]
  show (4#32 - BitVec.ofNat 32 j) * 512#32 + BitVec.ofNat 32 r - BitVec.ofNat 32 k = BitVec.ofNat 32 ((b + e) * 512 + r) - BitVec.ofNat 32 (b * 512 + k)
  have h4 : 4#32 = BitVec.ofNat 32 j + BitVec.ofNat 32 e := by rw [← BitVec.ofNat_add, ← he]
  rw [h4, BitVec.ofNat_add, BitVec.ofNat_add, BitVec.ofNat_mul, BitVec.ofNat_mul, BitVec.ofNat_add]
  generalize BitVec.ofNat 32 j = j, BitVec.ofNat 32 e = e, BitVec.ofNat 32 b = b, BitVec.ofNat 32 r = r, BitVec.ofNat 32 k = k, 512#32 = w
  grind

/-- The scores are the attention's. -/
theorem score_eq (g kb : ℕ) (u : Fin 16) (r k : Fin 512) :
    score (rows Y 0 g) (rows Y 8 (g / 16 * 16 + kb)) u r k = spot Y (g / 16) u.val (g % 16 * 512 + r.val) (kb * 512 + k.val) := by
  unfold score spot rows
  have e1 : g * 512 + r.val = g / 16 * 8192 + (g % 16 * 512 + r.val) := by omega
  have e2 : (g / 16 * 16 + kb) * 512 + k.val = g / 16 * 8192 + (kb * 512 + k.val) := by omega
  rw [e1, e2, Nat.zero_add]
  exact sum_own (u.val % 2) (Nat.mod_lt _ two_pos) (fun x => Y (u.val / 2) (g / 16 * 8192 + (g % 16 * 512 + r.val)) x)
    (fun x => Y (8 + u.val / 2) (g / 16 * 8192 + (kb * 512 + k.val)) x)

/-- What the five key blocks add up to, at a factor `w` of the keys. -/
theorem parts_eq (g : ℕ) (u : Fin 16) (r : Fin 512) (l : Fin 128) (w : ℕ → ℝ)
    (hw : ∀ kb (k : Fin 512), (if Own u l then Y (16 + u.val / 2) (g / 16 * 8192 + (kb * 512 + k.val)) l.val else 1) = w (kb * 512 + k.val)) :
    ∑ j ∈ Finset.range 5, part Y g j u r l = ∑ k : Fin 8192, heft Y (g / 16) u.val (g % 16 * 512 + r.val) k.val * w k.val := by
  rw [sum_five Y (g / 16) u.val (g % 16) r.val (Nat.mod_lt _ (by omega)) r.isLt w]
  refine Finset.sum_congr rfl fun j hj => ?_
  unfold part
  by_cases h : 4 ≤ g % 16 + j
  · rw [if_pos h, if_pos h]
    unfold added
    refine Finset.sum_congr rfl fun k _ => ?_
    show cnt (dist j r.val k.val) * Real.rpow 2 (score _ _ u r k) * _ = _
    rw [score_eq, dist_eq (g % 16) j r.val k.val h (Finset.mem_range.mp hj), ← hw]
    unfold heft rows
    have e2 : (g / 16 * 16 + (g % 16 + j - 4)) * 512 + k.val = g / 16 * 8192 + ((g % 16 + j - 4) * 512 + k.val) := by omega
    rw [e2]
    rfl
  · rw [if_neg h, if_neg h]

/-- Row `r`, lane `l` of chunk `j`, when the five points are over. -/
theorem outBlk_at (hY : Is m c Y) (g : ℕ) (hg : g < 32) (t : Fin cfg0.N) (ht : t.val = g * 5 + 4) (j : Fin 8) (r : Fin 512) (l : Fin 128) :
    (outBlk m c t (ix3 j r l) : EReal) = ((attention Y (g / 16) (2 * j.val + l.val / 64) (g % 16 * 512 + r.val) l.val : ℝ) : EReal) := by
  have hl : l.val < 128 := l.isLt
  unfold outBlk
  rw [stack_at, quots_at, ht]
  obtain ⟨-, hS⟩ := group hY g hg 4 (by omega)
  obtain ⟨μ, -, hμ⟩ := hS (headOf j l) r
  rw [hμ, hμ]
  beta_reduce
  have hh : (headOf j l).val = 2 * j.val + l.val / 64 := rfl
  rw [parts_eq g (headOf j l) r l (fun k => Y (16 + (headOf j l).val / 2) (g / 16 * 8192 + k) l.val)
      (fun kb k => if_pos (by unfold Own; omega)),
    parts_eq g (headOf j l) r (beside l) (fun _ => 1) (fun kb k => if_neg (by
      unfold Own
      have : (beside l).val = (l.val + 64) % 128 := rfl
      omega))]
  simp only [mul_one]
  exact quot_final μ _ _ (heft_sum_pos Y (g / 16) _ _ (by omega))

end Cert.Proof.KernelIdeal
end
-- ==== Proof.KI.Out.lean ====
/-
  The kernel's result: the attention of its rows, block by block.
-/
module

public import proofs.«01_k».proof.Proof.KI.Groups
public import proofs.«01_k».proof.Proof.KI.Launch

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ) (c : Dev nD) (Y : ℕ → ℕ → ℕ → ℝ)

/-- The attention laid out as the result: chunks of two heads, rows, lanes. -/
def spread : S8x16384x128.Idx → EReal := fun i =>
  ((attention Y ((i 1).val / 8192) (2 * (i 0).val + (i 2).val / 64) ((i 1).val % 8192) (i 2).val : ℝ) : EReal)

/-- The result's blocks are written at the last of a query block's points. -/
theorem flush_last : ∀ (t : Fin grid0.N), win0_4.flush t = true → t.val % 5 = 4 := by decide +kernel

variable {Y}

theorem out_block (hY : Is m c Y) (t : Fin cfg0.N) (h4 : t.val % 5 = 4) (j : Fin 8) (r : Fin 512) (l : Fin 128) :
    @Eq EReal (outBlk m c t (ix3 j r l))
      ((attention Y ((t.val / 5 * 512 + r.val) / 8192) (2 * j.val + l.val / 64) ((t.val / 5 * 512 + r.val) % 8192) l.val : ℝ) : EReal) := by
  have hN : t.val < 160 := t.isLt
  refine (outBlk_at hY (t.val / 5) (by omega) t (by omega) j r l).trans ?_
  have e1 : (t.val / 5 * 512 + r.val) / 8192 = t.val / 5 / 16 := by omega
  have e2 : (t.val / 5 * 512 + r.val) % 8192 = t.val / 5 % 16 * 512 + r.val := by omega
  rw [e1, e2]

/-- The written blocks cover the result. -/
theorem covers_out : ((cfgs 0).win 4).Covers := by decide +kernel

theorem out_array (hY : Is m c Y) : (dats m 0 c).arrAt 4 (cfgs 0).N = spread Y := by
  refine (dats m 0 c).arrAt_eq_of_covers 4 _ covers_out fun t hf y => ?_
  have h4 := flush_last t hf
  rw [after_out]
  idx_vars y
  unfold spread
  blk_simp [index4 t]
  exact out_block m c hY t h4 y0 y1 y2

/-- The kernel computes the attention. -/
theorem run_attention (ρ : Dev nD → PrngReg) (Z : Dev nD → ℕ → ℕ → ℕ → ℝ) (hZ : ∀ c, Is m c (Z c)) :
    θ_run (defs (F := Ideal)) (onTc (τ := τ) (main (F := Ideal))) ⟨m, fun _ => 0, ρ⟩ fun r => ∀ c : Dev nD,
      r.2.mem ((c.tc : Thread nD τ).loc main_v56) = spread (Z c)
      ∧ r.2.mem ((c.tc : Thread nD τ).loc main_arg0) = m ((c.tc : Thread nD τ).loc main_arg0) :=
  (θ_run defs _ _).mono (fun _ h c => ⟨((h.1 c).1 4).trans (out_array m c (hZ c)),
    ((h.1 c).1 2).trans (((dats m 0 c).arrAt_in 2 rfl _).trans ((A_eq m c 2).trans (V_main_arg0 m c)))⟩) (run_main m ρ)

end Cert.Proof.KernelIdeal
end
-- ==== Proof.RI.Branches.lean ====
/-
  The reference's terms read at an index, over the extended reals: scores, the three masked branches, and their join.
-/
module

public import proofs.«01_k».proof.Proof.Gen.ReferenceIdeal.Run
public import proofs.«01_k».proof.Proof.Spec

@[expose] public section

set_option maxRecDepth 16384
set_option maxHeartbeats 2000000

noncomputable section

namespace Cert.Proof.ReferenceIdeal

open Cert.ReferenceIdeal Cert.ReferenceIdeal.Gen Cert.ReferenceIdeal.Value
open Idealize.ShloMosaic

variable (X : Valuation τ sig (Elt Ideal)) (Y : ℕ → ℕ → ℕ → ℝ)

/-- The input holds the reals `Y`. -/
def Is : Prop := ∀ (a : Fin 24) (r : Fin 16384) (l : Fin 128), @Eq EReal (X (Proc.devRef .tc main_arg0) (ix3 a r l)) (Y a.val r.val l.val : ℝ)

/-- The input's elements, as extended reals. -/
def inp (a : Fin 24) (r : Fin 16384) (l : Fin 128) : EReal := X (Proc.devRef .tc main_arg0) (ix3 a r l)

/-- The scores, as extended reals. -/
def scr (b : Fin 2) (h : Fin 16) (t k : Fin 8192) : EReal := res_main_v21 X (ix4 b h t k)

variable {X Y} (hY : Is X Y) (b : Fin 2) (h : Fin 16) (t k : Fin 8192)
include hY

theorem values_at (d : Fin 64) : @Eq EReal (res_main_v18 X (ix4 b k h d)) ((Y (16 + h.val / 2) (b.val * 8192 + k.val) (h.val % 2 * 64 + d.val) : ℝ) : EReal) := by
  pointwise [res_main_v18]
  exact hY _ _ _

theorem bits_eight : Ideal.ofBits FTy.f32 0x41000000#32 = ((8 : ℝ) : EReal) := by
  simp [Ideal.ofBits, Ideal.ieee, -EReal.coe_mul]; norm_num

theorem bits_eighth : Ideal.ofBits FTy.f32 0x3E000000#32 = ((1 / 8 : ℝ) : EReal) := by
  simp [Ideal.ofBits, Ideal.ieee, -EReal.coe_mul]; norm_num

theorem scores_at : scr X b h t k = ((Real.log 2 * spot Y b.val h.val t.val k.val : ℝ) : EReal) := by
  unfold scr
  pointwise [res_main_v21]
  have e : ∀ x : Fin 64, (inp X ⟨h.val / 2, by omega⟩ ⟨b.val * 8192 + t.val, by omega⟩ ⟨h.val % 2 * 64 + x.val, by omega⟩
        * (Ideal.ofBits FTy.f32 0x41000000#32 * Ideal.log (Ideal.ofBits FTy.f32 0x40000000#32))
        * inp X ⟨8 + h.val / 2, by omega⟩ ⟨b.val * 8192 + k.val, by omega⟩ ⟨h.val % 2 * 64 + x.val, by omega⟩ : EReal)
      = ((Y (h.val / 2) (b.val * 8192 + t.val) (h.val % 2 * 64 + x.val) * (8 * Real.log 2) * Y (8 + h.val / 2) (b.val * 8192 + k.val) (h.val % 2 * 64 + x.val) : ℝ) : EReal) := by
    intro x
    have e1 := hY ⟨h.val / 2, by omega⟩ ⟨b.val * 8192 + t.val, by omega⟩ ⟨h.val % 2 * 64 + x.val, by omega⟩
    have e2 := hY ⟨8 + h.val / 2, by omega⟩ ⟨b.val * 8192 + k.val, by omega⟩ ⟨h.val % 2 * 64 + x.val, by omega⟩
    rw [bits_eight hY, bits_two, Ideal.log_coe, if_neg (by norm_num), EReal.coe_mul, EReal.coe_mul, EReal.coe_mul]
    exact congrArg₂ _ (congrArg₂ _ e1 rfl) e2
  refine (congrArg₂ _ (Finset.sum_congr rfl fun x _ => e x) (bits_eighth hY)).trans ?_
  rw [← coe_sum_real, ← EReal.coe_mul]
  congr 1
  unfold spot
  rw [Finset.sum_mul, Finset.mul_sum]
  exact Finset.sum_congr rfl fun x _ => by ring

/-- A masked score, by its branch's bit. -/
theorem masked (p : BitVec 1) : (Scalar.select p (scr X b h t k) (Ideal.ofBits FTy.f32 0xFF800000#32) = ⊥ ∧ bitReal p = 0)
    ∨ (Scalar.select p (scr X b h t k) (Ideal.ofBits FTy.f32 0xFF800000#32) = ((Real.log 2 * spot Y b.val h.val t.val k.val : ℝ) : EReal) ∧ bitReal p = 1) := by
  have hp : p = 0#1 ∨ p = 1#1 := by revert p; decide
  rcases hp with rfl | rfl
  · exact .inl ⟨bits_bot, by simp [bitReal]⟩
  · exact .inr ⟨scores_at hY b h t k, by simp [bitReal]⟩

/-- A branch's bits: the key at distance `d` of at most `W`, every `D`-th. -/
def bit (W D : BitVec 32) (t k : ℕ) : ℝ := bitReal (hit (gap t k) W D)

/-- The branch's weights. -/
def load (W D : BitVec 32) (Y : ℕ → ℕ → ℕ → ℝ) (b h t k : ℕ) : ℝ := bit W D t k * Real.rpow 2 (spot Y b h t k)

/-- A branch of masked scores `A`: its maximum is real, and its weights are those of the keys it holds, scaled. -/
theorem branch (W D : BitVec 32) (A : S2x16x8192x8192.Idx → EReal)
    (hA : ∀ k : Fin 8192, A (ix4 b h t k) = Scalar.select (hit (gap t.val k.val) W D) (scr X b h t k) (Ideal.ofBits FTy.f32 0xFF800000#32))
    (ht : hit (gap t.val t.val) W D = 1#1) :
    ∃ μ : ℝ, Finset.fold max (Ideal.ofBits FTy.f32 0xFF800000#32) (fun x : Fin 8192 => A (ix4 b h t x)) Finset.univ = μ
      ∧ ∀ k : Fin 8192, Ideal.exp (A (ix4 b h t k) - μ) = ((load W D Y b.val h.val t.val k.val * Real.exp (-μ) : ℝ) : EReal) := by
  have hm := fun k => masked hY b h t k (hit (gap t.val k.val) W D)
  obtain ⟨μ, hμ⟩ := fold_max_real Finset.univ (fun x : Fin 8192 => A (ix4 b h t x))
    (fun k _ => by
      show A (ix4 b h t k) ≠ ⊤
      rw [hA]
      rcases hm k with ⟨e, -⟩ | ⟨e, -⟩
      · rw [e]; exact bot_ne_top
      · rw [e]; exact EReal.coe_ne_top _)
    t (Finset.mem_univ t) (by
      show A (ix4 b h t t) ≠ ⊥
      rw [hA, ht]
      show scr X b h t t ≠ ⊥
      rw [scores_at hY]
      exact EReal.coe_ne_bot _)
  refine ⟨μ, by rw [bits_bot]; exact hμ, fun k => ?_⟩
  refine (branch_weight _ (Real.log 2 * spot Y b.val h.val t.val k.val) (bitReal (hit (gap t.val k.val) W D)) ?_ μ).trans ?_
  · rw [hA]; exact hm k
  · unfold load bit
    rw [show Real.rpow 2 (spot Y b.val h.val t.val k.val) = Real.exp (Real.log 2 * spot Y b.val h.val t.val k.val) from Real.rpow_def_of_pos two_pos _]

omit hY in
theorem load_nonneg (W D : BitVec 32) (b h t k : ℕ) : 0 ≤ load W D Y b h t k := mul_nonneg (bitReal_nonneg _) (Real.rpow_pos_of_pos two_pos _).le

omit hY in
theorem load_sum_pos (W D : BitVec 32) (b h t : ℕ) (ht : t < 8192) (hh : hit (gap t t) W D = 1#1) : 0 < ∑ k : Fin 8192, load W D Y b h t k.val :=
  Finset.sum_pos' (fun k _ => load_nonneg W D b h t k.val)
    ⟨⟨t, ht⟩, Finset.mem_univ _, mul_pos (by unfold bit; rw [hh]; simp [bitReal]) (Real.rpow_pos_of_pos two_pos _)⟩

omit hY in
/-- The three branches' weights are the keys' weights. -/
theorem heft_eq (b h t k : ℕ) : heft Y b h t k = load 128#32 1#32 Y b h t k + load 512#32 4#32 Y b h t k + load 2048#32 16#32 Y b h t k := by
  unfold heft load cnt bit
  ring

omit hY in
theorem mask1 : @Eq EReal (res_main_v38 X (ix4 b h t k)) (Scalar.select (hit (gap t.val k.val) 128#32 1#32) (scr X b h t k) (Ideal.ofBits FTy.f32 0xFF800000#32)) := by
  pointwise [res_main_v38, res_main_v24]
  rfl

omit hY in
theorem mask2 : @Eq EReal (res_main_v64 X (ix4 b h t k)) (Scalar.select (hit (gap t.val k.val) 512#32 4#32) (scr X b h t k) (Ideal.ofBits FTy.f32 0xFF800000#32)) := by
  pointwise [res_main_v64, res_main_v24]
  rfl

omit hY in
theorem mask3 : @Eq EReal (res_main_v90 X (ix4 b h t k)) (Scalar.select (hit (gap t.val k.val) 2048#32 16#32) (scr X b h t k) (Ideal.ofBits FTy.f32 0xFF800000#32)) := by
  pointwise [res_main_v90, res_main_v24]
  rfl

end Cert.Proof.ReferenceIdeal
end
-- ==== Proof.RI.Chain.lean ====
/-
  The reference's operations on its arrays, read at an index.
-/
module

public import proofs.«01_k».proof.Proof.RI.Branches

@[expose] public section

set_option maxRecDepth 16384
set_option maxHeartbeats 2000000

noncomputable section

namespace Cert.Proof.ReferenceIdeal

open Cert.ReferenceIdeal Cert.ReferenceIdeal.Gen Cert.ReferenceIdeal.Value
open Idealize.ShloMosaic Idealize.ShloMosaic.TcCoe Idealize.SL.Sem

/-- Batches of rows of heads laid out as chunks of two heads, rows and lanes. -/
theorem laid (A : S2x16x8192x64.Idx → EReal) (a : Fin 8) (r : Fin 16384) (l : Fin 128) :
    (shapeCast S8x16384x128 (transpose S8x2x8192x2x64 [1, 0, 3, 2, 4] (shapeCast S2x8x2x8192x64 A shapeCasts_S2x16x8192x64_S2x8x2x8192x64)
      transposes_S2x8x2x8192x64_S8x2x8192x2x64_1_0_3_2_4) shapeCasts_S8x2x8192x2x64_S8x16384x128) (ix3 a r l)
    = A (ix4 ⟨r.val / 8192, by omega⟩ ⟨a.val * 2 + l.val / 64, by omega⟩ ⟨r.val % 8192, by omega⟩ ⟨l.val % 64, by omega⟩) := by
  pointwise

theorem weighted (P : S2x16x8192x8192.Idx → EReal) (V : S2x8192x16x64.Idx → EReal) (b : Fin 2) (h : Fin 16) (t : Fin 8192) (d : Fin 64) :
    Host.dotGeneral (F := Ideal) (φ₁ := .f32) (φ₂ := .f32) dot_S2x16x8192x8192_S2x8192x16x64_S2x16x8192x64_3_1_2_3_01_02 none P V (ix4 b h t d)
      = ∑ x : Fin 8192, P (ix4 b h t x) * V (ix4 b x h d) := by
  pointwise

/-- A column read against the lanes. -/
theorem column (E : S2x16x8192x1.Idx → EReal) (b : Fin 2) (h : Fin 16) (t : Fin 8192) (d : Fin 64) :
    broadcastInDim S2x16x8192x64 ![0, 1, 2, 3] bcast_S2x16x8192x1_S2x16x8192x64_0_1_2_3 E (ix4 b h t d) = E (ix4 b h t 0) := by
  pointwise

variable (b : Fin 2) (h : Fin 16) (t k : Fin 8192) (d : Fin 64)

/-- The greatest score of a row. -/
theorem row_max (A : FVec Ideal S2x16x8192x8192 .f32) :
    @Eq EReal (broadcastInDim S2x16x8192x1 ![0, 1, 2] bcast_S2x16x8192_S2x16x8192x1_0_1_2 (Host.reduce (FloatOps.maximumf (F := Ideal) (φ := .f32)) A (constant (F := Ideal) S_ .f32 0xFF800000#32) reducesTo_S2x16x8192x8192_S2x16x8192_d3 h_S_) (ix4 b h t 0))
      (Finset.fold max (Ideal.ofBits FTy.f32 0xFF800000#32) (fun x : Fin 8192 => A (ix4 b h t x)) Finset.univ) := by
  pointwise

/-- A weight: the exponential of a score less its row's greatest. -/
theorem weight_at (A : FVec Ideal S2x16x8192x8192 .f32) (mx : FVec Ideal S2x16x8192x1 .f32) :
    @Eq EReal (Host.exp (F := Ideal) (subf (F := Ideal) A (broadcastInDim S2x16x8192x8192 ![0, 1, 2, 3] bcast_S2x16x8192x1_S2x16x8192x8192_0_1_2_3 mx)) (ix4 b h t k)) (Ideal.exp (A (ix4 b h t k) - mx (ix4 b h t 0))) := by
  pointwise

/-- The sum of a row's weights. -/
theorem row_sum (p : FVec Ideal S2x16x8192x8192 .f32) :
    @Eq EReal (broadcastInDim S2x16x8192x1 ![0, 1, 2] bcast_S2x16x8192_S2x16x8192x1_0_1_2 (Host.reduceAdd (F := Ideal) p (constant (F := Ideal) S_ .f32 0x00000000#32) reducesTo_S2x16x8192x8192_S2x16x8192_d3 h_S_) (ix4 b h t 0))
      (∑ x : Fin 8192, p (ix4 b h t x)) := by
  pointwise

/-- The logarithm of a row's sum, from the maximum. -/
theorem log_at (mx den : FVec Ideal S2x16x8192x1 .f32) :
    @Eq EReal (addf (F := Ideal) mx (Host.log (F := Ideal) den) (ix4 b h t 0)) (mx (ix4 b h t 0) + Ideal.log (den (ix4 b h t 0))) := by
  pointwise

/-- The greatest of the three logarithms. -/
theorem max_at (l1 l2 l3 : FVec Ideal S2x16x8192x1 .f32) :
    @Eq EReal (maximumf (F := Ideal) (maximumf (F := Ideal) l1 l2) l3 (ix4 b h t 0)) (max (max (l1 (ix4 b h t 0)) (l2 (ix4 b h t 0))) (l3 (ix4 b h t 0))) := by
  pointwise

/-- A branch's share. -/
theorem share_at (l mx : FVec Ideal S2x16x8192x1 .f32) :
    @Eq EReal (Host.exp (F := Ideal) (subf (F := Ideal) l mx) (ix4 b h t 0)) (Ideal.exp (l (ix4 b h t 0) - mx (ix4 b h t 0))) := by
  pointwise

/-- The branches joined by their shares. -/
theorem joined (e1 e2 e3 l1 l2 l3 : FVec Ideal S2x16x8192x1 .f32) (o1 o2 o3 : FVec Ideal S2x16x8192x64 .f32) :
    @Eq EReal (truncf (F := Ideal) .bf16 (Host.divf (F := Ideal) (addf (F := Ideal) (addf (F := Ideal)
      (mulf (F := Ideal) (broadcastInDim S2x16x8192x64 ![0, 1, 2, 3] bcast_S2x16x8192x1_S2x16x8192x64_0_1_2_3 e1) (Host.divf (F := Ideal) o1 (broadcastInDim S2x16x8192x64 ![0, 1, 2, 3] bcast_S2x16x8192x1_S2x16x8192x64_0_1_2_3 l1)))
      (mulf (F := Ideal) (broadcastInDim S2x16x8192x64 ![0, 1, 2, 3] bcast_S2x16x8192x1_S2x16x8192x64_0_1_2_3 e2) (Host.divf (F := Ideal) o2 (broadcastInDim S2x16x8192x64 ![0, 1, 2, 3] bcast_S2x16x8192x1_S2x16x8192x64_0_1_2_3 l2))))
      (mulf (F := Ideal) (broadcastInDim S2x16x8192x64 ![0, 1, 2, 3] bcast_S2x16x8192x1_S2x16x8192x64_0_1_2_3 e3) (Host.divf (F := Ideal) o3 (broadcastInDim S2x16x8192x64 ![0, 1, 2, 3] bcast_S2x16x8192x1_S2x16x8192x64_0_1_2_3 l3))))
      (broadcastInDim S2x16x8192x64 ![0, 1, 2, 3] bcast_S2x16x8192x1_S2x16x8192x64_0_1_2_3 (addf (F := Ideal) (addf (F := Ideal) e1 e2) e3))) bitsLt_bf16_f32 (ix4 b h t d))
    (Ideal.div (e1 (ix4 b h t 0) * Ideal.div (o1 (ix4 b h t d)) (l1 (ix4 b h t 0)) + e2 (ix4 b h t 0) * Ideal.div (o2 (ix4 b h t d)) (l2 (ix4 b h t 0))
        + e3 (ix4 b h t 0) * Ideal.div (o3 (ix4 b h t d)) (l3 (ix4 b h t 0)))
      (e1 (ix4 b h t 0) + e2 (ix4 b h t 0) + e3 (ix4 b h t 0))) := by
  pointwise

end Cert.Proof.ReferenceIdeal
end
-- ==== Proof.RI.Join.lean ====
/-
  The reference's result: the attention of its rows.
-/
module

public import proofs.«01_k».proof.Proof.RI.Branches
public import proofs.«01_k».proof.Proof.RI.Chain

@[expose] public section

set_option maxRecDepth 16384
set_option maxHeartbeats 2000000

noncomputable section

namespace Cert.Proof.ReferenceIdeal

open Cert.ReferenceIdeal Cert.ReferenceIdeal.Gen Cert.ReferenceIdeal.Value
open Idealize.ShloMosaic Idealize.ShloMosaic.TcCoe Idealize.SL.Sem

variable (X : Valuation τ sig (Elt Ideal)) (Y : ℕ → ℕ → ℕ → ℝ) (b : Fin 2) (h : Fin 16) (t : Fin 8192)

/-- What a branch's terms come to: its logarithm `lse`, its sum `den` and its weights `p`. -/
def Comes (W D : BitVec 32) (lse den : S2x16x8192x1.Idx → EReal) (p : S2x16x8192x8192.Idx → EReal) : Prop :=
  ∃ μ : ℝ, (∀ k : Fin 8192, p (ix4 b h t k) = ((load W D Y b.val h.val t.val k.val * Real.exp (-μ) : ℝ) : EReal))
    ∧ den (ix4 b h t 0) = (((∑ k : Fin 8192, load W D Y b.val h.val t.val k.val) * Real.exp (-μ) : ℝ) : EReal)
    ∧ lse (ix4 b h t 0) = ((Real.log (∑ k : Fin 8192, load W D Y b.val h.val t.val k.val) : ℝ) : EReal)

variable {X Y}

/-- From the masked scores `A`: their maxima `mx`, the weights, the sums and the logarithms. -/
theorem comes (hY : Is X Y) (W D : BitVec 32) (A p : S2x16x8192x8192.Idx → EReal) (mx den lse : S2x16x8192x1.Idx → EReal)
    (hA : ∀ k : Fin 8192, A (ix4 b h t k) = Scalar.select (hit (gap t.val k.val) W D) (scr X b h t k) (Ideal.ofBits FTy.f32 0xFF800000#32))
    (ht : hit (gap t.val t.val) W D = 1#1)
    (hmx : mx (ix4 b h t 0) = Finset.fold max (Ideal.ofBits FTy.f32 0xFF800000#32) (fun x : Fin 8192 => A (ix4 b h t x)) Finset.univ)
    (hp : ∀ k : Fin 8192, p (ix4 b h t k) = Ideal.exp (A (ix4 b h t k) - mx (ix4 b h t 0)))
    (hden : den (ix4 b h t 0) = ∑ k : Fin 8192, p (ix4 b h t k))
    (hlse : lse (ix4 b h t 0) = mx (ix4 b h t 0) + Ideal.log (den (ix4 b h t 0))) :
    Comes Y b h t W D lse den p := by
  obtain ⟨μ, hμ, hw⟩ := branch hY b h t W D A hA ht
  have e1 : ∀ k : Fin 8192, p (ix4 b h t k) = ((load W D Y b.val h.val t.val k.val * Real.exp (-μ) : ℝ) : EReal) := fun k => by
    rw [hp, hmx, hμ]; exact hw k
  have e2 : den (ix4 b h t 0) = (((∑ k : Fin 8192, load W D Y b.val h.val t.val k.val) * Real.exp (-μ) : ℝ) : EReal) := by
    rw [hden]
    exact branch_sum _ _ _ e1
  refine ⟨μ, e1, e2, ?_⟩
  rw [hlse, hmx, hμ, e2]
  exact branch_log _ μ (load_sum_pos W D b.val h.val t.val t.isLt ht)

theorem comes1 (hY : Is X Y) : Comes Y b h t 128#32 1#32 (res_main_v50 X) (res_main_v45 X) (res_main_v43 X) :=
  comes b h t hY 128#32 1#32 (res_main_v38 X) (res_main_v43 X) (res_main_v40 X) (res_main_v45 X) (res_main_v50 X) (fun k => mask1 b h t k)
    (hit_own t.val).1 (row_max b h t (res_main_v38 X)) (fun k => weight_at b h t k (res_main_v38 X) (res_main_v40 X)) (row_sum b h t (res_main_v43 X))
    (log_at b h t (res_main_v40 X) (res_main_v45 X))

theorem comes2 (hY : Is X Y) : Comes Y b h t 512#32 4#32 (res_main_v76 X) (res_main_v71 X) (res_main_v69 X) :=
  comes b h t hY 512#32 4#32 (res_main_v64 X) (res_main_v69 X) (res_main_v66 X) (res_main_v71 X) (res_main_v76 X) (fun k => mask2 b h t k)
    (hit_own t.val).2.1 (row_max b h t (res_main_v64 X)) (fun k => weight_at b h t k (res_main_v64 X) (res_main_v66 X)) (row_sum b h t (res_main_v69 X))
    (log_at b h t (res_main_v66 X) (res_main_v71 X))

theorem comes3 (hY : Is X Y) : Comes Y b h t 2048#32 16#32 (res_main_v102 X) (res_main_v97 X) (res_main_v95 X) :=
  comes b h t hY 2048#32 16#32 (res_main_v90 X) (res_main_v95 X) (res_main_v92 X) (res_main_v97 X) (res_main_v102 X) (fun k => mask3 b h t k)
    (hit_own t.val).2.2 (row_max b h t (res_main_v90 X)) (fun k => weight_at b h t k (res_main_v90 X) (res_main_v92 X)) (row_sum b h t (res_main_v95 X))
    (log_at b h t (res_main_v92 X) (res_main_v97 X))

/-- A branch's own result, its weighted values over its sum. -/
theorem own_result (W D : BitVec 32) (lse den : S2x16x8192x1.Idx → EReal) (p : S2x16x8192x8192.Idx → EReal) (V : S2x8192x16x64.Idx → EReal)
    (hc : Comes Y b h t W D lse den p) (ht : hit (gap t.val t.val) W D = 1#1) (d : Fin 64) (v : Fin 8192 → ℝ) (hV : ∀ k : Fin 8192, V (ix4 b k h d) = ((v k : ℝ) : EReal)) :
    Ideal.div (∑ k : Fin 8192, p (ix4 b h t k) * V (ix4 b k h d)) (den (ix4 b h t 0))
      = (((∑ k : Fin 8192, load W D Y b.val h.val t.val k.val * v k) / ∑ k : Fin 8192, load W D Y b.val h.val t.val k.val : ℝ) : EReal) := by
  obtain ⟨μ, e1, e2, -⟩ := hc
  rw [branch_values _ _ _ v _ e1 hV, e2]
  exact branch_quot _ _ μ (load_sum_pos W D b.val h.val t.val t.isLt ht)

/-- The branches' shares, against their greatest logarithm. -/
theorem share_of (l mx : S2x16x8192x1.Idx → EReal) (L ν : ℝ) (hL : 0 < L) (hl : l (ix4 b h t 0) = ((Real.log L : ℝ) : EReal)) (hm : mx (ix4 b h t 0) = (ν : EReal)) :
    @Eq EReal (Host.exp (F := Ideal) (φ := .f32) (subf (F := Ideal) l mx) (ix4 b h t 0)) ((L * Real.exp (-ν) : ℝ) : EReal) :=
  (share_at b h t l mx).trans (by rw [hl, hm]; exact branch_share L ν hL)

theorem max_real (x y z : EReal) (a b c : ℝ) (hx : x = a) (hy : y = b) (hz : z = c) : ∃ ν : ℝ, max (max x y) z = (ν : EReal) :=
  ⟨max (max a b) c, by rw [hx, hy, hz, EReal.coe_strictMono.monotone.map_max, EReal.coe_strictMono.monotone.map_max]⟩

theorem shares (hY : Is X Y) : ∃ ν : ℝ,
    @Eq EReal (res_main_v106 X (ix4 b h t 0)) (((∑ k : Fin 8192, load 128#32 1#32 Y b.val h.val t.val k.val) * Real.exp (-ν) : ℝ) : EReal)
    ∧ @Eq EReal (res_main_v108 X (ix4 b h t 0)) (((∑ k : Fin 8192, load 512#32 4#32 Y b.val h.val t.val k.val) * Real.exp (-ν) : ℝ) : EReal)
    ∧ @Eq EReal (res_main_v110 X (ix4 b h t 0)) (((∑ k : Fin 8192, load 2048#32 16#32 Y b.val h.val t.val k.val) * Real.exp (-ν) : ℝ) : EReal) := by
  obtain ⟨_, -, -, e1⟩ := comes1 b h t hY
  obtain ⟨_, -, -, e2⟩ := comes2 b h t hY
  obtain ⟨_, -, -, e3⟩ := comes3 b h t hY
  obtain ⟨o1, o2, o3⟩ := hit_own t.val
  obtain ⟨ν, hν⟩ := max_real _ _ _ _ _ _ e1 e2 e3
  have hm := (max_at b h t (res_main_v50 X) (res_main_v76 X) (res_main_v102 X)).trans hν
  exact ⟨ν, share_of b h t (res_main_v50 X) (res_main_v104 X) _ ν (load_sum_pos _ _ _ _ _ t.isLt o1) e1 hm,
    share_of b h t (res_main_v76 X) (res_main_v104 X) _ ν (load_sum_pos _ _ _ _ _ t.isLt o2) e2 hm,
    share_of b h t (res_main_v102 X) (res_main_v104 X) _ ν (load_sum_pos _ _ _ _ _ t.isLt o3) e3 hm⟩

end Cert.Proof.ReferenceIdeal
end
-- ==== Proof.RI.Result.lean ====
/-
  The reference's result is the attention of its rows.
-/
module

public import proofs.«01_k».proof.Proof.RI.Join

@[expose] public section

set_option maxRecDepth 16384
set_option maxHeartbeats 2000000

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.SL.Sem

theorem join_real (x1 x2 x3 y1 y2 y3 : EReal) (A1 A2 A3 L1 L2 L3 ν : ℝ) (h1 : 0 < L1) (h2 : 0 < L2) (h3 : 0 < L3)
    (e1 : x1 = ((L1 * Real.exp (-ν) : ℝ) : EReal)) (e2 : x2 = ((L2 * Real.exp (-ν) : ℝ) : EReal)) (e3 : x3 = ((L3 * Real.exp (-ν) : ℝ) : EReal))
    (q1 : y1 = ((A1 / L1 : ℝ) : EReal)) (q2 : y2 = ((A2 / L2 : ℝ) : EReal)) (q3 : y3 = ((A3 / L3 : ℝ) : EReal)) :
    Ideal.div (x1 * y1 + x2 * y2 + x3 * y3) (x1 + x2 + x3) = (((A1 + A2 + A3) / (L1 + L2 + L3) : ℝ) : EReal) := by
  rw [e1, e2, e3, q1, q2, q3]
  exact branches_join A1 A2 A3 L1 L2 L3 ν h1 h2 h3

/-- Three sums of weights against values are one. -/
theorem three_sums {ι : Type*} [Fintype ι] (w w1 w2 w3 v : ι → ℝ) (h : ∀ k, w k = w1 k + w2 k + w3 k) :
    ((∑ k, w1 k * v k) + (∑ k, w2 k * v k) + (∑ k, w3 k * v k)) / ((∑ k, w1 k) + (∑ k, w2 k) + ∑ k, w3 k) = (∑ k, w k * v k) / ∑ k, w k := by
  simp only [h, add_mul, Finset.sum_add_distrib]

/-- The branches' results, weighed by their shares, at one element. -/
def share (e1 e2 e3 l1 l2 l3 : S2x16x8192x1.Idx → EReal) (p1 p2 p3 : S2x16x8192x8192.Idx → EReal) (v : S2x8192x16x64.Idx → EReal) (b : Fin 2) (h : Fin 16) (t : Fin 8192) (d : Fin 64) : EReal :=
  Ideal.div (e1 (ix4 b h t 0) * Ideal.div (Host.dotGeneral (F := Ideal) (φ₁ := .f32) (φ₂ := .f32) dot_S2x16x8192x8192_S2x8192x16x64_S2x16x8192x64_3_1_2_3_01_02 none p1 v (ix4 b h t d)) (l1 (ix4 b h t 0))
      + e2 (ix4 b h t 0) * Ideal.div (Host.dotGeneral (F := Ideal) (φ₁ := .f32) (φ₂ := .f32) dot_S2x16x8192x8192_S2x8192x16x64_S2x16x8192x64_3_1_2_3_01_02 none p2 v (ix4 b h t d)) (l2 (ix4 b h t 0))
      + e3 (ix4 b h t 0) * Ideal.div (Host.dotGeneral (F := Ideal) (φ₁ := .f32) (φ₂ := .f32) dot_S2x16x8192x8192_S2x8192x16x64_S2x16x8192x64_3_1_2_3_01_02 none p3 v (ix4 b h t d)) (l3 (ix4 b h t 0)))
    (e1 (ix4 b h t 0) + e2 (ix4 b h t 0) + e3 (ix4 b h t 0))

variable {X : Valuation τ sig (Elt Ideal)} {Y : ℕ → ℕ → ℕ → ℝ} (hY : Is X Y) (b : Fin 2) (h : Fin 16) (t : Fin 8192) (d : Fin 64)
include hY

theorem attends :
    share (res_main_v106 X) (res_main_v108 X) (res_main_v110 X) (res_main_v45 X) (res_main_v71 X) (res_main_v97 X) (res_main_v43 X) (res_main_v69 X) (res_main_v95 X) (res_main_v18 X) b h t d =
    ((attention Y b.val h.val t.val (h.val % 2 * 64 + d.val) : ℝ) : EReal) := by
  obtain ⟨ν, s1, s2, s3⟩ := shares b h t hY
  obtain ⟨o1, o2, o3⟩ := hit_own t.val
  have q1 : @Eq EReal (Ideal.div (Host.dotGeneral (F := Ideal) (φ₁ := .f32) (φ₂ := .f32) dot_S2x16x8192x8192_S2x8192x16x64_S2x16x8192x64_3_1_2_3_01_02 none (res_main_v43 X) (res_main_v18 X) (ix4 b h t d)) (res_main_v45 X (ix4 b h t 0))) _ :=
    (congrArg (fun z : EReal => Ideal.div z (res_main_v45 X (ix4 b h t 0))) (weighted (res_main_v43 X) (res_main_v18 X) b h t d)).trans
      (own_result b h t 128#32 1#32 (res_main_v50 X) (res_main_v45 X) (res_main_v43 X) (res_main_v18 X) (comes1 b h t hY) o1 d
        (fun k => Y (16 + h.val / 2) (b.val * 8192 + k.val) (h.val % 2 * 64 + d.val)) (fun k => values_at hY b h k d))
  have q2 : @Eq EReal (Ideal.div (Host.dotGeneral (F := Ideal) (φ₁ := .f32) (φ₂ := .f32) dot_S2x16x8192x8192_S2x8192x16x64_S2x16x8192x64_3_1_2_3_01_02 none (res_main_v69 X) (res_main_v18 X) (ix4 b h t d)) (res_main_v71 X (ix4 b h t 0))) _ :=
    (congrArg (fun z : EReal => Ideal.div z (res_main_v71 X (ix4 b h t 0))) (weighted (res_main_v69 X) (res_main_v18 X) b h t d)).trans
      (own_result b h t 512#32 4#32 (res_main_v76 X) (res_main_v71 X) (res_main_v69 X) (res_main_v18 X) (comes2 b h t hY) o2 d
        (fun k => Y (16 + h.val / 2) (b.val * 8192 + k.val) (h.val % 2 * 64 + d.val)) (fun k => values_at hY b h k d))
  have q3 : @Eq EReal (Ideal.div (Host.dotGeneral (F := Ideal) (φ₁ := .f32) (φ₂ := .f32) dot_S2x16x8192x8192_S2x8192x16x64_S2x16x8192x64_3_1_2_3_01_02 none (res_main_v95 X) (res_main_v18 X) (ix4 b h t d)) (res_main_v97 X (ix4 b h t 0))) _ :=
    (congrArg (fun z : EReal => Ideal.div z (res_main_v97 X (ix4 b h t 0))) (weighted (res_main_v95 X) (res_main_v18 X) b h t d)).trans
      (own_result b h t 2048#32 16#32 (res_main_v102 X) (res_main_v97 X) (res_main_v95 X) (res_main_v18 X) (comes3 b h t hY) o3 d
        (fun k => Y (16 + h.val / 2) (b.val * 8192 + k.val) (h.val % 2 * 64 + d.val)) (fun k => values_at hY b h k d))
  unfold share
  refine (join_real _ _ _ _ _ _ _ _ _ _ _ _ ν (load_sum_pos _ _ _ _ _ t.isLt o1) (load_sum_pos _ _ _ _ _ t.isLt o2) (load_sum_pos _ _ _ _ _ t.isLt o3)
    s1 s2 s3 q1 q2 q3).trans ?_
  refine congrArg (fun z : ℝ => (z : EReal)) ?_
  unfold attention
  exact three_sums _ _ _ _ _ fun k => heft_eq b.val h.val t.val k.val

theorem result_at (a : Fin 8) (r : Fin 16384) (l : Fin 128) :
    @Eq EReal ((shapeCast _ (transpose S8x2x8192x2x64 [1, 0, 3, 2, 4] (shapeCast _ (truncf .bf16 (Host.divf (addf (addf (mulf (broadcastInDim S2x16x8192x64 ![0, 1, 2, 3] bcast_S2x16x8192x1_S2x16x8192x64_0_1_2_3 (res_main_v106 X)) (Host.divf (Host.dotGeneral (F := Ideal) (φ₁ := .f32) (φ₂ := .f32) dot_S2x16x8192x8192_S2x8192x16x64_S2x16x8192x64_3_1_2_3_01_02 none (res_main_v43 X) (res_main_v18 X)) (broadcastInDim S2x16x8192x64 ![0, 1, 2, 3] bcast_S2x16x8192x1_S2x16x8192x64_0_1_2_3 (res_main_v45 X)))) (mulf (broadcastInDim S2x16x8192x64 ![0, 1, 2, 3] bcast_S2x16x8192x1_S2x16x8192x64_0_1_2_3 (res_main_v108 X)) (Host.divf (Host.dotGeneral (F := Ideal) (φ₁ := .f32) (φ₂ := .f32) dot_S2x16x8192x8192_S2x8192x16x64_S2x16x8192x64_3_1_2_3_01_02 none (res_main_v69 X) (res_main_v18 X)) (broadcastInDim S2x16x8192x64 ![0, 1, 2, 3] bcast_S2x16x8192x1_S2x16x8192x64_0_1_2_3 (res_main_v71 X))))) (mulf (broadcastInDim S2x16x8192x64 ![0, 1, 2, 3] bcast_S2x16x8192x1_S2x16x8192x64_0_1_2_3 (res_main_v110 X)) (Host.divf (Host.dotGeneral (F := Ideal) (φ₁ := .f32) (φ₂ := .f32) dot_S2x16x8192x8192_S2x8192x16x64_S2x16x8192x64_3_1_2_3_01_02 none (res_main_v95 X) (res_main_v18 X)) (broadcastInDim S2x16x8192x64 ![0, 1, 2, 3] bcast_S2x16x8192x1_S2x16x8192x64_0_1_2_3 (res_main_v97 X))))) (broadcastInDim S2x16x8192x64 ![0, 1, 2, 3] bcast_S2x16x8192x1_S2x16x8192x64_0_1_2_3 (addf (addf (res_main_v106 X) (res_main_v108 X)) (res_main_v110 X)))) bitsLt_bf16_f32) shapeCasts_S2x16x8192x64_S2x8x2x8192x64) transposes_S2x8x2x8192x64_S8x2x8192x2x64_1_0_3_2_4) shapeCasts_S8x2x8192x2x64_S8x16384x128 : FVec Ideal S8x16384x128 .bf16) (ix3 a r l))
      ((attention Y (r.val / 8192) (2 * a.val + l.val / 64) (r.val % 8192) l.val : ℝ) : EReal) := by
  refine (laid _ a r l).trans ((joined _ _ _ _ (res_main_v106 X) (res_main_v108 X) (res_main_v110 X) (res_main_v45 X) (res_main_v71 X) (res_main_v97 X) _ _ _).trans
    ((attends hY _ _ _ _).trans ?_))
  have e : (a.val * 2 + l.val / 64) % 2 * 64 + l.val % 64 = l.val := by omega
  refine congrArg (fun z : ℝ => (z : EReal)) ?_
  show attention Y (r.val / 8192) (a.val * 2 + l.val / 64) (r.val % 8192) ((a.val * 2 + l.val / 64) % 2 * 64 + l.val % 64) = _
  rw [e, mul_comm a.val 2]

omit hY in
/-- The reference computes the attention. -/
theorem run_attention (m : (ℓ : Loc nD τ sig) → Buf (Elt Ideal) ℓ) (ρ : Dev nD → PrngReg) (Z : Dev nD → ℕ → ℕ → ℕ → ℝ)
    (hZ : ∀ c, Is (launchContents m c) (Z c)) (G : (c : Dev nD) → Buf (Elt Ideal) ((c.tc : Thread nD τ).loc main_v126))
    (hG : ∀ (c : Dev nD) (a : Fin 8) (r : Fin 16384) (l : Fin 128), @Eq EReal (G c (ix3 a r l)) ((attention (Z c) (r.val / 8192) (2 * a.val + l.val / 64) (r.val % 8192) l.val : ℝ) : EReal)) :
    θ_run defs (onTc (τ := τ) (main (F := Ideal))) ⟨m, fun _ => 0, ρ⟩ fun r => ∀ c : Dev nD,
      r.2.mem ((c.tc : Thread nD τ).loc main_v126) = G c
      ∧ r.2.mem ((c.tc : Thread nD τ).loc main_arg0) = m ((c.tc : Thread nD τ).loc main_arg0) :=
  (θ_run defs _ _).mono (fun r h c => ⟨(h c).1.trans (by
    funext i
    idx_vars i
    exact (result_at (hZ c) i0 i1 i2).trans (hG c i0 i1 i2).symm), (h c).2⟩) (run (F := Ideal) m ρ)

end Cert.Proof.ReferenceIdeal
end
-- ==== Proof.Finite.lean ====
/-
  The precondition, that every input element is finite, read over the extended reals: every element is a real.
-/
module

public import proofs.«01_k».proof.Pre_finite
public import Idealize.ShloMosaic.Lib.Pointwise
public import Idealize.ShloMosaic.Lib.ReduceAll

@[expose] public section

set_option maxRecDepth 16384

noncomputable section

namespace Cert.Proof.Finite

open Cert.Pre_finite Idealize.ShloMosaic

theorem facts : Cert.Pre_finite.Facts where
  bitsLt_bf16_f32 := by decide
  bcast_S_S24x16384x128 := by decide
  reducesTo_S24x16384x128_S_d0_1_2 := by decide
  h_S_ := by decide

theorem bits_inf : Ideal.ofBits FTy.f32 0x7F800000#32 = ⊤ := by
  simp [Ideal.ofBits, Ideal.ieee]

/-- A number whose absolute value is below infinity is a real. -/
theorem real_of_lt (x : EReal) (h : Ideal.cmp .olt (max x (-x)) (Ideal.ofBits FTy.f32 0x7F800000#32) = 1#1) : ∃ v : ℝ, x = v := by
  rw [bits_inf] at h
  induction x using EReal.rec with
  | bot => simp [Ideal.cmp] at h
  | coe v => exact ⟨v, rfl⟩
  | top => simp [Ideal.cmp] at h

instance : Subsingleton S_.Idx := ⟨fun a b => funext fun i => i.elim0⟩

/-- Under the precondition every element is a real. -/
theorem real_at (f : Cert.Pre_finite.Facts) (x : FVec Ideal S24x16384x128 .bf16) (h : Cert.Pre_finite.fn (F := Ideal) x = fun _ => 1#1) (i : S24x16384x128.Idx) :
    ∃ v : ℝ, @Eq EReal (x i) v := by
  have e : Host.reduce IntOp.andi (cmpf .olt (Host.absf (extf .f32 x f.bitsLt_bf16_f32))
      (broadcastInDim S24x16384x128 ![] f.bcast_S_S24x16384x128 (constant S_ .f32 0x7F800000#32))) (constantI S_ 1 1#1)
      f.reducesTo_S24x16384x128_S_d0_1_2 f.h_S_ (fun a => a.elim0) = 1#1 := by
    unfold fn at h
    exact congrFun h _
  have e' := Host.reduce_andi_all _ _ _ _ _ e i
  exact real_of_lt (x i) e'

end Cert.Proof.Finite
end
-- ==== Proof.Ple.lean ====
/-
  The per-layer embedding: each row gated by the logistic of its normalised products.
-/
module

public import proofs.«01_k».proof.Defs
public import proofs.«01_k».proof.Proof.Gen.KernelPleIdeal.Value
public import proofs.«01_k».proof.Proof.Gen.ReferencePleIdeal.Run
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.Ple

open Idealize.ShloMosaic Idealize.ShloMosaic.TcCoe Idealize.SL.Sem

/-- The factor a row is normalised by. -/
def scale (h : Fin 1024 → EReal) : EReal :=
  Ideal.rsqrt (Ideal.div (∑ j : Fin 1024, h j * h j) (Ideal.ofBits .f32 0x44800000#32) + Ideal.ofBits .f32 0x358637BD#32)

/-- One entry of the result, of its row of the input, the gains, its row of the embedding and its columns of the weights. -/
def entry (h g : Fin 1024 → EReal) (p : Fin 256 → EReal) (wg : Fin 1024 → EReal) (wu : Fin 256 → EReal) (x : EReal) : EReal :=
  x + (∑ j : Fin 256, p j * wu j) * Ideal.logistic (∑ k : Fin 1024, h k * scale h * g k * wg k)

end Cert.Proof.Ple

namespace Cert.Proof.KernelPleIdeal

open Cert.KernelPleIdeal Cert.KernelPleIdeal.Gen
open Idealize.ShloMosaic Idealize.ShloMosaic.TcCoe Idealize.SL.Sem

/-- The body's result at an index. -/
theorem payload (x : FVec Ideal S512x1024 .f32) (g : FVec Ideal S1x1024 .f32) (wg : FVec Ideal S1024x1024 .bf16) (p : FVec Ideal S512x256 .f32)
    (wu : FVec Ideal S256x1024 .bf16) (r : Fin 512) (l : Fin 1024) :
    @Eq EReal (k0_pay1 (F := Ideal) x g wg p wu (ix2 r l))
      (Ple.entry (fun k => x (ix2 r k)) (fun k => g (ix2 0 k)) (fun k => p (ix2 r k)) (fun k => wg (ix2 k l)) (fun k => wu (ix2 k l)) (x (ix2 r l))) := by
  unfold Ple.entry Ple.scale
  pointwise [k0_pay1]

variable (m : (ℓ : Loc nD τ sig) → Buf (Elt Ideal) ℓ) (c : Dev nD)

/-- The entry of a row and a lane. -/
def entryAt (h : S16384x1024.Idx → EReal) (g : S1024.Idx → EReal) (p : S16384x256.Idx → EReal) (wg : S1024x1024.Idx → EReal) (wu : S256x1024.Idx → EReal)
    (r : Fin 16384) (l : Fin 1024) : EReal :=
  Ple.entry (fun k => h (ix2 r k)) (fun k => g (ix1 k)) (fun k => p (ix2 r k)) (fun k => wg (ix2 k l)) (fun k => wu (ix2 k l)) (h (ix2 r l))

/-- The result of its arguments. -/
def embed (h : S16384x1024.Idx → EReal) (g : S1024.Idx → EReal) (p : S16384x256.Idx → EReal) (wg : S1024x1024.Idx → EReal) (wu : S256x1024.Idx → EReal) :
    S16384x1024.Idx → EReal := fun i => entryAt h g p wg wu ⟨(i 0).val, (i 0).isLt⟩ ⟨(i 1).val, (i 1).isLt⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel

variable (t : Fin cfg0.N)

theorem rows_of (r : Fin 512) : t.val * 512 + r.val < 16384 := by
  have hN : t.val < 32 := t.isLt
  omega

theorem read_h (r : Fin 512) (k : Fin 1024) :
    @Eq EReal (iblk m c 0 t (ix2 r k)) (m (c, Proc.devRef .tc main_arg0) (ix2 ⟨t.val * 512 + r.val, rows_of t r⟩ k)) := by
  blk_ext [iblk, V_main_arg0, index0 t]

theorem read_p (r : Fin 512) (k : Fin 256) :
    @Eq EReal (iblk m c 2 t (ix2 r k)) (m (c, Proc.devRef .tc main_arg2) (ix2 ⟨t.val * 512 + r.val, rows_of t r⟩ k)) := by
  blk_ext [iblk, V_main_arg2, index2 t]

theorem gains (k : Fin 1024) : @Eq EReal (V m c main_v2 (ix2 0 k)) (m (c, Proc.devRef .tc main_arg1) (ix1 k)) := by
  after_reads_at

theorem gate_weights (k l : Fin 1024) : @Eq EReal (V m c main_v0 (ix2 k l)) (m (c, Proc.devRef .tc main_arg3) (ix2 k l)) := by
  after_reads_at

theorem up_weights (k : Fin 256) (l : Fin 1024) : @Eq EReal (V m c main_v1 (ix2 k l)) (m (c, Proc.devRef .tc main_arg4) (ix2 k l)) := by
  after_reads_at

theorem read_g (k : Fin 1024) : @Eq EReal (iblk m c 1 t (ix2 0 k)) (m (c, Proc.devRef .tc main_arg1) (ix1 k)) := by
  refine Eq.trans (b := (V m c main_v2 (ix2 0 k) : EReal)) ?_ (gains m c k)
  blk_ext [iblk, index1 t]

theorem read_wg (k l : Fin 1024) : @Eq EReal (iblk m c 3 t (ix2 k l)) (m (c, Proc.devRef .tc main_arg3) (ix2 k l)) := by
  refine Eq.trans (b := (V m c main_v0 (ix2 k l) : EReal)) ?_ (gate_weights m c k l)
  blk_ext [iblk, index3 t]

theorem read_wu (k : Fin 256) (l : Fin 1024) : @Eq EReal (iblk m c 4 t (ix2 k l)) (m (c, Proc.devRef .tc main_arg4) (ix2 k l)) := by
  refine Eq.trans (b := (V m c main_v1 (ix2 k l) : EReal)) ?_ (up_weights m c k l)
  blk_ext [iblk, index4 t]

/-- The kernel's result from a device's arguments. -/
def result : S16384x1024.Idx → EReal :=
  embed (m (c, Proc.devRef .tc main_arg0)) (m (c, Proc.devRef .tc main_arg1)) (m (c, Proc.devRef .tc main_arg2)) (m (c, Proc.devRef .tc main_arg3)) (m (c, Proc.devRef .tc main_arg4))

theorem block_at (r : Fin 512) (l : Fin 1024) :
    @Eq EReal ((dats m 0 c).after 5 t (ix2 r l)) (result m c (ix2 ⟨t.val * 512 + r.val, rows_of t r⟩ l)) := by
  rw [after0_5]
  refine Eq.trans (b := (k0_pay1 (F := Ideal) (iblk m c 0 t) (iblk m c 1 t) (iblk m c 3 t) (iblk m c 2 t) (iblk m c 4 t) (ix2 r l) : EReal)) (by frame_out) ?_
  refine (payload _ _ _ _ _ r l).trans ?_
  have e0 := fun k => read_h m c t r k
  have e1 := fun k => read_g m c t k
  have e2 := fun k => read_p m c t r k
  have e3 := fun k => read_wg m c t k l
  have e4 := fun k => read_wu m c t k l
  exact congr (congr (congr (congr (congr (congrArg Ple.entry (funext e0)) (funext e1)) (funext e2)) (funext e3)) (funext e4)) (e0 l)

theorem covers_out : ((cfgs 0).win 5).Covers := by decide +kernel

theorem out_array : (dats m 0 c).arrAt 5 (cfgs 0).N = result m c := by
  refine (dats m 0 c).arrAt_eq_of_covers 5 _ covers_out fun t hf y => ?_
  idx_vars y
  refine (block_at m c t y0 y1).trans ?_
  unfold result embed
  blk_simp [index5 t]

end Cert.Proof.KernelPleIdeal

namespace Cert.Proof.ReferencePleIdeal

open Cert.ReferencePleIdeal Cert.ReferencePleIdeal.Gen Cert.ReferencePleIdeal.Value
open Idealize.ShloMosaic Idealize.ShloMosaic.TcCoe Idealize.SL.Sem Idealize.ShloMosaic.StableHlo

/-- The normalised rows. -/
theorem normed (h : FVec Ideal S16384x1024 .f32) (g : FVec Ideal S1024 .f32) (r : Fin 16384) (k : Fin 1024) :
    @Eq EReal ((mulf (F := Ideal) (mulf (F := Ideal) h (broadcastInDim S16384x1024 ![0, 1] bcast_S16384x1_S16384x1024_0_1 (Host.rsqrt (F := Ideal) (addf (F := Ideal) (Host.divf (F := Ideal) (broadcastInDim S16384x1 ![0] bcast_S16384_S16384x1_0 (Host.reduceAdd (F := Ideal) (mulf (F := Ideal) h h) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g))) (ix2 r k))
      (h (ix2 r k) * Ple.scale (fun j => h (ix2 r j)) * g (ix1 k)) := by
  unfold Ple.scale
  pointwise

/-- The gated sum. -/
theorem gated (h n : FVec Ideal S16384x1024 .f32) (p : FVec Ideal S16384x256 .f32) (wg : FVec Ideal S1024x1024 .f32) (wu : FVec Ideal S256x1024 .f32)
    (r : Fin 16384) (l : Fin 1024) :
    @Eq EReal ((addf (F := Ideal) h (mulf (F := Ideal) (Host.dotGeneral (F := Ideal) (φ₁ := .f32) (φ₂ := .f32) dot_S16384x256_S256x1024_S16384x1024_1_0_0_1_n_n none p wu) (Host.divf (F := Ideal) (broadcastInDim S16384x1024 ![] bcast_S_S16384x1024 (constant (F := Ideal) S_ .f32 0x3F800000#32)) (addf (F := Ideal) (broadcastInDim S16384x1024 ![] bcast_S_S16384x1024 (constant (F := Ideal) S_ .f32 0x3F800000#32)) (Host.exp (F := Ideal) (Host.negf (F := Ideal) (Host.dotGeneral (F := Ideal) (φ₁ := .f32) (φ₂ := .f32) dot_S16384x1024_S1024x1024_S16384x1024_1_0_0_1_n_n none n wg))))))) (ix2 r l))
      (h (ix2 r l) + (∑ j : Fin 256, p (ix2 r j) * wu (ix2 j l)) * Ideal.logistic (∑ k : Fin 1024, n (ix2 r k) * wg (ix2 k l))) := by
  unfold Ideal.logistic
  pointwise

theorem gated_normed (h : FVec Ideal S16384x1024 .f32) (g : FVec Ideal S1024 .f32) (p : FVec Ideal S16384x256 .f32) (wg : FVec Ideal S1024x1024 .f32)
    (wu : FVec Ideal S256x1024 .f32) (r : Fin 16384) (l : Fin 1024) :
    @Eq EReal ((addf (F := Ideal) h (mulf (F := Ideal) (Host.dotGeneral (F := Ideal) (φ₁ := .f32) (φ₂ := .f32) dot_S16384x256_S256x1024_S16384x1024_1_0_0_1_n_n none p wu) (Host.divf (F := Ideal) (broadcastInDim S16384x1024 ![] bcast_S_S16384x1024 (constant (F := Ideal) S_ .f32 0x3F800000#32)) (addf (F := Ideal) (broadcastInDim S16384x1024 ![] bcast_S_S16384x1024 (constant (F := Ideal) S_ .f32 0x3F800000#32)) (Host.exp (F := Ideal) (Host.negf (F := Ideal) (Host.dotGeneral (F := Ideal) (φ₁ := .f32) (φ₂ := .f32) dot_S16384x1024_S1024x1024_S16384x1024_1_0_0_1_n_n none (mulf (F := Ideal) (mulf (F := Ideal) h (broadcastInDim S16384x1024 ![0, 1] bcast_S16384x1_S16384x1024_0_1 (Host.rsqrt (F := Ideal) (addf (F := Ideal) (Host.divf (F := Ideal) (broadcastInDim S16384x1 ![0] bcast_S16384_S16384x1_0 (Host.reduceAdd (F := Ideal) (mulf (F := Ideal) h h) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g))) wg))))))) (ix2 r l))
      (KernelPleIdeal.entryAt h g p wg wu r l) := by
  refine (gated h _ p wg wu r l).trans ?_
  unfold KernelPleIdeal.entryAt Ple.entry
  exact congrArg (fun z : EReal => h (ix2 r l) + (∑ j : Fin 256, p (ix2 r j) * wu (ix2 j l)) * Ideal.logistic z)
    (Finset.sum_congr rfl fun k _ => congrArg (fun z : EReal => z * wg (ix2 k l)) (normed h g r k))

variable (m : (ℓ : Loc nD τ sig) → Buf (Elt Ideal) ℓ) (c : Dev nD)

/-- The reference's result from a device's arguments. -/
def result : S16384x1024.Idx → EReal :=
  KernelPleIdeal.embed (m (c, Proc.devRef .tc main_arg0)) (m (c, Proc.devRef .tc main_arg1)) (m (c, Proc.devRef .tc main_arg2)) (m (c, Proc.devRef .tc main_arg3)) (m (c, Proc.devRef .tc main_arg4))

/-- The reference computes the gated rows. -/
theorem run_embed (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    funext i
    idx_vars i
    exact gated_normed _ _ _ _ _ i0 i1), (h c).2⟩) (run (F := Ideal) m ρ)

end Cert.Proof.ReferencePleIdeal

namespace Cert.Proof

open Idealize.ShloMosaic Idealize.ShloMosaic.TcCoe Idealize.SL.Sem

theorem frame_ple_reference : Cert.quiescent_ReferencePleIdeal := fun m g _ =>
  (θ_run Cert.ReferencePleIdeal.defs _ _).mono
    (fun r h => ⟨fun c => (h c).2, Idealize.ShloMosaic.sem_eq_zero_of_no_sems (by decide) r.2⟩)
    (Cert.ReferencePleIdeal.Value.run (F := Ideal) m g)

theorem algebraic_ple : Cert.algebraic_KernelPleIdeal_ReferencePleIdeal := fun m g m' g' _ hm => by
  have hR : ∀ c, ReferencePleIdeal.result m' c = KernelPleIdeal.result m c := fun c => by
    obtain ⟨e0, e1, e2, e3, e4⟩ := hm c
    have e := congr (congr (congr (congr (congrArg KernelPleIdeal.embed e0) e1) e2) e3) e4
    exact e
  refine ⟨fun c => KernelPleIdeal.result m c, ?_, ?_⟩
  · exact (θ_run _ _ _).mono (fun r h c => ⟨(h c).1.trans (KernelPleIdeal.out_array m c), (h c).2⟩) (Cert.KernelPleIdeal.Value.run_blocks m g)
  · exact (θ_run _ _ _).mono (fun r h c => ⟨(h c).1.trans (hR c), (h c).2⟩) (ReferencePleIdeal.run_embed m' g')

end Cert.Proof
end
-- ==== Proof.Out.lean ====
/-
  The output projections: each row's heads, laid side by side, times the weights, added to the row.
-/
module

public import proofs.«01_k».proof.Defs
public import proofs.«01_k».proof.Proof.Gen.KernelOutIdeal.Value
public import proofs.«01_k».proof.Proof.Gen.KernelOut2Ideal.Value
public import proofs.«01_k».proof.Proof.Gen.ReferenceOutIdeal.Run
public import proofs.«01_k».proof.Proof.Gen.ReferenceOut2Ideal.Run
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.Out

open Idealize.ShloMosaic Idealize.SL.Sem

/-- A row of 1024 lanes times a matrix, added to an array. -/
def project (q : Fin 16384 → Fin 1024 → EReal) (w : Cert.KernelOutIdeal.S1024x1024.Idx → EReal) (h : Cert.KernelOutIdeal.S16384x1024.Idx → EReal) (r : Fin 16384) (l : Fin 1024) : EReal :=
  h (ix2 r l) + ∑ k : Fin 1024, q r k * w (ix2 k l)

/-- Its array. -/
def projected (q : Fin 16384 → Fin 1024 → EReal) (w : Cert.KernelOutIdeal.S1024x1024.Idx → EReal) (h : Cert.KernelOutIdeal.S16384x1024.Idx → EReal) :
    Cert.KernelOutIdeal.S16384x1024.Idx → EReal := fun i => project q w h ⟨(i 0).val, (i 0).isLt⟩ ⟨(i 1).val, (i 1).isLt⟩

/-- The lanes of a row of eight chunks. -/
def lanes (o : Cert.KernelOutIdeal.S8x16384x128.Idx → EReal) (r : Fin 16384) (k : Fin 1024) : EReal :=
  o (ix3 ⟨k.val / 128, by omega⟩ r ⟨k.val % 128, by omega⟩)

/-- The lanes of a row of four chunks and four more. -/
def either (a b : Cert.KernelOut2Ideal.S4x16384x128.Idx → EReal) (r : Fin 16384) (k : Fin 1024) : EReal :=
  if h : k.val < 512 then a (ix3 ⟨k.val / 128, by omega⟩ r ⟨k.val % 128, by omega⟩) else b (ix3 ⟨k.val / 128 - 4, by omega⟩ r ⟨k.val % 128, by omega⟩)

/-- Eight pieces of 128 laid side by side, read at a lane. -/
theorem eight (f : Fin 8 → Fin 128 → EReal) (k : Fin 1024) :
    (if h : k.val < 128 then f 0 ⟨k.val, by omega⟩ else if h : k.val - 128 < 128 then f 1 ⟨k.val - 128, by omega⟩ else if h : k.val - 128 - 128 < 128 then f 2 ⟨k.val - 128 - 128, by omega⟩ else if h : k.val - 128 - 128 - 128 < 128 then f 3 ⟨k.val - 128 - 128 - 128, by omega⟩ else if h : k.val - 128 - 128 - 128 - 128 < 128 then f 4 ⟨k.val - 128 - 128 - 128 - 128, by omega⟩ else if h : k.val - 128 - 128 - 128 - 128 - 128 < 128 then f 5 ⟨k.val - 128 - 128 - 128 - 128 - 128, by omega⟩ else if h : k.val - 128 - 128 - 128 - 128 - 128 - 128 < 128 then f 6 ⟨k.val - 128 - 128 - 128 - 128 - 128 - 128, by omega⟩ else f 7 ⟨k.val - 128 - 128 - 128 - 128 - 128 - 128 - 128, by omega⟩ : EReal)
      = f ⟨k.val / 128, by omega⟩ ⟨k.val % 128, by omega⟩ := by
  have key : ∀ (a : Fin 8) (d : Fin 128), a.val = k.val / 128 → d.val = k.val % 128 → f a d = f ⟨k.val / 128, by omega⟩ ⟨k.val % 128, by omega⟩ := fun a d ha hd =>
    congr (congrArg f (Fin.ext ha)) (Fin.ext hd)
  split_ifs <;> exact key _ _ (by simp; omega) (by simp only []; omega)

/-- Chunk `j` of a block of chunks. -/
def slab {n : ℕ} (x : (⟨3, ![n, 512, 128]⟩ : Shape).Idx → EReal) (j : Fin n) : Cert.KernelOutIdeal.S1x512x128.Idx → EReal :=
  fun i => x (ix3 j ⟨(i 1).val, (i 1).isLt⟩ ⟨(i 2).val, (i 2).isLt⟩)

theorem ld_slab {n : ℕ} (x : (⟨3, ![n, 512, 128]⟩ : Shape).Idx → EReal) (j : Fin n) (off : Fin 3 → ℕ) (inb) (h0 : off 0 = j.val) (h1 : off 1 = 0) (h2 : off 2 = 0) :
    View.ld (Val := Elt Ideal) (e' := .bf16) (S := ⟨3, ![n, 512, 128]⟩) x (Rect.unit (s := ⟨3, ![n, 512, 128]⟩) off ![1, 512, 128] inb) = slab x j := by
  funext i
  refine View.ld_unit_apply_of (Val := Elt Ideal) (e := .bf16) x off ![1, 512, 128] inb i _ fun a => ?_
  have hi : (i 0).val < 1 := (i 0).isLt
  match a with
  | 0 => show j.val = off 0 + (i 0).val; omega
  | 1 => show (i 1).val = off 1 + (i 1).val; omega
  | 2 => show (i 2).val = off 2 + (i 2).val; omega

end Cert.Proof.Out

namespace Cert.Proof.KernelOutIdeal

open Cert.KernelOutIdeal Cert.KernelOutIdeal.Gen
open Idealize.ShloMosaic Idealize.ShloMosaic.TcCoe Idealize.SL.Sem

/-- The body's result at an index, of its eight chunks. -/
theorem glued (o : Fin 8 → S1x512x128.Idx → EReal) (h : FVec Ideal S512x1024 .f32) (w : FVec Ideal S1024x1024 .bf16) (r : Fin 512) (l : Fin 1024) :
    @Eq EReal (k0_pay1 (F := Ideal) (o 0) (o 1) (o 2) (o 3) (o 4) (o 5) (o 6) (o 7) h w (ix2 r l))
      (h (ix2 r l) + ∑ k : Fin 1024, o ⟨k.val / 128, by omega⟩ (ix3 0 r ⟨k.val % 128, by omega⟩) * w (ix2 k l)) := by
  pointwise [k0_pay1]
  exact congrArg (fun z : EReal => h (ix2 r l) + z) (Finset.sum_congr rfl fun k _ => congrArg (fun z : EReal => z * w (ix2 k l))
    (Out.eight (fun a d => o a (ix3 0 r d)) k))

variable (m : (ℓ : Loc nD τ sig) → Buf (Elt Ideal) ℓ) (c : Dev nD)

/-- The kernel's result from a device's arguments. -/
def result : S16384x1024.Idx → EReal :=
  Out.projected (Out.lanes (m (c, Proc.devRef .tc main_arg0))) (m (c, Proc.devRef .tc main_arg1)) (m (c, Proc.devRef .tc main_arg2))

theorem index0 : ∀ t : Fin grid0.N, win0_0.index t = ![0, t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel

theorem weights (k l : Fin 1024) : @Eq EReal (V m c main_v0 (ix2 k l)) (m (c, Proc.devRef .tc main_arg1) (ix2 k l)) := by
  after_reads_at

variable (t : Fin cfg0.N)

theorem rows_of (r : Fin 512) : t.val * 512 + r.val < 16384 := by
  have hN : t.val < 32 := t.isLt
  omega

theorem read_w (k l : Fin 1024) : @Eq EReal (iblk m c 1 t (ix2 k l)) (m (c, Proc.devRef .tc main_arg1) (ix2 k l)) := by
  refine Eq.trans (b := (V m c main_v0 (ix2 k l) : EReal)) ?_ (weights m c k l)
  blk_ext [iblk, index1 t]

theorem read_h (r : Fin 512) (k : Fin 1024) :
    @Eq EReal (iblk m c 2 t (ix2 r k)) (m (c, Proc.devRef .tc main_arg2) (ix2 ⟨t.val * 512 + r.val, rows_of t r⟩ k)) := by
  blk_ext [iblk, V_main_arg2, index2 t]

theorem read_o0 (a : Fin 8) (r : Fin 512) (d : Fin 128) :
    @Eq EReal (iblk m c 0 t (ix3 a r d)) (m (c, Proc.devRef .tc main_arg0) (ix3 a ⟨t.val * 512 + r.val, rows_of t r⟩ d)) := by
  blk_ext [iblk, V_main_arg0, index0 t]

/-- The chunks the body reads. -/
def chunk (j : Fin 8) : S1x512x128.Idx → EReal := Out.slab (n := 8) (iblk m c 0 t) j

theorem chunk_at (r : Fin 512) (k : Fin 1024) :
    chunk m c t ⟨k.val / 128, by omega⟩ (ix3 0 r ⟨k.val % 128, by omega⟩) = Out.lanes (m (c, Proc.devRef .tc main_arg0)) ⟨t.val * 512 + r.val, rows_of t r⟩ k :=
  read_o0 m c t _ r _

theorem block_at (r : Fin 512) (l : Fin 1024) :
    @Eq EReal ((dats m 0 c).after 3 t (ix2 r l)) (result m c (ix2 ⟨t.val * 512 + r.val, rows_of t r⟩ l)) := by
  rw [after0_3]
  refine Eq.trans (b := (k0_pay1 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (iblk m c 2 t) (iblk m c 1 t) (ix2 r l) : EReal)) (by frame_out; rfl) ?_
  refine Eq.trans (b := (k0_pay1 (F := Ideal) (chunk m c t 0) (chunk m c t 1) (chunk m c t 2) (chunk m c t 3) (chunk m c t 4) (chunk m c t 5) (chunk m c t 6) (chunk m c t 7) (iblk m c 2 t) (iblk m c 1 t) (ix2 r l) : EReal)) ?_ ?_
  · rw [Out.ld_slab (n := 8) (iblk m c 0 t) 0 _ _ rfl rfl rfl, Out.ld_slab (n := 8) (iblk m c 0 t) 1 _ _ rfl rfl rfl, Out.ld_slab (n := 8) (iblk m c 0 t) 2 _ _ rfl rfl rfl, Out.ld_slab (n := 8) (iblk m c 0 t) 3 _ _ rfl rfl rfl, Out.ld_slab (n := 8) (iblk m c 0 t) 4 _ _ rfl rfl rfl, Out.ld_slab (n := 8) (iblk m c 0 t) 5 _ _ rfl rfl rfl, Out.ld_slab (n := 8) (iblk m c 0 t) 6 _ _ rfl rfl rfl, Out.ld_slab (n := 8) (iblk m c 0 t) 7 _ _ rfl rfl rfl]
    rfl
  refine (glued (chunk m c t) _ _ r l).trans ?_
  refine congrArg₂ (fun y z : EReal => y + z) (read_h m c t r l) (Finset.sum_congr rfl fun k _ => ?_)
  exact congrArg₂ (fun y z : EReal => y * z) (chunk_at m c t r k) (read_w m c t k l)

theorem covers_out : ((cfgs 0).win 3).Covers := by decide +kernel

theorem out_array : (dats m 0 c).arrAt 3 (cfgs 0).N = result m c := by
  refine (dats m 0 c).arrAt_eq_of_covers 3 _ covers_out fun t hf y => ?_
  idx_vars y
  refine (block_at m c t y0 y1).trans ?_
  unfold result Out.projected
  blk_simp [index3 t]

end Cert.Proof.KernelOutIdeal

namespace Cert.Proof.ReferenceOutIdeal

open Cert.ReferenceOutIdeal Cert.ReferenceOutIdeal.Gen Cert.ReferenceOutIdeal.Value
open Idealize.ShloMosaic Idealize.ShloMosaic.TcCoe Idealize.SL.Sem Idealize.ShloMosaic.StableHlo

/-- The reference's operations, read at an index. -/
theorem whole (o : FVec Ideal S8x16384x128 .bf16) (w : FVec Ideal S1024x1024 .f32) (h : FVec Ideal S16384x1024 .f32) (r : Fin 16384) (l : Fin 1024) :
    @Eq EReal (addf (F := Ideal) h (Host.dotGeneral (F := Ideal) (φ₁ := .f32) (φ₂ := .f32) dot_S16384x1024_S1024x1024_S16384x1024_1_0_0_1_n_n none (shapeCast _ (transpose S16384x8x128 [1, 0, 2] (extf (F := Ideal) .f32 o bitsLt_bf16_f32) transposes_S8x16384x128_S16384x8x128_1_0_2) shapeCasts_S16384x8x128_S16384x1024) w) (ix2 r l))
      (Out.project (Out.lanes o) w h r l) := by
  unfold Out.project Out.lanes
  pointwise

variable (m : (ℓ : Loc nD τ sig) → Buf (Elt Ideal) ℓ) (c : Dev nD)

/-- The reference's result from a device's arguments. -/
def result : S16384x1024.Idx → EReal :=
  Out.projected (Out.lanes (m (c, Proc.devRef .tc main_arg0))) (m (c, Proc.devRef .tc main_arg1)) (m (c, Proc.devRef .tc main_arg2))

/-- The reference computes the projection. -/
theorem run_project (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
    funext i
    idx_vars i
    exact whole _ _ _ i0 i1), (h c).2⟩) (run (F := Ideal) m ρ)

end Cert.Proof.ReferenceOutIdeal

namespace Cert.Proof

open Idealize.ShloMosaic Idealize.ShloMosaic.TcCoe Idealize.SL.Sem

theorem frame_out_reference : Cert.quiescent_ReferenceOutIdeal := fun m g _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m g)

theorem algebraic_out : Cert.algebraic_KernelOutIdeal_ReferenceOutIdeal := fun m g m' g' _ hm => by
  have hR : ∀ c, ReferenceOutIdeal.result m' c = KernelOutIdeal.result m c := fun c => by
    obtain ⟨e0, e1, e2⟩ := hm c
    have e := congr (congr (congrArg Out.projected (congrArg Out.lanes e0)) e1) e2
    exact e
  refine ⟨fun c => KernelOutIdeal.result m c, ?_, ?_⟩
  · exact (θ_run _ _ _).mono (fun r h c => ⟨(h c).1.trans (KernelOutIdeal.out_array m c), (h c).2⟩) (Cert.KernelOutIdeal.Value.run_blocks m g)
  · exact (θ_run _ _ _).mono (fun r h c => ⟨(h c).1.trans (hR c), (h c).2⟩) (ReferenceOutIdeal.run_project m' g')

end Cert.Proof

namespace Cert.Proof.KernelOut2Ideal

open Cert.KernelOut2Ideal Cert.KernelOut2Ideal.Gen
open Idealize.ShloMosaic Idealize.ShloMosaic.TcCoe Idealize.SL.Sem

variable (m : (ℓ : Loc nD τ sig) → Buf (Elt Ideal) ℓ) (c : Dev nD)

/-- The kernel's result from a device's arguments. -/
def result : S16384x1024.Idx → EReal :=
  Out.projected (Out.either (m (c, Proc.devRef .tc main_arg0)) (m (c, Proc.devRef .tc main_arg1))) (m (c, Proc.devRef .tc main_arg2)) (m (c, Proc.devRef .tc main_arg3))

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

theorem weights (k l : Fin 1024) : @Eq EReal (V m c main_v0 (ix2 k l)) (m (c, Proc.devRef .tc main_arg2) (ix2 k l)) := by
  after_reads_at

variable (t : Fin cfg0.N)

theorem rows_of (r : Fin 512) : t.val * 512 + r.val < 16384 := by
  have hN : t.val < 32 := t.isLt
  omega

theorem read_w (k l : Fin 1024) : @Eq EReal (iblk m c 2 t (ix2 k l)) (m (c, Proc.devRef .tc main_arg2) (ix2 k l)) := by
  refine Eq.trans (b := (V m c main_v0 (ix2 k l) : EReal)) ?_ (weights m c k l)
  blk_ext [iblk, index2 t]

theorem read_h (r : Fin 512) (k : Fin 1024) :
    @Eq EReal (iblk m c 3 t (ix2 r k)) (m (c, Proc.devRef .tc main_arg3) (ix2 ⟨t.val * 512 + r.val, rows_of t r⟩ k)) := by
  blk_ext [iblk, V_main_arg3, index3 t]

theorem read_o0 (a : Fin 4) (r : Fin 512) (d : Fin 128) :
    @Eq EReal (iblk m c 0 t (ix3 a r d)) (m (c, Proc.devRef .tc main_arg0) (ix3 a ⟨t.val * 512 + r.val, rows_of t r⟩ d)) := by
  blk_ext [iblk, V_main_arg0, index0 t]

theorem read_o1 (a : Fin 4) (r : Fin 512) (d : Fin 128) :
    @Eq EReal (iblk m c 1 t (ix3 a r d)) (m (c, Proc.devRef .tc main_arg1) (ix3 a ⟨t.val * 512 + r.val, rows_of t r⟩ d)) := by
  blk_ext [iblk, V_main_arg1, index1 t]

/-- The chunks the body reads. -/
def chunk (j : Fin 8) : S1x512x128.Idx → EReal :=
  if h : j.val < 4 then Out.slab (n := 4) (iblk m c 0 t) ⟨j.val, h⟩ else Out.slab (n := 4) (iblk m c 1 t) ⟨j.val - 4, by omega⟩

theorem chunk_at (r : Fin 512) (k : Fin 1024) :
    chunk m c t ⟨k.val / 128, by omega⟩ (ix3 0 r ⟨k.val % 128, by omega⟩)
      = Out.either (m (c, Proc.devRef .tc main_arg0)) (m (c, Proc.devRef .tc main_arg1)) ⟨t.val * 512 + r.val, rows_of t r⟩ k := by
  unfold chunk Out.either
  by_cases h : k.val < 512
  · rw [dif_pos h, dif_pos (show k.val / 128 < 4 by omega)]
    exact read_o0 m c t _ r _
  · rw [dif_neg h, dif_neg (show ¬ k.val / 128 < 4 by omega)]
    exact read_o1 m c t _ r _

theorem block_at (r : Fin 512) (l : Fin 1024) :
    @Eq EReal ((dats m 0 c).after 4 t (ix2 r l)) (result m c (ix2 ⟨t.val * 512 + r.val, rows_of t r⟩ l)) := by
  rw [after0_4]
  refine Eq.trans (b := (k0_pay1 (F := Ideal) (View.ld (iblk m c 0 t) r0_0) (View.ld (iblk m c 0 t) r0_1) (View.ld (iblk m c 0 t) r0_2) (View.ld (iblk m c 0 t) r0_3) (View.ld (iblk m c 1 t) r0_0) (View.ld (iblk m c 1 t) r0_1) (View.ld (iblk m c 1 t) r0_2) (View.ld (iblk m c 1 t) r0_3) (iblk m c 3 t) (iblk m c 2 t) (ix2 r l) : EReal)) (by frame_out; rfl) ?_
  refine Eq.trans (b := (k0_pay1 (F := Ideal) (chunk m c t 0) (chunk m c t 1) (chunk m c t 2) (chunk m c t 3) (chunk m c t 4) (chunk m c t 5) (chunk m c t 6) (chunk m c t 7) (iblk m c 3 t) (iblk m c 2 t) (ix2 r l) : EReal)) ?_ ?_
  · rw [Out.ld_slab (n := 4) (iblk m c 0 t) 0 _ _ rfl rfl rfl, Out.ld_slab (n := 4) (iblk m c 0 t) 1 _ _ rfl rfl rfl, Out.ld_slab (n := 4) (iblk m c 0 t) 2 _ _ rfl rfl rfl, Out.ld_slab (n := 4) (iblk m c 0 t) 3 _ _ rfl rfl rfl, Out.ld_slab (n := 4) (iblk m c 1 t) 0 _ _ rfl rfl rfl, Out.ld_slab (n := 4) (iblk m c 1 t) 1 _ _ rfl rfl rfl, Out.ld_slab (n := 4) (iblk m c 1 t) 2 _ _ rfl rfl rfl, Out.ld_slab (n := 4) (iblk m c 1 t) 3 _ _ rfl rfl rfl]
    rfl
  refine (KernelOutIdeal.glued (chunk m c t) _ _ r l).trans ?_
  refine congrArg₂ (fun y z : EReal => y + z) (read_h m c t r l) (Finset.sum_congr rfl fun k _ => ?_)
  exact congrArg₂ (fun y z : EReal => y * z) (chunk_at m c t r k) (read_w m c t k l)

theorem covers_out : ((cfgs 0).win 4).Covers := by decide +kernel

theorem out_array : (dats m 0 c).arrAt 4 (cfgs 0).N = result m c := by
  refine (dats m 0 c).arrAt_eq_of_covers 4 _ covers_out fun t hf y => ?_
  idx_vars y
  refine (block_at m c t y0 y1).trans ?_
  unfold result Out.projected
  blk_simp [index4 t]

end Cert.Proof.KernelOut2Ideal

namespace Cert.Proof.ReferenceOut2Ideal

open Cert.ReferenceOut2Ideal Cert.ReferenceOut2Ideal.Gen Cert.ReferenceOut2Ideal.Value
open Idealize.ShloMosaic Idealize.ShloMosaic.TcCoe Idealize.SL.Sem Idealize.ShloMosaic.StableHlo

/-- The reference's operations, read at an index. -/
theorem whole (a b : FVec Ideal S4x16384x128 .bf16) (w : FVec Ideal S1024x1024 .f32) (h : FVec Ideal S16384x1024 .f32) (r : Fin 16384) (l : Fin 1024) :
    @Eq EReal (addf (F := Ideal) h (Host.dotGeneral (F := Ideal) (φ₁ := .f32) (φ₂ := .f32) dot_S16384x1024_S1024x1024_S16384x1024_1_0_0_1_n_n none (concatenate S16384x1024 1 [⟨S16384x512, (shapeCast S16384x512 (transpose S16384x4x128 [1, 0, 2] (extf (F := Ideal) .f32 a bitsLt_bf16_f32) transposes_S4x16384x128_S16384x4x128_1_0_2) shapeCasts_S16384x4x128_S16384x512)⟩, ⟨S16384x512, (shapeCast S16384x512 (transpose S16384x4x128 [1, 0, 2] (extf (F := Ideal) .f32 b bitsLt_bf16_f32) transposes_S4x16384x128_S16384x4x128_1_0_2) shapeCasts_S16384x4x128_S16384x512)⟩] concatenates_S16384x512_S16384x512_S16384x1024_d1) w) (ix2 r l))
      (Out.project (Out.either a b) w h r l) := by
  unfold Out.project
  pointwise
  refine congrArg (fun z : EReal => h (ix2 r l) + z) ?_
  refine Eq.trans ?_ (Fin.sum_univ_add (a := 512) (b := 512) fun k : Fin (512 + 512) => Out.either a b r k * w (ix2 k l)).symm
  refine congrArg₂ (fun y z : EReal => y + z) (Finset.sum_congr rfl fun k _ => ?_) (Finset.sum_congr rfl fun k _ => ?_)
  · unfold Out.either
    rw [dif_pos (show (Fin.castAdd 512 k).val < 512 from k.isLt)]
    rfl
  · unfold Out.either
    rw [dif_neg (show ¬ (Fin.natAdd 512 k).val < 512 from by simp)]
    have e1 : (512 + k.val) / 128 - 4 = k.val / 128 := by omega
    have e2 : (512 + k.val) % 128 = k.val % 128 := by omega
    simp only [Fin.val_natAdd, e1, e2]
    rfl

variable (m : (ℓ : Loc nD τ sig) → Buf (Elt Ideal) ℓ) (c : Dev nD)

/-- The reference's result from a device's arguments. -/
def result : S16384x1024.Idx → EReal :=
  Out.projected (Out.either (m (c, Proc.devRef .tc main_arg0)) (m (c, Proc.devRef .tc main_arg1))) (m (c, Proc.devRef .tc main_arg2)) (m (c, Proc.devRef .tc main_arg3))

/-- The reference computes the projection. -/
theorem run_project (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
    funext i
    idx_vars i
    exact whole _ _ _ _ i0 i1), (h c).2⟩) (run (F := Ideal) m ρ)

end Cert.Proof.ReferenceOut2Ideal

namespace Cert.Proof

open Idealize.ShloMosaic Idealize.ShloMosaic.TcCoe Idealize.SL.Sem

theorem frame_out2_reference : Cert.quiescent_ReferenceOut2Ideal := fun m g _ =>
  (θ_run Cert.ReferenceOut2Ideal.defs _ _).mono
    (fun r h => ⟨fun c => (h c).2, Idealize.ShloMosaic.sem_eq_zero_of_no_sems (by decide) r.2⟩)
    (Cert.ReferenceOut2Ideal.Value.run (F := Ideal) m g)

theorem algebraic_out2 : Cert.algebraic_KernelOut2Ideal_ReferenceOut2Ideal := fun m g m' g' _ hm => by
  have hR : ∀ c, ReferenceOut2Ideal.result m' c = KernelOut2Ideal.result m c := fun c => by
    obtain ⟨e0, e1, e2, e3⟩ := hm c
    have e := congr (congr (congrArg Out.projected (congr (congrArg Out.either e0) e1)) e2) e3
    exact e
  refine ⟨fun c => KernelOut2Ideal.result m c, ?_, ?_⟩
  · exact (θ_run _ _ _).mono (fun r h c => ⟨(h c).1.trans (KernelOut2Ideal.out_array m c), (h c).2⟩) (Cert.KernelOut2Ideal.Value.run_blocks m g)
  · exact (θ_run _ _ _).mono (fun r h c => ⟨(h c).1.trans (hR c), (h c).2⟩) (ReferenceOut2Ideal.run_project m' g')

end Cert.Proof
end
-- ==== Proof.Rope.lean ====
/-
  The projections' arithmetic: heads normalised and turned by their position's angles, of reals.
-/
module

public import proofs.«01_k».proof.Proof.Softmax
public import Idealize.ShloMosaic.Lib.Pointwise
public import Idealize.ShloMosaic.Lib.ValueIdx
public import Idealize.ShloMosaic.PureOps.Ideal

@[expose] public section

set_option maxHeartbeats 2000000

noncomputable section

namespace Cert.Proof.Rope

open Idealize.ShloMosaic Idealize.ShloMosaic.TcCoe Cert.Proof

/-- The factor a head of 64 columns is normalised by; `n` is any of its columns. -/
def factor (a : ℕ → EReal) (n : ℕ) : EReal :=
  Ideal.rsqrt (Ideal.div (∑ j : Fin 64, a (n / 64 * 64 + j.val) * a (n / 64 * 64 + j.val)) (Ideal.ofBits .f32 0x42800000#32) + Ideal.ofBits .f32 0x358637BD#32)

/-- A column normalised over its head. -/
def nrm (a g : ℕ → EReal) (n : ℕ) : EReal := a n * factor a n * g (n % 64)

/-- A column turned: the first sixteen of a head, eight apart. -/
def rot (b cs sn : ℕ → EReal) (n : ℕ) : EReal :=
  if n % 64 < 8 then b n * cs (n % 64) - b (n + 8) * sn (n % 64)
  else if n % 64 < 16 then b n * cs (n % 64 - 8) + b (n - 8) * sn (n % 64 - 8) else b n

/-- A column of the row's products. -/
def lin (x : Fin 1024 → EReal) (w : Fin 1024 → ℕ → EReal) (n : ℕ) : EReal := ∑ k, x k * w k n

/-- The factor a row is normalised by. -/
def scale (h : Fin 1024 → EReal) : EReal :=
  Ideal.rsqrt (Ideal.div (∑ j : Fin 1024, h j * h j) (Ideal.ofBits .f32 0x44800000#32) + Ideal.ofBits .f32 0x358637BD#32)

/-- The angle of a position at one of the eight frequencies. -/
def angle (p : EReal) (d : ℕ) : EReal :=
  p * Ideal.pow (Ideal.ofBits .f32 0x48F42400#32) (Ideal.div (-(FloatOps.sitofp (F := Ideal) .f32 (BitVec.ofNat 32 d) : EReal)) (Ideal.ofBits .f32 0x41000000#32))

def cs (p : EReal) (d : ℕ) : EReal := Ideal.cos (angle p d)
def sn (p : EReal) (d : ℕ) : EReal := Ideal.sin (angle p d)

/-- A matrix's column by its number, and a vector's entry. -/
def col {n : ℕ} (w : (⟨2, ![1024, n]⟩ : Shape).Idx → EReal) (k : Fin 1024) (j : ℕ) : EReal := if h : j < n then w (ix2 k ⟨j, h⟩) else 0
def ent (g : (⟨1, ![64]⟩ : Shape).Idx → EReal) (d : ℕ) : EReal := if h : d < 64 then g (ix1 ⟨d, h⟩) else 0

theorem col_at {n : ℕ} (w : (⟨2, ![1024, n]⟩ : Shape).Idx → EReal) (k : Fin 1024) (j : Fin n) : w (ix2 k j) = col w k j.val := by
  rw [col, dif_pos j.isLt]

theorem ent_at (g : (⟨1, ![64]⟩ : Shape).Idx → EReal) (d : Fin 64) : g (ix1 d) = ent g d.val := by
  rw [ent, dif_pos d.isLt]

/-- A row of the normalised input. -/
def row (h : (⟨2, ![16384, 1024]⟩ : Shape).Idx → EReal) (g : (⟨1, ![1024]⟩ : Shape).Idx → EReal) (r : Fin 16384) (k : Fin 1024) : EReal :=
  h (ix2 r k) * scale (fun j => h (ix2 r j)) * g (ix1 k)

/-- A row's position. -/
def place (pos : (⟨2, ![2, 8192]⟩ : Shape).Idx → BitVec 32) (r : Fin 16384) : EReal :=
  FloatOps.sitofp (F := Ideal) .f32 (pos (ix2 ⟨r.val / 8192, by omega⟩ ⟨r.val % 8192, by omega⟩))

/-- A column of the dense attention's queries, keys and values. -/
def dense (h : (⟨2, ![16384, 1024]⟩ : Shape).Idx → EReal) (pos : (⟨2, ![2, 8192]⟩ : Shape).Idx → BitVec 32) (g : (⟨1, ![1024]⟩ : Shape).Idx → EReal)
    (w : (⟨2, ![1024, 3072]⟩ : Shape).Idx → EReal) (gq gk : (⟨1, ![64]⟩ : Shape).Idx → EReal) (r : Fin 16384) (n : ℕ) : EReal :=
  if n < 1024 then rot (nrm (lin (row h g r) (col w)) (ent gq)) (cs (place pos r)) (sn (place pos r)) n * Ideal.ofBits .f32 0x3E38AA3B#32
  else if n < 2048 then rot (nrm (lin (row h g r) (col w)) (ent gk)) (cs (place pos r)) (sn (place pos r)) n
  else lin (row h g r) (col w) n

theorem bits_64 : Ideal.ofBits FTy.f32 0x42800000#32 = ((64 : ℝ) : EReal) := by
  simp [Ideal.ofBits, Ideal.ieee, -EReal.coe_mul]; norm_num

theorem bits_64th : Ideal.ofBits FTy.f32 0x3C800000#32 = ((1 / 64 : ℝ) : EReal) := by
  simp [Ideal.ofBits, Ideal.ieee, -EReal.coe_mul]; norm_num

theorem bits_1024 : Ideal.ofBits FTy.f32 0x44800000#32 = ((1024 : ℝ) : EReal) := by
  simp [Ideal.ofBits, Ideal.ieee, -EReal.coe_mul]; norm_num

theorem bits_one : Ideal.ofBits FTy.f32 0x3F800000#32 = 1 := by
  simp [Ideal.ofBits, Ideal.ieee, -EReal.coe_mul]; norm_num

theorem bits_eps : ∃ e : ℝ, 0 < e ∧ Ideal.ofBits FTy.f32 0x358637BD#32 = (e : EReal) := by
  refine ⟨_, ?_, by simp [Ideal.ofBits, Ideal.ieee, -EReal.coe_mul]; rfl⟩
  positivity

theorem bits_scale : ∃ s : ℝ, 0 ≤ s ∧ Ideal.ofBits FTy.f32 0x3E38AA3B#32 = (s : EReal) := by
  refine ⟨_, ?_, by simp [Ideal.ofBits, Ideal.ieee, -EReal.coe_mul]; rfl⟩
  positivity

/-- A row normalised is real, whatever its entries. -/
theorem real_scaled (h : Fin 1024 → EReal) (k : Fin 1024) : ∃ v : ℝ, h k * scale h = v := by
  obtain ⟨e, he, hb⟩ := bits_eps
  unfold scale
  rw [hb, bits_1024, Ideal.div_coe (by norm_num : (1024 : ℝ) ≠ 0)]
  by_cases hr : ∀ j, ∃ v : ℝ, h j = v
  · choose v hv using hr
    simp only [hv, ← EReal.coe_mul, ← coe_sum_real, ← EReal.coe_add, Ideal.rsqrt_coe]
    have hp : 0 < (∑ j, v j * v j) * (1 / 1024) + e := by
      have := Finset.sum_nonneg fun j (_ : j ∈ Finset.univ) => mul_self_nonneg (v j)
      positivity
    rw [if_neg hp.not_gt, if_neg hp.ne']
    exact ⟨_, rfl⟩
  · obtain ⟨j, hj⟩ := not_forall.mp hr
    have ht : h j * h j = ⊤ := by
      revert hj
      induction h j using EReal.rec with
      | bot => simp
      | coe v => exact fun hj => absurd ⟨v, rfl⟩ hj
      | top => simp
    have hn : ∀ i, 0 ≤ h i * h i := fun i => by
      induction h i using EReal.rec with
      | bot => simp
      | coe v => rw [← EReal.coe_mul]; exact_mod_cast mul_self_nonneg v
      | top => simp
    have hs : ∑ i, h i * h i = ⊤ := top_le_iff.mp (ht ▸ Finset.single_le_sum (f := fun i => h i * h i) (fun i _ => hn i) (Finset.mem_univ j))
    rw [hs, EReal.top_mul_coe_of_pos (by norm_num), EReal.top_add_coe, Ideal.rsqrt_top]
    exact ⟨0, by simp⟩

/-- A row's products with reals are real. -/
theorem real_lin (h g : Fin 1024 → EReal) (w : Fin 1024 → ℕ → EReal) (hg : ∀ k, ∃ v : ℝ, g k = v) (n : ℕ) (hw : ∀ k, ∃ v : ℝ, w k n = v) :
    ∃ v : ℝ, lin (fun k => h k * scale h * g k) w n = v := by
  choose x hx using real_scaled h
  choose g' hg using hg
  choose w' hw using hw
  refine ⟨∑ k, x k * g' k * w' k, ?_⟩
  unfold lin
  simp only [hx, hg, hw, ← EReal.coe_mul, ← coe_sum_real]

/-- Lanes averaged over their head, the square in two parts. -/
theorem head_mean (a : ℕ → EReal) (c : ℕ) (hr : ∀ j : Fin 128, ∃ v : ℝ, a (c * 128 + j.val) = v) (avg : Fin 128 → EReal) (l : ℕ) (hl : l < 128)
    (ha : ∀ j : Fin 128, avg j = if j.val / 64 = l / 64 then Ideal.ofBits .f32 0x3C800000#32 else 0) :
    ∑ j : Fin 128, a (c * 128 + j.val) * a (c * 128 + j.val) * avg j
      + ∑ j : Fin 128, (a (c * 128 + j.val) * a (c * 128 + j.val) - a (c * 128 + j.val) * a (c * 128 + j.val)) * avg j
      = Ideal.div (∑ j : Fin 64, a ((c * 128 + l) / 64 * 64 + j.val) * a ((c * 128 + l) / 64 * 64 + j.val)) (Ideal.ofBits .f32 0x42800000#32) := by
  rw [bits_64, Ideal.div_coe (by norm_num : (64 : ℝ) ≠ 0)]
  rw [bits_64th] at ha
  have hz : ∑ j : Fin 128, (a (c * 128 + j.val) * a (c * 128 + j.val) - a (c * 128 + j.val) * a (c * 128 + j.val)) * avg j = 0 :=
    Finset.sum_eq_zero fun j _ => by
      obtain ⟨v, hv⟩ := hr j
      rw [hv, ← EReal.coe_mul, ← EReal.coe_sub, sub_self, EReal.coe_zero, zero_mul]
  rw [hz, add_zero]
  choose v hv using hr
  have hv' : ∀ (j : ℕ) (hj : j < 128), a (c * 128 + j) = v ⟨j, hj⟩ := fun j hj => hv ⟨j, hj⟩
  have ha' : ∀ j : Fin 128, avg j = (((if j.val / 64 = l / 64 then 1 / 64 else 0 : ℝ)) : EReal) := fun j => by
    rw [ha j]; split <;> simp
  simp only [hv, ha', ← EReal.coe_mul, ← coe_sum_real]
  have split_sum : ∀ f : Fin 128 → ℝ, ∑ j, f j = ∑ j : Fin 64, f ⟨j.val, by omega⟩ + ∑ j : Fin 64, f ⟨64 + j.val, by omega⟩ := fun f =>
    (Fin.sum_univ_add (a := 64) (b := 64) f)
  rw [split_sum]
  have low : ∀ j : Fin 64, j.val / 64 = 0 := fun j => by omega
  have high : ∀ j : Fin 64, (64 + j.val) / 64 = 1 := fun j => by omega
  rcases (by omega : l / 64 = 0 ∨ l / 64 = 1) with h | h
  · have e : ∀ j : Fin 64, a ((c * 128 + l) / 64 * 64 + j.val) = v ⟨j.val, by omega⟩ := fun j => by
      rw [← hv' j.val (by omega)]; congr 1; omega
    simp only [e, h, low, high, ← EReal.coe_mul, ← coe_sum_real, Finset.sum_mul]
    simp
  · have e : ∀ j : Fin 64, a ((c * 128 + l) / 64 * 64 + j.val) = v ⟨64 + j.val, by omega⟩ := fun j => by
      rw [← hv' (64 + j.val) (by omega)]; congr 1; omega
    simp only [e, h, low, high, ← EReal.coe_mul, ← coe_sum_real, Finset.sum_mul]
    simp

/-- A multiple taken into the gains is a multiple of what is turned. -/
theorem rot_scaled (a g cs sn : ℕ → EReal) (s : ℝ) (hs : 0 ≤ s) (n : ℕ) :
    rot (nrm a fun d => g d * s) cs sn n = rot (nrm a g) cs sn n * (s : EReal) := by
  have hs' : (0 : EReal) ≤ s := by exact_mod_cast hs
  have e : ∀ k, nrm a (fun d => g d * s) k = nrm a g k * s := fun k => by unfold nrm; rw [mul_assoc, mul_assoc, mul_assoc]
  unfold rot
  simp only [e]
  have t : ∀ x y : EReal, x * s * y = x * y * s := fun x y => mul_right_comm x s y
  split
  · rw [sub_eq_add_neg, sub_eq_add_neg, EReal.right_distrib_of_nonneg_of_ne_top hs' (EReal.coe_ne_top s), t, t, EReal.neg_mul]
  · split
    · rw [EReal.right_distrib_of_nonneg_of_ne_top hs' (EReal.coe_ne_top s), t, t]
    · rfl

/-- Three products with tables turn a column: `b` is read at the lane and eight lanes to either side. -/
theorem rot_tables (b cs sn : ℕ → EReal) (c l : ℕ) (hl : l < 128) (C A B : EReal)
    (hC : C = if l % 64 < 8 then cs (l % 64) else if l % 64 - 8 < 8 then cs (l % 64 - 8) else 1)
    (hA : A = if l % 64 < 8 then -sn (l % 64) else 0)
    (hB : B = if l % 64 < 8 then 0 else if l % 64 - 8 < 8 then sn (l % 64 - 8) else 0) :
    b (c * 128 + l) * C + b (c * 128 + (l + 128 - 120) % 128) * A + b (c * 128 + (l + 128 - 8) % 128) * B = rot b cs sn (c * 128 + l) := by
  unfold rot
  rw [(by omega : (c * 128 + l) % 64 = l % 64), hC, hA, hB]
  by_cases h : l % 64 < 8
  · rw [if_pos h, if_pos h, if_pos h, if_pos h, mul_zero, add_zero, (by omega : c * 128 + (l + 128 - 120) % 128 = c * 128 + l + 8), mul_neg, sub_eq_add_neg]
  · rw [if_neg h, if_neg h, if_neg h, if_neg h, mul_zero, add_zero]
    by_cases h' : l % 64 < 16
    · rw [if_pos (by omega : l % 64 - 8 < 8), if_pos (by omega : l % 64 - 8 < 8), if_pos h', (by omega : c * 128 + (l + 128 - 8) % 128 = c * 128 + l - 8)]
    · rw [if_neg (by omega : ¬ l % 64 - 8 < 8), if_neg (by omega : ¬ l % 64 - 8 < 8), if_neg h', mul_zero, add_zero, mul_one]

end Cert.Proof.Rope
end
-- ==== Proof.ProjRef.lean ====
/-
  The projection with its heads normalised and turned, as the reference writes it.
-/
module

public import proofs.«01_k».proof.Defs
public import proofs.«01_k».proof.Proof.Rope
public import proofs.«01_k».proof.Proof.Gen.ReferenceCIdeal.Run
public import Idealize.ShloMosaic.Lib.Pointwise
public import Idealize.ShloMosaic.Lib.ValueIdx
public import Idealize.ShloMosaic.Lib.StableHlo.ReadAt
public import Idealize.ShloMosaic.Lib.Tactic
public import Idealize.ShloMosaic.PureOps.Ideal

@[expose] public section

set_option maxRecDepth 16384
set_option maxHeartbeats 2000000

noncomputable section

namespace Cert.Proof.ReferenceCIdeal

open Cert.ReferenceCIdeal Cert.ReferenceCIdeal.Gen Cert.ReferenceCIdeal.Value
open Idealize.ShloMosaic Idealize.ShloMosaic.TcCoe Idealize.SL.Sem Idealize.ShloMosaic.StableHlo

/-- The rows normalised. -/
def rows (h : FVec Ideal S16384x1024 .f32) (g : FVec Ideal S1024 .f32) : FVec Ideal S16384x1024 .f32 :=
  mulf (F := Ideal) (mulf (F := Ideal) h (broadcastInDim S16384x1024 ![0, 1] bcast_S16384x1_S16384x1024_0_1 (Host.rsqrt (F := Ideal)
    (addf (F := Ideal) (Host.divf (F := Ideal) (broadcastInDim S16384x1 ![0] bcast_S16384_S16384x1_0 (Host.reduceAdd (F := Ideal) (mulf (F := Ideal) h h)
      (constant (F := Ideal) S_ .f32 0x00000000#32) reducesTo_S16384x1024_S16384_d1 h_S_)) (broadcastInDim S16384x1 ![] bcast_S_S16384x1
      (constant (F := Ideal) S_ .f32 0x44800000#32))) (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 g))

/-- The products, a head a row. -/
def heads (x : FVec Ideal S16384x1024 .f32) (w : FVec Ideal S1024x3072 .f32) : FVec Ideal S16384x48x64 .f32 :=
  shapeCast _ (Host.dotGeneral (F := Ideal) (φ₁ := .f32) (φ₂ := .f32) dot_S16384x1024_S1024x3072_S16384x3072_1_0_0_1_n_n none x w) shapeCasts_S16384x3072_S16384x48x64

/-- Heads normalised. -/
def even (q : FVec Ideal S16384x16x64 .f32) (g : FVec Ideal S64 .f32) : FVec Ideal S16384x16x64 .f32 :=
  mulf (F := Ideal) (mulf (F := Ideal) q (broadcastInDim S16384x16x64 ![0, 1, 2] bcast_S16384x16x1_S16384x16x64_0_1_2 (Host.rsqrt (F := Ideal)
    (addf (F := Ideal) (Host.divf (F := Ideal) (broadcastInDim S16384x16x1 ![0, 1] bcast_S16384x16_S16384x16x1_0_1 (Host.reduceAdd (F := Ideal) (mulf (F := Ideal) q q)
      (constant (F := Ideal) S_ .f32 0x00000000#32) reducesTo_S16384x16x64_S16384x16_d2 h_S_)) (broadcastInDim S16384x16x1 ![] bcast_S_S16384x16x1
      (constant (F := Ideal) S_ .f32 0x42800000#32))) (broadcastInDim S16384x16x1 ![] bcast_S_S16384x16x1 (constant (F := Ideal) S_ .f32 0x358637BD#32))))))
    (broadcastInDim S16384x16x64 ![0, 1, 2] bcast_S1x1x64_S16384x16x64_0_1_2 (broadcastInDim S1x1x64 ![2] bcast_S64_S1x1x64_2 g))

/-- The angles. -/
def angles (pos : IVec S2x8192 32) : FVec Ideal S16384x1x8 .f32 :=
  mulf (F := Ideal) (broadcastInDim S16384x1x8 ![0, 1, 2] bcast_S16384x1x1_S16384x1x8_0_1_2 (broadcastInDim S16384x1x1 ![0] bcast_S16384_S16384x1x1_0
    (sitofp (F := Ideal) .f32 (shapeCast _ pos shapeCasts_S2x8192_S16384)))) (broadcastInDim S16384x1x8 ![0, 1, 2] bcast_S1x1x8_S16384x1x8_0_1_2
    (broadcastInDim S1x1x8 ![2] bcast_S8_S1x1x8_2 (Host.powf (F := Ideal) (broadcastInDim S8 ![] bcast_S_S8 (constant (F := Ideal) S_ .f32 0x48F42400#32))
      (Host.divf (F := Ideal) (Host.negf (F := Ideal) (sitofp (F := Ideal) .f32 (iotaInDim S8 32 0))) (broadcastInDim S8 ![] bcast_S_S8 (constant (F := Ideal) S_ .f32 0x41000000#32))))))

/-- Heads turned. -/
def turn (x : FVec Ideal S16384x16x64 .f32) (u v : FVec Ideal S16384x1x8 .f32) : FVec Ideal S16384x16x64 .f32 :=
  concatenate S16384x16x64 2 [
    ⟨S16384x16x8, subf (F := Ideal) (mulf (F := Ideal) (extractStridedSlice S16384x16x8 ![0, 0, 0] x slices_S16384x16x64_S16384x16x8_0_0_0) (broadcastInDim S16384x16x8 ![0, 1, 2] bcast_S16384x1x8_S16384x16x8_0_1_2 u))
      (mulf (F := Ideal) (extractStridedSlice S16384x16x8 ![0, 0, 8] x slices_S16384x16x64_S16384x16x8_0_0_8) (broadcastInDim S16384x16x8 ![0, 1, 2] bcast_S16384x1x8_S16384x16x8_0_1_2 v))⟩,
    ⟨S16384x16x8, addf (F := Ideal) (mulf (F := Ideal) (extractStridedSlice S16384x16x8 ![0, 0, 8] x slices_S16384x16x64_S16384x16x8_0_0_8) (broadcastInDim S16384x16x8 ![0, 1, 2] bcast_S16384x1x8_S16384x16x8_0_1_2 u))
      (mulf (F := Ideal) (extractStridedSlice S16384x16x8 ![0, 0, 0] x slices_S16384x16x64_S16384x16x8_0_0_0) (broadcastInDim S16384x16x8 ![0, 1, 2] bcast_S16384x1x8_S16384x16x8_0_1_2 v))⟩,
    ⟨S16384x16x48, extractStridedSlice S16384x16x48 ![0, 0, 16] x slices_S16384x16x64_S16384x16x48_0_0_16⟩]
    concatenates_S16384x16x8_S16384x16x8_S16384x16x48_S16384x16x64_d2

/-- Queries, keys and values in chunks of two heads. -/
def chunks (q k v : FVec Ideal S16384x16x64 .f32) : FVec Ideal S24x16384x128 .bf16 :=
  truncf (F := Ideal) .bf16 (transpose S24x16384x128 [1, 0, 2] (shapeCast _ (concatenate S16384x48x64 1 [⟨S16384x16x64, q⟩, ⟨S16384x16x64, k⟩, ⟨S16384x16x64, v⟩]
    concatenates_S16384x16x64_S16384x16x64_S16384x16x64_S16384x48x64_d1) shapeCasts_S16384x48x64_S16384x24x128) transposes_S16384x24x128_S24x16384x128_1_0_2) bitsLt_bf16_f32

/-- The whole. -/
def whole (h : FVec Ideal S16384x1024 .f32) (pos : IVec S2x8192 32) (g : FVec Ideal S1024 .f32) (w : FVec Ideal S1024x3072 .f32) (gq gk : FVec Ideal S64 .f32) :
    FVec Ideal S24x16384x128 .bf16 :=
  chunks
    (mulf (F := Ideal) (turn (even (extractStridedSlice S16384x16x64 ![0, 0, 0] (heads (rows h g) w) slices_S16384x48x64_S16384x16x64_0_0_0) gq) (Host.cos (F := Ideal) (angles pos)) (Host.sin (F := Ideal) (angles pos)))
      (broadcastInDim S16384x16x64 ![] bcast_S_S16384x16x64 (constant (F := Ideal) S_ .f32 0x3E38AA3B#32)))
    (turn (even (extractStridedSlice S16384x16x64 ![0, 16, 0] (heads (rows h g) w) slices_S16384x48x64_S16384x16x64_0_16_0) gk) (Host.cos (F := Ideal) (angles pos)) (Host.sin (F := Ideal) (angles pos)))
    (extractStridedSlice S16384x16x64 ![0, 32, 0] (heads (rows h g) w) slices_S16384x48x64_S16384x16x64_0_32_0)

variable (m : (ℓ : Loc nD τ sig) → Buf (Elt Ideal) ℓ) (c : Dev nD)

theorem res_eq : res_main_v107 (F := Ideal) m c = whole (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) := rfl

theorem heads_at (h : FVec Ideal S16384x1024 .f32) (g : FVec Ideal S1024 .f32) (w : FVec Ideal S1024x3072 .f32) (r : Fin 16384) (t : Fin 48) (d : Fin 64) :
    @Eq EReal (heads (rows h g) w (ix3 r t d)) (Rope.lin (Rope.row h g r) (Rope.col w) (t.val * 64 + d.val)) := by
  have e : @Eq EReal (heads (rows h g) w (ix3 r t d)) (∑ k : Fin 1024, rows h g (ix2 r k) * w (ix2 k ⟨t.val * 64 + d.val, by omega⟩)) := by
    pointwise [heads]
  refine e.trans (Finset.sum_congr rfl fun k _ => ?_)
  rw [Rope.col_at w k]
  refine congrArg (fun z : EReal => z * _) ?_
  unfold Rope.row Rope.scale
  pointwise [rows]

theorem even_at (q : FVec Ideal S16384x16x64 .f32) (g : FVec Ideal S64 .f32) (r : Fin 16384) (t : Fin 16) (d : Fin 64) :
    @Eq EReal (even q g (ix3 r t d)) (q (ix3 r t d) * Ideal.rsqrt (Ideal.div (∑ j : Fin 64, q (ix3 r t j) * q (ix3 r t j)) (Ideal.ofBits .f32 0x42800000#32)
      + Ideal.ofBits .f32 0x358637BD#32) * g (ix1 d)) := by
  pointwise [even]

theorem even_nrm (a : ℕ → EReal) (o : ℕ) (q : FVec Ideal S16384x16x64 .f32) (g : FVec Ideal S64 .f32) (r : Fin 16384)
    (ha : ∀ (t : Fin 16) (d : Fin 64), @Eq EReal (q (ix3 r t d)) (a ((o + t.val) * 64 + d.val))) (t : Fin 16) (d : Fin 64) :
    @Eq EReal (even q g (ix3 r t d)) (Rope.nrm a (Rope.ent g) ((o + t.val) * 64 + d.val)) := by
  refine (even_at q g r t d).trans ?_
  unfold Rope.nrm Rope.factor
  rw [(by omega : ((o + t.val) * 64 + d.val) / 64 = o + t.val), (by omega : ((o + t.val) * 64 + d.val) % 64 = d.val), Rope.ent_at g d]
  simp only [ha]

theorem angles_at (pos : IVec S2x8192 32) (r : Fin 16384) (d : Fin 8) : @Eq EReal (angles pos (ix3 r 0 d)) (Rope.angle (Rope.place pos r) d.val) := by
  unfold Rope.angle Rope.place
  pointwise [angles]

theorem turn_at (b u' v' : ℕ → EReal) (o : ℕ) (x : FVec Ideal S16384x16x64 .f32) (u v : FVec Ideal S16384x1x8 .f32) (r : Fin 16384)
    (hx : ∀ (t : Fin 16) (d : Fin 64), @Eq EReal (x (ix3 r t d)) (b ((o + t.val) * 64 + d.val)))
    (hu : ∀ d : Fin 8, @Eq EReal (u (ix3 r 0 d)) (u' d.val)) (hv : ∀ d : Fin 8, @Eq EReal (v (ix3 r 0 d)) (v' d.val)) (t : Fin 16) (d : Fin 64) :
    @Eq EReal (turn x u v (ix3 r t d)) (Rope.rot b u' v' ((o + t.val) * 64 + d.val)) := by
  pointwise [turn]
  simp only [hx, hu, hv]
  unfold Rope.rot
  rw [(by omega : ((o + t.val) * 64 + d.val) % 64 = d.val)]
  by_cases h : d.val < 8
  · rw [dif_pos h, if_pos h, (by omega : (o + t.val) * 64 + (8 + d.val) = (o + t.val) * 64 + d.val + 8)]
  · rw [dif_neg h, if_neg h]
    by_cases h' : d.val < 16
    · rw [dif_pos (by omega : d.val - 8 < 8), if_pos h', (by omega : (o + t.val) * 64 + (8 + (d.val - 8)) = (o + t.val) * 64 + d.val),
        (by omega : (o + t.val) * 64 + (d.val - 8) = (o + t.val) * 64 + d.val - 8)]
    · rw [dif_neg (by omega : ¬ d.val - 8 < 8), if_neg h', (by omega : (o + t.val) * 64 + (16 + (d.val - 8 - 8)) = (o + t.val) * 64 + d.val)]

theorem chunks_at (q k v : FVec Ideal S16384x16x64 .f32) (Q K V : ℕ → EReal) (r : Fin 16384)
    (hq : ∀ (t : Fin 16) (d : Fin 64), @Eq EReal (q (ix3 r t d)) (Q ((0 + t.val) * 64 + d.val)))
    (hk : ∀ (t : Fin 16) (d : Fin 64), @Eq EReal (k (ix3 r t d)) (K ((16 + t.val) * 64 + d.val)))
    (hv : ∀ (t : Fin 16) (d : Fin 64), @Eq EReal (v (ix3 r t d)) (V ((32 + t.val) * 64 + d.val))) (c : Fin 24) (l : Fin 128) :
    @Eq EReal (chunks q k v (ix3 c r l))
      (if c.val * 128 + l.val < 1024 then Q (c.val * 128 + l.val) else if c.val * 128 + l.val < 2048 then K (c.val * 128 + l.val) else V (c.val * 128 + l.val)) := by
  pointwise [chunks]
  simp only [hq, hk, hv]
  by_cases h : c.val * 128 + l.val < 1024
  · rw [dif_pos (by omega), if_pos h]; congr 1; omega
  · rw [dif_neg (by omega), if_neg h]
    by_cases h' : c.val * 128 + l.val < 2048
    · rw [dif_pos (by omega), if_pos h']; congr 1; omega
    · rw [dif_neg (by omega), if_neg h']; congr 1; omega

theorem whole_at (h : FVec Ideal S16384x1024 .f32) (pos : IVec S2x8192 32) (g : FVec Ideal S1024 .f32) (w : FVec Ideal S1024x3072 .f32) (gq gk : FVec Ideal S64 .f32)
    (c : Fin 24) (r : Fin 16384) (l : Fin 128) :
    @Eq EReal (whole h pos g w gq gk (ix3 c r l)) (Rope.dense h pos g w gq gk r (c.val * 128 + l.val)) := by
  have hc : ∀ d : Fin 8, @Eq EReal (Host.cos (F := Ideal) (angles pos) (ix3 r 0 d)) (Rope.cs (Rope.place pos r) d.val) :=
    fun d => congrArg Ideal.cos (angles_at pos r d)
  have hs : ∀ d : Fin 8, @Eq EReal (Host.sin (F := Ideal) (angles pos) (ix3 r 0 d)) (Rope.sn (Rope.place pos r) d.val) :=
    fun d => congrArg Ideal.sin (angles_at pos r d)
  have part : ∀ (o : ℕ) (hs : S16384x48x64.Slices ![0, o, 0] S16384x16x64) (ho : o + 16 ≤ 48) (t : Fin 16) (d : Fin 64),
      @Eq EReal (extractStridedSlice S16384x16x64 ![0, o, 0] (heads (rows h g) w) hs (ix3 r t d)) (Rope.lin (Rope.row h g r) (Rope.col w) ((o + t.val) * 64 + d.val)) := by
    intro o hs ho t d
    refine Eq.trans ?_ (heads_at h g w r ⟨o + t.val, by omega⟩ d)
    pointwise
  refine chunks_at _ _ _ (fun n => Rope.rot (Rope.nrm (Rope.lin (Rope.row h g r) (Rope.col w)) (Rope.ent gq)) (Rope.cs (Rope.place pos r)) (Rope.sn (Rope.place pos r)) n * Ideal.ofBits .f32 0x3E38AA3B#32)
    (Rope.rot (Rope.nrm (Rope.lin (Rope.row h g r) (Rope.col w)) (Rope.ent gk)) (Rope.cs (Rope.place pos r)) (Rope.sn (Rope.place pos r)))
    (Rope.lin (Rope.row h g r) (Rope.col w)) r (fun t d => ?_) (fun t d => ?_) (fun t d => ?_) c l
  · exact congrArg (fun z : EReal => z * Ideal.ofBits .f32 0x3E38AA3B#32)
      (turn_at _ _ _ 0 _ _ _ r (even_nrm _ 0 _ gq r (part 0 _ (by omega))) hc hs t d)
  · exact turn_at _ _ _ 16 _ _ _ r (even_nrm _ 16 _ gk r (part 16 _ (by omega))) hc hs t d
  · exact part 32 _ (by omega) t d

end Cert.Proof.ReferenceCIdeal
end
-- ==== Proof.ProjKer.lean ====
/-
  The projection with its heads normalised and turned: the kernel's tiles at an index.
-/
module

public import proofs.«01_k».proof.Defs
public import proofs.«01_k».proof.Proof.Rope
public import proofs.«01_k».proof.Proof.Gen.KernelCIdeal.Value
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.KernelCIdeal

open Cert.KernelCIdeal Cert.KernelCIdeal.Gen
open Idealize.ShloMosaic Idealize.ShloMosaic.TcCoe Idealize.SL.Sem

/-- The lanes averaged over their heads. -/
def means : FVec Ideal S128x128 .bf16 := k0_pay5 (F := Ideal) k0_pay3 (iota .tc S128x128 32 [1] iota_S128x128_d1_w32) 64#32 k0_pay4

/-- The number of a lane's head, as the body finds it. -/
def headOf (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

theorem headOf_eq : ∀ j : Fin 128, headOf (BitVec.ofNat 32 j.val) = BitVec.ofNat 32 (j.val / 64) := by decide +kernel

theorem means_raw (j l : Fin 128) : @Eq EReal (means (ix2 j l))
    (Scalar.select (IntOp.cmpi .eq (headOf (BitVec.ofNat 32 j.val)) (headOf (BitVec.ofNat 32 l.val))) (Ideal.ofBits .f32 0x3C800000#32) (0 : EReal)) := by
  unfold headOf
  pointwise [means, k0_pay5, k0_pay3, k0_pay4]

theorem means_at (j l : Fin 128) : @Eq EReal (means (ix2 j l)) (if j.val / 64 = l.val / 64 then Ideal.ofBits .f32 0x3C800000#32 else 0) := by
  refine (means_raw j l).trans ?_
  rw [headOf_eq j, headOf_eq l]
  rcases (by omega : j.val / 64 = 0 ∨ j.val / 64 = 1) with h | h <;> rcases (by omega : l.val / 64 = 0 ∨ l.val / 64 = 1) with h' | h' <;> rw [h, h'] <;> rfl

/-- A chunk normalised over its heads. -/
def level (avg : FVec Ideal S128x128 .bf16) (y : FVec Ideal S512x128 .f32) (g : FVec Ideal S1x128 .f32) : FVec Ideal S512x128 .f32 :=
  mulf (F := Ideal) (mulf (F := Ideal) y (rsqrt (F := Ideal) (addf (F := Ideal)
    (addf (F := Ideal)
      (matmul (F := Ideal) dot_S512x128_S128x128_S512x128_1_0_0_1_n_n none (truncf (F := Ideal) .bf16 (mulf (F := Ideal) y y) bitsLt_bf16_f32) avg (constant (F := Ideal) S512x128 .f32 0x00000000#32))
      (matmul (F := Ideal) dot_S512x128_S128x128_S512x128_1_0_0_1_n_n none (truncf (F := Ideal) .bf16 (subf (F := Ideal) (mulf (F := Ideal) y y)
        (extf (F := Ideal) .f32 (truncf (F := Ideal) .bf16 (mulf (F := Ideal) y y) bitsLt_bf16_f32) bitsLt_bf16_f32)) bitsLt_bf16_f32) avg (constant (F := Ideal) S512x128 .f32 0x00000000#32)))
    (broadcast S512x128 (Scalar.ofBits (F := Ideal) .f32 0x358637BD#32)))))
    (broadcastTo S512x128 (shapeCast S1x128 g shapeCasts_S1x128_S1x128) broadcasts_S1x128_S512x128)

/-- A chunk turned. -/
def spin (z t u v : FVec Ideal S512x128 .f32) : FVec Ideal S1x512x128 .bf16 :=
  shapeCast S1x512x128 (truncf (F := Ideal) .bf16 (addf (F := Ideal) (addf (F := Ideal)
    (mulf (F := Ideal) z (shapeCast S512x128 t shapeCasts_S512x128_S512x128))
    (mulf (F := Ideal) (dynamicRotate 1 120#32 none z rotates_S512x128_d1) (shapeCast S512x128 u shapeCasts_S512x128_S512x128)))
    (mulf (F := Ideal) (dynamicRotate 1 8#32 none z rotates_S512x128_d1) (shapeCast S512x128 v shapeCasts_S512x128_S512x128))) bitsLt_bf16_f32) shapeCasts_S512x128_S1x512x128

/-- A chunk as it is. -/
def plain (y : FVec Ideal S512x128 .f32) : FVec Ideal S1x512x128 .bf16 :=
  shapeCast S1x512x128 (truncf (F := Ideal) .bf16 y bitsLt_bf16_f32) shapeCasts_S512x128_S1x512x128

/-- Four chunks' products. -/
def four (x : FVec Ideal S512x1024 .bf16) (w : FVec Ideal S1024x512 .bf16) : FVec Ideal S512x512 .f32 := k0_pay6 (F := Ideal) x w

theorem level_raw (avg : FVec Ideal S128x128 .bf16) (y : FVec Ideal S512x128 .f32) (g : FVec Ideal S1x128 .f32) (r : Fin 512) (l : Fin 128) :
    @Eq EReal (level avg y g (ix2 r l))
      (y (ix2 r l) * Ideal.rsqrt ((∑ j : Fin 128, y (ix2 r j) * y (ix2 r j) * avg (ix2 j l)
        + ∑ j : Fin 128, (y (ix2 r j) * y (ix2 r j) - y (ix2 r j) * y (ix2 r j)) * avg (ix2 j l)) + Ideal.ofBits .f32 0x358637BD#32) * g (ix2 0 l)) := by
  pointwise [level]

theorem level_at (a gn : ℕ → EReal) (c : ℕ) (avg : FVec Ideal S128x128 .bf16) (y : FVec Ideal S512x128 .f32) (g : FVec Ideal S1x128 .f32) (r : Fin 512)
    (hm : ∀ j l : Fin 128, @Eq EReal (avg (ix2 j l)) (if j.val / 64 = l.val / 64 then Ideal.ofBits .f32 0x3C800000#32 else 0))
    (hr : ∀ j : Fin 128, ∃ v : ℝ, a (c * 128 + j.val) = v)
    (hy : ∀ l : Fin 128, @Eq EReal (y (ix2 r l)) (a (c * 128 + l.val))) (hg : ∀ l : Fin 128, @Eq EReal (g (ix2 0 l)) (gn (l.val % 64))) (l : Fin 128) :
    @Eq EReal (level avg y g (ix2 r l)) (Rope.nrm a gn (c * 128 + l.val)) := by
  refine (level_raw avg y g r l).trans ?_
  simp only [hy]
  rw [Rope.head_mean a c hr (fun j => avg (ix2 j l)) l.val l.isLt (fun j => hm j l), hg l]
  unfold Rope.nrm Rope.factor
  rw [(by omega : (c * 128 + l.val) % 64 = l.val % 64)]

theorem spin_at (b cs sn : ℕ → EReal) (c : ℕ) (z t u v : FVec Ideal S512x128 .f32) (r : Fin 512)
    (hz : ∀ l : Fin 128, @Eq EReal (z (ix2 r l)) (b (c * 128 + l.val)))
    (ht : ∀ l : Fin 128, @Eq EReal (t (ix2 r l)) (if l.val % 64 < 8 then cs (l.val % 64) else if l.val % 64 - 8 < 8 then cs (l.val % 64 - 8) else 1))
    (hu : ∀ l : Fin 128, @Eq EReal (u (ix2 r l)) (if l.val % 64 < 8 then -sn (l.val % 64) else 0))
    (hv : ∀ l : Fin 128, @Eq EReal (v (ix2 r l)) (if l.val % 64 < 8 then 0 else if l.val % 64 - 8 < 8 then sn (l.val % 64 - 8) else 0)) (l : Fin 128) :
    @Eq EReal (spin z t u v (ix3 0 r l)) (Rope.rot b cs sn (c * 128 + l.val)) := by
  pointwise [spin]
  simp only [hz]
  exact Rope.rot_tables b cs sn c l.val l.isLt _ _ _ (ht l) (hu l) (hv l)

theorem four_at (x : FVec Ideal S512x1024 .bf16) (w : FVec Ideal S1024x512 .bf16) (r l : Fin 512) :
    @Eq EReal (four x w (ix2 r l)) (∑ k : Fin 1024, x (ix2 r k) * w (ix2 k l)) := by
  pointwise [four, k0_pay6]

theorem slice_at (o : ℕ) (h : S512x512.Slices ![0, o] S512x128) (ho : o + 128 ≤ 512) (y : FVec Ideal S512x512 .f32) (r : Fin 512) (l : Fin 128) :
    @Eq EReal (extractStridedSlice S512x128 ![0, o] y h (ix2 r l)) (y (ix2 r ⟨o + l.val, by omega⟩)) := by
  pointwise

theorem plain_at (y : FVec Ideal S512x128 .f32) (r : Fin 512) (l : Fin 128) : @Eq EReal (plain y (ix3 0 r l)) (y (ix2 r l)) := by
  pointwise [plain]

theorem row_at (x : FVec Ideal S512x1024 .f32) (g : FVec Ideal S1x1024 .f32) (r : Fin 512) (k : Fin 1024) :
    @Eq EReal (k0_pay2 (F := Ideal) x g (ix2 r k)) (x (ix2 r k) * Rope.scale (fun j => x (ix2 r j)) * g (ix2 0 k)) := by
  unfold Rope.scale
  pointwise [k0_pay2]

/-- What the blocks hold: `A` the products of a row and a column, `gn` the gains of a chunk, `cs` and `sn` a row's tables. -/
structure Holds (x0 : FVec Ideal S512x1024 .f32) (x1 : FVec Ideal S1x1024 .f32) (x2 : FVec Ideal S1024x3072 .bf16) (x3 : FVec Ideal S24x128 .f32)
    (x4 x5 x6 : FVec Ideal S512x128 .f32) (A gn cs sn : ℕ → ℕ → EReal) : Prop where
  lin : ∀ (r : Fin 512) (n : Fin 3072), ∑ k : Fin 1024, (x0 (ix2 r k) * Rope.scale (fun j => x0 (ix2 r j)) * x1 (ix2 0 k) * x2 (ix2 k n) : EReal) = A r.val n.val
  real : ∀ (r : Fin 512) (n : Fin 3072), ∃ v : ℝ, A r.val n.val = v
  gain : ∀ (c : Fin 16) (l : Fin 128), @Eq EReal (x3 (ix2 ⟨c.val, by omega⟩ l)) (gn c.val (l.val % 64))
  t4 : ∀ (r : Fin 512) (l : Fin 128), @Eq EReal (x4 (ix2 r l)) (if l.val % 64 < 8 then cs r.val (l.val % 64) else if l.val % 64 - 8 < 8 then cs r.val (l.val % 64 - 8) else 1)
  t5 : ∀ (r : Fin 512) (l : Fin 128), @Eq EReal (x5 (ix2 r l)) (if l.val % 64 < 8 then -sn r.val (l.val % 64) else 0)
  t6 : ∀ (r : Fin 512) (l : Fin 128), @Eq EReal (x6 (ix2 r l)) (if l.val % 64 < 8 then 0 else if l.val % 64 - 8 < 8 then sn r.val (l.val % 64 - 8) else 0)

/-- The chunk of a tile at a row and a lane. -/
def tile (A gn cs sn : ℕ → ℕ → EReal) (c r l : ℕ) : EReal :=
  if c < 16 then Rope.rot (Rope.nrm (A r) (gn c)) (cs r) (sn r) (c * 128 + l) else A r (c * 128 + l)

theorem idx_eq (x : S1x512x128.Idx) : ∃ (r : Fin 512) (l : Fin 128), x = ix3 0 r l :=
  ⟨⟨(x 1).val, (x 1).isLt⟩, ⟨(x 2).val, (x 2).isLt⟩, by
    funext a
    match a with
    | 0 => exact Subsingleton.elim (α := Fin 1) _ _
    | 1 => rfl
    | 2 => rfl⟩

section
variable {x0 : FVec Ideal S512x1024 .f32} {x1 : FVec Ideal S1x1024 .f32} {x2 : FVec Ideal S1024x3072 .bf16} {x3 : FVec Ideal S24x128 .f32}
  {x4 x5 x6 : FVec Ideal S512x128 .f32} {A gn cs sn : ℕ → ℕ → EReal} (H : Holds x0 x1 x2 x3 x4 x5 x6 A gn cs sn)
include H

theorem chunk_at (c ow o : ℕ) (hc : c * 128 = ow + o) (ho : o + 128 ≤ 512) (hw : ow + 512 ≤ 3072) (hs : S512x512.Slices ![0, o] S512x128) (i0 i1 i2) (r : Fin 512) (l : Fin 128) :
    @Eq EReal (extractStridedSlice S512x128 ![0, o] (four (k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3072) x2 (Rect.unit (s := S1024x3072) ![0, ow] S1024x512.size i2))) hs (ix2 r l)) (A r.val (c * 128 + l.val)) := by
  refine (slice_at o hs ho _ r l).trans ?_
  refine (four_at _ _ r _).trans ?_
  have e0 : ∀ k : Fin 1024, @Eq EReal (View.ld (Val := Elt Ideal) (e' := .f32) (S := S512x1024) x0 (Rect.unit (s := S512x1024) ![0, 0] S512x1024.size i0) (ix2 r k)) (x0 (ix2 r k)) :=
    fun k => View.ld_unit_apply_of (Val := Elt Ideal) (e := .f32) x0 _ _ i0 _ _ fun a => by match a with | 0 => exact (Nat.zero_add _).symm | 1 => exact (Nat.zero_add _).symm
  have e1 : ∀ k : Fin 1024, @Eq EReal (View.ld (Val := Elt Ideal) (e' := .f32) (S := S1x1024) x1 (Rect.unit (s := S1x1024) ![0, 0] S1x1024.size i1) (ix2 0 k)) (x1 (ix2 0 k)) :=
    fun k => View.ld_unit_apply_of (Val := Elt Ideal) (e := .f32) x1 _ _ i1 _ _ fun a => by match a with | 0 => exact (Nat.zero_add _).symm | 1 => exact (Nat.zero_add _).symm
  have e2 : ∀ k : Fin 1024, @Eq EReal (View.ld (Val := Elt Ideal) (e' := .bf16) (S := S1024x3072) x2 (Rect.unit (s := S1024x3072) ![0, ow] S1024x512.size i2) (ix2 k ⟨o + l.val, by omega⟩)) (x2 (ix2 k ⟨c * 128 + l.val, by omega⟩)) :=
    fun k => View.ld_unit_apply_of (Val := Elt Ideal) (e := .bf16) x2 _ _ i2 _ _ fun a => by
      match a with
      | 0 => exact (Nat.zero_add _).symm
      | 1 => show c * 128 + l.val = ow + (o + l.val); omega
  refine Eq.trans (Finset.sum_congr rfl fun k _ => ?_) (H.lin r ⟨c * 128 + l.val, by omega⟩)
  refine congr (congrArg (fun (p q : EReal) => p * q) ((row_at _ _ r k).trans ?_)) (e2 k)
  refine congr (congrArg (fun (p q : EReal) => p * q) (congr (congrArg (fun (p q : EReal) => p * q) (e0 k)) (congrArg Rope.scale (funext e0)))) (e1 k)

theorem turned_tile (c ow o : ℕ) (hc : c * 128 = ow + o) (hc' : c < 16) (ho : o + 128 ≤ 512) (hw : ow + 512 ≤ 3072) (hs : S512x512.Slices ![0, o] S512x128) (i0 i1 i2 i3 i4 i5 i6)
    (x : S1x512x128.Idx) (y0 y1 y2 : ℕ) (h0 : y0 = c + (x 0).val) (h1 : y1 = (x 1).val) (h2 : y2 = (x 2).val) :
    @Eq EReal (spin (level means (extractStridedSlice S512x128 ![0, o] (four (k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3072) x2 (Rect.unit (s := S1024x3072) ![0, ow] S1024x512.size i2))) hs)
      (View.ld (Val := Elt Ideal) (e' := .f32) (S := S24x128) x3 (Rect.unit (s := S24x128) ![c, 0] S1x128.size i3)))
      (View.ld (Val := Elt Ideal) (e' := .f32) (S := S512x128) x4 (Rect.unit (s := S512x128) ![0, 0] S512x128.size i4))
      (View.ld (Val := Elt Ideal) (e' := .f32) (S := S512x128) x5 (Rect.unit (s := S512x128) ![0, 0] S512x128.size i5))
      (View.ld (Val := Elt Ideal) (e' := .f32) (S := S512x128) x6 (Rect.unit (s := S512x128) ![0, 0] S512x128.size i6)) x) (tile A gn cs sn y0 y1 y2) := by
  obtain ⟨r, l, rfl⟩ := idx_eq x
  rw [show y0 = c from h0, show y1 = r.val from h1, show y2 = l.val from h2]
  have table : ∀ (u : FVec Ideal S512x128 .f32) (i) (r : Fin 512) (l : Fin 128),
      @Eq EReal (View.ld (Val := Elt Ideal) (e' := .f32) (S := S512x128) u (Rect.unit (s := S512x128) ![0, 0] S512x128.size i) (ix2 r l)) (u (ix2 r l)) :=
    fun u i r l => View.ld_unit_apply_of (Val := Elt Ideal) (e := .f32) u _ _ i _ _ fun a => by match a with | 0 => exact (Nat.zero_add _).symm | 1 => exact (Nat.zero_add _).symm
  have gains : ∀ l : Fin 128, @Eq EReal (View.ld (Val := Elt Ideal) (e' := .f32) (S := S24x128) x3 (Rect.unit (s := S24x128) ![c, 0] S1x128.size i3) (ix2 0 l)) (x3 (ix2 ⟨c, by omega⟩ l)) :=
    fun l => View.ld_unit_apply_of (Val := Elt Ideal) (e := .f32) x3 _ _ i3 _ _ fun a => by match a with | 0 => rfl | 1 => exact (Nat.zero_add _).symm
  refine (spin_at (Rope.nrm (A r.val) (gn c)) (cs r.val) (sn r.val) c _ _ _ _ r (fun l => ?_) (fun l => (table _ i4 r l).trans (H.t4 r l))
    (fun l => (table _ i5 r l).trans (H.t5 r l)) (fun l => (table _ i6 r l).trans (H.t6 r l)) l).trans ?_
  · exact level_at (A r.val) (gn c) c means _ _ r means_at (fun j => H.real r ⟨c * 128 + j.val, by omega⟩)
      (fun l => chunk_at H c ow o hc ho hw hs i0 i1 i2 r l) (fun l => (gains l).trans (H.gain ⟨c, hc'⟩ l)) l
  · exact (if_pos hc').symm

theorem plain_tile (c ow o : ℕ) (hc : c * 128 = ow + o) (hc' : ¬ c < 16) (ho : o + 128 ≤ 512) (hw : ow + 512 ≤ 3072) (hs : S512x512.Slices ![0, o] S512x128) (i0 i1 i2)
    (x : S1x512x128.Idx) (y0 y1 y2 : ℕ) (h0 : y0 = c + (x 0).val) (h1 : y1 = (x 1).val) (h2 : y2 = (x 2).val) :
    @Eq EReal (plain (extractStridedSlice S512x128 ![0, o] (four (k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3072) x2 (Rect.unit (s := S1024x3072) ![0, ow] S1024x512.size i2))) hs) x) (tile A gn cs sn y0 y1 y2) := by
  obtain ⟨r, l, rfl⟩ := idx_eq x
  rw [show y0 = c from h0, show y1 = r.val from h1, show y2 = l.val from h2]
  exact ((plain_at _ r l).trans (chunk_at H c ow o hc ho hw hs i0 i1 i2 r l)).trans (if_neg hc').symm

theorem tiles_at (y : S24x512x128.Idx) : @Eq EReal (out0_7 (F := Ideal) x0 x1 x2 x3 x4 x5 x6 y) (tile A gn cs sn (y 0).val (y 1).val (y 2).val) := by
  unfold_out out0_7
  canon_tiles x h
  · exact plain_tile H 23 2560 384 (by omega) (by omega) (by omega) (by omega) slices_S512x512_o0_384_S512x128 _ _ _ x _ _ _ h0 h1 h2
  · exact plain_tile H 22 2560 256 (by omega) (by omega) (by omega) (by omega) slices_S512x512_o0_256_S512x128 _ _ _ x _ _ _ h0 h1 h2
  · exact plain_tile H 21 2560 128 (by omega) (by omega) (by omega) (by omega) slices_S512x512_o0_128_S512x128 _ _ _ x _ _ _ h0 h1 h2
  · exact plain_tile H 20 2560 0 (by omega) (by omega) (by omega) (by omega) slices_S512x512_o0_0_S512x128 _ _ _ x _ _ _ h0 h1 h2
  · exact plain_tile H 19 2048 384 (by omega) (by omega) (by omega) (by omega) slices_S512x512_o0_384_S512x128 _ _ _ x _ _ _ h0 h1 h2
  · exact plain_tile H 18 2048 256 (by omega) (by omega) (by omega) (by omega) slices_S512x512_o0_256_S512x128 _ _ _ x _ _ _ h0 h1 h2
  · exact plain_tile H 17 2048 128 (by omega) (by omega) (by omega) (by omega) slices_S512x512_o0_128_S512x128 _ _ _ x _ _ _ h0 h1 h2
  · exact plain_tile H 16 2048 0 (by omega) (by omega) (by omega) (by omega) slices_S512x512_o0_0_S512x128 _ _ _ x _ _ _ h0 h1 h2
  · exact turned_tile H 15 1536 384 (by omega) (by omega) (by omega) (by omega) slices_S512x512_o0_384_S512x128 _ _ _ _ _ _ _ x _ _ _ h0 h1 h2
  · exact turned_tile H 14 1536 256 (by omega) (by omega) (by omega) (by omega) slices_S512x512_o0_256_S512x128 _ _ _ _ _ _ _ x _ _ _ h0 h1 h2
  · exact turned_tile H 13 1536 128 (by omega) (by omega) (by omega) (by omega) slices_S512x512_o0_128_S512x128 _ _ _ _ _ _ _ x _ _ _ h0 h1 h2
  · exact turned_tile H 12 1536 0 (by omega) (by omega) (by omega) (by omega) slices_S512x512_o0_0_S512x128 _ _ _ _ _ _ _ x _ _ _ h0 h1 h2
  · exact turned_tile H 11 1024 384 (by omega) (by omega) (by omega) (by omega) slices_S512x512_o0_384_S512x128 _ _ _ _ _ _ _ x _ _ _ h0 h1 h2
  · exact turned_tile H 10 1024 256 (by omega) (by omega) (by omega) (by omega) slices_S512x512_o0_256_S512x128 _ _ _ _ _ _ _ x _ _ _ h0 h1 h2
  · exact turned_tile H 9 1024 128 (by omega) (by omega) (by omega) (by omega) slices_S512x512_o0_128_S512x128 _ _ _ _ _ _ _ x _ _ _ h0 h1 h2
  · exact turned_tile H 8 1024 0 (by omega) (by omega) (by omega) (by omega) slices_S512x512_o0_0_S512x128 _ _ _ _ _ _ _ x _ _ _ h0 h1 h2
  · exact turned_tile H 7 512 384 (by omega) (by omega) (by omega) (by omega) slices_S512x512_o0_384_S512x128 _ _ _ _ _ _ _ x _ _ _ h0 h1 h2
  · exact turned_tile H 6 512 256 (by omega) (by omega) (by omega) (by omega) slices_S512x512_o0_256_S512x128 _ _ _ _ _ _ _ x _ _ _ h0 h1 h2
  · exact turned_tile H 5 512 128 (by omega) (by omega) (by omega) (by omega) slices_S512x512_o0_128_S512x128 _ _ _ _ _ _ _ x _ _ _ h0 h1 h2
  · exact turned_tile H 4 512 0 (by omega) (by omega) (by omega) (by omega) slices_S512x512_o0_0_S512x128 _ _ _ _ _ _ _ x _ _ _ h0 h1 h2
  · exact turned_tile H 3 0 384 (by omega) (by omega) (by omega) (by omega) slices_S512x512_o0_384_S512x128 _ _ _ _ _ _ _ x _ _ _ h0 h1 h2
  · exact turned_tile H 2 0 256 (by omega) (by omega) (by omega) (by omega) slices_S512x512_o0_256_S512x128 _ _ _ _ _ _ _ x _ _ _ h0 h1 h2
  · exact turned_tile H 1 0 128 (by omega) (by omega) (by omega) (by omega) slices_S512x512_o0_128_S512x128 _ _ _ _ _ _ _ x _ _ _ h0 h1 h2
  · exact turned_tile H 0 0 0 (by omega) (by omega) (by omega) (by omega) slices_S512x512_o0_0_S512x128 _ _ _ _ _ _ _ x _ _ _ (h0.trans (Nat.zero_add _).symm) h1 h2

end

end Cert.Proof.KernelCIdeal
end
-- ==== Proof.ProjHost.lean ====
/-
  The projection with its heads normalised and turned: what its tables and gains hold before the launch.
-/
module

public import proofs.«01_k».proof.Defs
public import proofs.«01_k».proof.Proof.Rope
public import proofs.«01_k».proof.Proof.Gen.KernelCIdeal.Value
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.KernelCIdeal

open Cert.KernelCIdeal Cert.KernelCIdeal.Gen
open Idealize.ShloMosaic Idealize.ShloMosaic.TcCoe Idealize.SL.Sem

variable (m : (ℓ : Loc nD τ sig) → Buf (Elt Ideal) ℓ) (c : Dev nD)

/-- A row's position. -/
abbrev pos (r : Fin 16384) : EReal := Rope.place (m (c, Proc.devRef .tc main_arg1)) r

theorem table_cos (r : Fin 16384) (l : Fin 128) : @Eq EReal (V m c main_v60 (ix2 r l))
    (if l.val % 64 < 8 then Rope.cs (pos m c r) (l.val % 64) else if l.val % 64 - 8 < 8 then Rope.cs (pos m c r) (l.val % 64 - 8) else 1) := by
  after_reads_at
  unfold pos Rope.cs Rope.angle Rope.place
  split_ifs
  all_goals try after_reads_at
  all_goals first | rfl | exact Rope.bits_one

theorem table_near (r : Fin 16384) (l : Fin 128) : @Eq EReal (V m c main_v66 (ix2 r l))
    (if l.val % 64 < 8 then -Rope.sn (pos m c r) (l.val % 64) else 0) := by
  after_reads_at
  unfold pos Rope.sn Rope.angle Rope.place
  split_ifs
  all_goals try after_reads_at
  all_goals first | rfl | exact Ideal.ofBits_zero _ | simp

theorem table_far (r : Fin 16384) (l : Fin 128) : @Eq EReal (V m c main_v71 (ix2 r l))
    (if l.val % 64 < 8 then 0 else if l.val % 64 - 8 < 8 then Rope.sn (pos m c r) (l.val % 64 - 8) else 0) := by
  after_reads_at
  unfold pos Rope.sn Rope.angle Rope.place
  split_ifs
  all_goals try after_reads_at
  all_goals first | rfl | exact Ideal.ofBits_zero _ | simp

theorem gains (i : Fin 16) (l : Fin 128) : @Eq EReal (V m c main_v37 (ix2 ⟨i.val, by omega⟩ l))
    (if i.val < 8 then Rope.ent (m (c, Proc.devRef .tc main_arg4)) (l.val % 64) * Ideal.ofBits .f32 0x3E38AA3B#32
      else Rope.ent (m (c, Proc.devRef .tc main_arg5)) (l.val % 64)) := by
  have eq : Rope.ent (m (c, Proc.devRef .tc main_arg4)) (l.val % 64) = m (c, Proc.devRef .tc main_arg4) (ix1 ⟨l.val % 64, by omega⟩) :=
    (Rope.ent_at _ ⟨l.val % 64, by omega⟩).symm
  have ek : Rope.ent (m (c, Proc.devRef .tc main_arg5)) (l.val % 64) = m (c, Proc.devRef .tc main_arg5) (ix1 ⟨l.val % 64, by omega⟩) :=
    (Rope.ent_at _ ⟨l.val % 64, by omega⟩).symm
  rw [eq, ek]
  obtain ⟨i, hi⟩ := i
  interval_cases i
  all_goals after_reads_at
  all_goals after_reads_at
  all_goals first | rfl | (rw [Rope.bits_one, mul_one]; rfl)

end Cert.Proof.KernelCIdeal
end
-- ==== Proof.ProjBlock.lean ====
/-
  The projection with its heads normalised and turned: a block of the kernel's result, for gains and weights of reals.
-/
module

public import proofs.«01_k».proof.Defs
public import proofs.«01_k».proof.Proof.Rope
public import proofs.«01_k».proof.Proof.ProjKer
public import proofs.«01_k».proof.Proof.ProjHost

@[expose] public section

set_option maxRecDepth 16384
set_option maxHeartbeats 2000000

noncomputable section

namespace Cert.Proof.Rope

open Idealize.ShloMosaic

/-- The dense projection, laid out by chunks of 128 columns. -/
def chunked (h : (⟨2, ![16384, 1024]⟩ : Shape).Idx → EReal) (pos : (⟨2, ![2, 8192]⟩ : Shape).Idx → BitVec 32) (g : (⟨1, ![1024]⟩ : Shape).Idx → EReal)
    (w : (⟨2, ![1024, 3072]⟩ : Shape).Idx → EReal) (gq gk : (⟨1, ![64]⟩ : Shape).Idx → EReal) : (⟨3, ![24, 16384, 128]⟩ : Shape).Idx → EReal :=
  fun i => dense h pos g w gq gk (i 1) ((i 0).val * 128 + (i 2).val)

end Cert.Proof.Rope

namespace Cert.Proof.KernelCIdeal

open Cert.KernelCIdeal Cert.KernelCIdeal.Gen
open Idealize.ShloMosaic Idealize.ShloMosaic.TcCoe Idealize.SL.Sem

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![0, t.val, 0] := by decide +kernel

variable (m : (ℓ : Loc nD τ sig) → Buf (Elt Ideal) ℓ) (c : Dev nD) (t : Fin grid0.N)

theorem rows_of (r : Fin 512) : t.val * 512 + r.val < 16384 := by
  have h : t.val < 32 := lt_of_lt_of_eq t.isLt (by decide +kernel)
  omega

/-- A block's row in the array, by its number in the block. -/
def rowAt (r : ℕ) : Fin 16384 := if h : t.val * 512 + r < 16384 then ⟨t.val * 512 + r, h⟩ else 0

theorem rowAt_eq (r : Fin 512) : rowAt t r.val = ⟨t.val * 512 + r.val, rows_of t r⟩ := dif_pos (rows_of t r)

theorem read_h (r : Fin 512) (k : Fin 1024) :
    @Eq EReal (iblk m c 0 t (ix2 r k)) (m (c, Proc.devRef .tc main_arg0) (ix2 ⟨t.val * 512 + r.val, rows_of t r⟩ k)) := by
  have e : ∀ A : FVec Ideal S16384x1024 .f32, @Eq EReal (((cfg0.win 0).blk t).view.read (Elt Ideal) A (ix2 r k)) (A (ix2 ⟨t.val * 512 + r.val, rows_of t r⟩ k)) := fun A => by
    blk_ext [index0 t]
  exact (e (V m c main_arg0)).trans (congrFun (V_main_arg0 m c) _)

theorem gain_row (k : Fin 1024) : @Eq EReal (V m c main_v72 (ix2 0 k)) (m (c, Proc.devRef .tc main_arg2) (ix1 k)) := by
  after_reads_at

theorem weights (k : Fin 1024) (n : Fin 3072) : @Eq EReal (V m c main_v38 (ix2 k n)) (m (c, Proc.devRef .tc main_arg3) (ix2 k n)) := by
  after_reads_at

theorem read_g (k : Fin 1024) : @Eq EReal (iblk m c 1 t (ix2 0 k)) (m (c, Proc.devRef .tc main_arg2) (ix1 k)) := by
  have e : ∀ A : FVec Ideal S1x1024 .f32, @Eq EReal (((cfg0.win 1).blk t).view.read (Elt Ideal) A (ix2 0 k)) (A (ix2 0 k)) := fun A => by
    blk_ext [index1 t]
  exact (e (V m c main_v72)).trans (gain_row m c k)

theorem read_w (k : Fin 1024) (n : Fin 3072) : @Eq EReal (iblk m c 2 t (ix2 k n)) (m (c, Proc.devRef .tc main_arg3) (ix2 k n)) := by
  have e : ∀ A : FVec Ideal S1024x3072 .bf16, @Eq EReal (((cfg0.win 2).blk t).view.read (Elt Ideal) A (ix2 k n)) (A (ix2 k n)) := fun A => by
    blk_ext [index2 t]
  exact (e (V m c main_v38)).trans (weights m c k n)

theorem read_gains (i : Fin 24) (l : Fin 128) : @Eq EReal (iblk m c 3 t (ix2 i l)) (V m c main_v37 (ix2 i l)) := by
  have e : ∀ A : FVec Ideal S24x128 .f32, @Eq EReal (((cfg0.win 3).blk t).view.read (Elt Ideal) A (ix2 i l)) (A (ix2 i l)) := fun A => by
    blk_ext [index3 t]
  exact e (V m c main_v37)

theorem read_cos (r : Fin 512) (l : Fin 128) : @Eq EReal (iblk m c 4 t (ix2 r l)) (V m c main_v60 (ix2 ⟨t.val * 512 + r.val, rows_of t r⟩ l)) := by
  have e : ∀ A : FVec Ideal S16384x128 .f32, @Eq EReal (((cfg0.win 4).blk t).view.read (Elt Ideal) A (ix2 r l)) (A (ix2 ⟨t.val * 512 + r.val, rows_of t r⟩ l)) := fun A => by
    blk_ext [index4 t]
  exact e (V m c main_v60)

theorem read_near (r : Fin 512) (l : Fin 128) : @Eq EReal (iblk m c 5 t (ix2 r l)) (V m c main_v66 (ix2 ⟨t.val * 512 + r.val, rows_of t r⟩ l)) := by
  have e : ∀ A : FVec Ideal S16384x128 .f32, @Eq EReal (((cfg0.win 5).blk t).view.read (Elt Ideal) A (ix2 r l)) (A (ix2 ⟨t.val * 512 + r.val, rows_of t r⟩ l)) := fun A => by
    blk_ext [index5 t]
  exact e (V m c main_v66)

theorem read_far (r : Fin 512) (l : Fin 128) : @Eq EReal (iblk m c 6 t (ix2 r l)) (V m c main_v71 (ix2 ⟨t.val * 512 + r.val, rows_of t r⟩ l)) := by
  have e : ∀ A : FVec Ideal S16384x128 .f32, @Eq EReal (((cfg0.win 6).blk t).view.read (Elt Ideal) A (ix2 r l)) (A (ix2 ⟨t.val * 512 + r.val, rows_of t r⟩ l)) := fun A => by
    blk_ext [index6 t]
  exact e (V m c main_v71)

/-- The kernel's result from a device's arguments. -/
def result : S24x16384x128.Idx → EReal :=
  Rope.chunked (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5))

/-- The products of a block's row and a column. -/
def products (r n : ℕ) : EReal :=
  Rope.lin (Rope.row (m (c, Proc.devRef .tc main_arg0)) (m (c, Proc.devRef .tc main_arg2)) (rowAt t r)) (Rope.col (n := 3072) (m (c, Proc.devRef .tc main_arg3))) n

/-- The gains of a chunk of queries or keys. -/
def gainOf (i d : ℕ) : EReal :=
  if i < 8 then Rope.ent (m (c, Proc.devRef .tc main_arg4)) d * Ideal.ofBits .f32 0x3E38AA3B#32 else Rope.ent (m (c, Proc.devRef .tc main_arg5)) d

/-- The gains and weights of a device are reals. -/
def Real : Prop :=
  (∀ k : Fin 1024, ∃ v : ℝ, @Eq EReal (m (c, Proc.devRef .tc main_arg2) (ix1 k)) v)
    ∧ ∀ (k : Fin 1024) (n : Fin 3072), ∃ v : ℝ, @Eq EReal (m (c, Proc.devRef .tc main_arg3) (ix2 k n)) v

theorem holds (H : Real m c) : Holds (iblk m c 0 t) (iblk m c 1 t) (iblk m c 2 t) (iblk m c 3 t) (iblk m c 4 t) (iblk m c 5 t) (iblk m c 6 t)
    (products m c t) (gainOf m c) (fun r => Rope.cs (pos m c (rowAt t r))) (fun r => Rope.sn (pos m c (rowAt t r))) where
  lin r n := by
    unfold products Rope.lin Rope.row
    rw [rowAt_eq]
    refine Finset.sum_congr rfl fun k _ => ?_
    refine congr (congrArg (fun (p q : EReal) => p * q) ?_) ((read_w m c t k n).trans (Rope.col_at (n := 3072) _ k n))
    exact congr (congrArg (fun (p q : EReal) => p * q) (congr (congrArg (fun (p q : EReal) => p * q) (read_h m c t r k))
      (congrArg Rope.scale (funext fun j => read_h m c t r j)))) (read_g m c t k)
  real r n := by
    refine Rope.real_lin (fun k => m (c, Proc.devRef .tc main_arg0) (ix2 (rowAt t r.val) k)) (fun k => m (c, Proc.devRef .tc main_arg2) (ix1 k)) _ H.1 n.val fun k => ?_
    rw [← Rope.col_at]
    exact H.2 k n
  gain i l := (read_gains m c t _ l).trans (gains m c i l)
  t4 r l := by rw [rowAt_eq]; exact (read_cos m c t r l).trans (table_cos m c _ l)
  t5 r l := by rw [rowAt_eq]; exact (read_near m c t r l).trans (table_near m c _ l)
  t6 r l := by rw [rowAt_eq]; exact (read_far m c t r l).trans (table_far m c _ l)

theorem tile_eq (i : Fin 24) (r : Fin 512) (l : Fin 128) :
    tile (products m c t) (gainOf m c) (fun r => Rope.cs (pos m c (rowAt t r))) (fun r => Rope.sn (pos m c (rowAt t r))) i.val r.val l.val
      = result m c (ix3 i ⟨t.val * 512 + r.val, rows_of t r⟩ l) := by
  show _ = Rope.dense _ _ _ _ _ _ (⟨t.val * 512 + r.val, rows_of t r⟩ : Fin 16384) (i.val * 128 + l.val)
  rw [← rowAt_eq]
  unfold tile Rope.dense
  by_cases h : i.val < 8
  · obtain ⟨s, hs, hb⟩ := Rope.bits_scale
    rw [if_pos (by omega : i.val < 16), if_pos (by omega : i.val * 128 + l.val < 1024), hb, ← Rope.rot_scaled _ _ _ _ s hs]
    have e : gainOf m c i.val = fun d => Rope.ent (m (c, Proc.devRef .tc main_arg4)) d * (s : EReal) := funext fun d => by unfold gainOf; rw [if_pos h, hb]
    rw [e]
    rfl
  · rw [if_neg (by omega : ¬ i.val * 128 + l.val < 1024)]
    have e : gainOf m c i.val = Rope.ent (m (c, Proc.devRef .tc main_arg5)) := funext fun d => by unfold gainOf; rw [if_neg h]
    rw [e]
    by_cases h' : i.val < 16
    · rw [if_pos h', if_pos (by omega : i.val * 128 + l.val < 2048)]
      rfl
    · rw [if_neg h', if_neg (by omega : ¬ i.val * 128 + l.val < 2048)]
      rfl

theorem block_at (H : Real m c) (i : Fin 24) (r : Fin 512) (l : Fin 128) :
    @Eq EReal ((dats m 0 c).after 7 t (ix3 i r l)) (result m c (ix3 i ⟨t.val * 512 + r.val, rows_of t r⟩ l)) := by
  rw [after0_7]
  exact (tiles_at (holds m c t H) (ix3 i r l)).trans (tile_eq m c t i r l)

end Cert.Proof.KernelCIdeal
end
-- ==== Proof.Proj.lean ====
/-
  The projection with its heads normalised and turned: the kernel's result is the reference's, for gains and weights of reals.
-/
module

public import proofs.«01_k».proof.Defs
public import proofs.«01_k».proof.Proof.Finite
public import proofs.«01_k».proof.Proof.Rope
public import proofs.«01_k».proof.Proof.ProjRef
public import proofs.«01_k».proof.Proof.ProjBlock

@[expose] public section

set_option maxRecDepth 16384
set_option maxHeartbeats 2000000

noncomputable section

namespace Cert.Proof.KernelCIdeal

open Cert.KernelCIdeal Cert.KernelCIdeal.Gen
open Idealize.ShloMosaic Idealize.ShloMosaic.TcCoe Idealize.SL.Sem

variable (m : (ℓ : Loc nD τ sig) → Buf (Elt Ideal) ℓ) (c : Dev nD)

theorem covers_out : ((cfgs 0).win 7).Covers := by decide +kernel

theorem out_array (H : Real m c) : (dats m 0 c).arrAt 7 (cfgs 0).N = result m c := by
  refine (dats m 0 c).arrAt_eq_of_covers 7 _ covers_out fun t hf y => ?_
  idx_vars y
  refine (block_at m c t H y0 y1 y2).trans ?_
  unfold result Rope.chunked
  blk_simp [index7 t]
  refine congrArg (fun r : Fin 16384 => Rope.dense _ _ _ _ _ _ r (y0.val * 128 + y2.val)) (Fin.ext ?_)
  show t.val * 512 + y1.val = _
  blk_simp [index7 t]

end Cert.Proof.KernelCIdeal

namespace Cert.Proof.ReferenceCIdeal

open Cert.ReferenceCIdeal Cert.ReferenceCIdeal.Gen Cert.ReferenceCIdeal.Value
open Idealize.ShloMosaic Idealize.ShloMosaic.TcCoe Idealize.SL.Sem Idealize.ShloMosaic.StableHlo

variable (m : (ℓ : Loc nD τ sig) → Buf (Elt Ideal) ℓ) (c : Dev nD)

/-- The reference's result from a device's arguments. -/
def result : S24x16384x128.Idx → EReal :=
  Rope.chunked (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5))

/-- The reference computes the projection. -/
theorem run_project (ρ : Dev nD → PrngReg) :
    θ_run (defs (F := Ideal)) (onTc (τ := τ) (main (F := Ideal))) ⟨m, fun _ => 0, ρ⟩ fun r => ∀ c : Dev nD,
      r.2.mem ((c.tc : Thread nD τ).loc main_v107) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((res_eq m c).trans (by
    funext i
    idx_vars i
    exact whole_at _ _ _ _ _ _ i0 i1 i2)), (h c).2⟩) (run (F := Ideal) m ρ)

end Cert.Proof.ReferenceCIdeal

namespace Cert.Proof.Finite

open Idealize.ShloMosaic

theorem facts_c : Cert.Pre_finite_c.Facts where
  bcast_S_S1024 := by decide
  reducesTo_S1024_S_d0 := by decide
  h_S_ := by decide
  bcast_S_S1024x3072 := by decide
  reducesTo_S1024x3072_S_d0_1 := by decide

theorem both (a b : BitVec 1) (h : a &&& b = 1#1) : a = 1#1 ∧ b = 1#1 := by
  revert h; revert a b; decide

open Cert.Pre_finite_c in
/-- Under the precondition every gain and every weight is a real. -/
theorem real_c (f : Cert.Pre_finite_c.Facts) (x0 : FVec Ideal S16384x1024 .f32) (x1 : IVec S2x8192 32) (g : FVec Ideal S1024 .f32) (w : FVec Ideal S1024x3072 .f32)
    (x4 x5 : FVec Ideal S64 .f32) (h : Cert.Pre_finite_c.fn (F := Ideal) x0 x1 g w x4 x5 = fun _ => 1#1) :
    (∀ i, ∃ v : ℝ, @Eq EReal (g i) v) ∧ ∀ i, ∃ v : ℝ, @Eq EReal (w i) v := by
  have e : IntOp.andi (Host.reduce IntOp.andi (cmpf .olt (Host.absf g) (broadcastInDim S1024 ![] f.bcast_S_S1024 (constant S_ .f32 0x7F800000#32))) (constantI S_ 1 1#1)
        f.reducesTo_S1024_S_d0 f.h_S_ (fun a => a.elim0))
      (Host.reduce IntOp.andi (cmpf .olt (Host.absf w) (broadcastInDim S1024x3072 ![] f.bcast_S_S1024x3072 (constant S_ .f32 0x7F800000#32))) (constantI S_ 1 1#1)
        f.reducesTo_S1024x3072_S_d0_1 f.h_S_ (fun a => a.elim0)) = 1#1 := by
    unfold fn at h
    exact congrFun h _
  obtain ⟨eg, ew⟩ := both _ _ e
  exact ⟨fun i => real_of_lt (g i) (Host.reduce_andi_all _ _ _ _ _ eg i), fun i => real_of_lt (w i) (Host.reduce_andi_all _ _ _ _ _ ew i)⟩

end Cert.Proof.Finite

namespace Cert.Proof

open Idealize.ShloMosaic Idealize.ShloMosaic.TcCoe Idealize.SL.Sem

theorem frame_c_reference : Cert.quiescent_ReferenceCIdeal := fun m g _ =>
  (θ_run Cert.ReferenceCIdeal.defs _ _).mono
    (fun r h => ⟨fun c => (h c).2, Idealize.ShloMosaic.sem_eq_zero_of_no_sems (by decide) r.2⟩)
    (Cert.ReferenceCIdeal.Value.run (F := Ideal) m g)

theorem algebraic_c : Cert.algebraic_KernelCIdeal_ReferenceCIdeal_pre_finite_c (hPre_finite_c := Finite.facts_c) := fun m g m' g' hp hm => by
  have hR : ∀ c, ReferenceCIdeal.result m' c = KernelCIdeal.result m c := fun c => by
    obtain ⟨e0, e1, e2, e3, e4, e5⟩ := hm c
    have e := congr (congr (congr (congr (congr (congrArg Rope.chunked e0) e1) e2) e3) e4) e5
    exact e
  have hX : ∀ c, KernelCIdeal.Real m c := fun c =>
    have h := Finite.real_c Finite.facts_c _ _ _ _ _ _ (hp c)
    ⟨fun k => h.1 (ix1 k), fun k n => h.2 (ix2 k n)⟩
  refine ⟨fun c => KernelCIdeal.result m c, ?_, ?_⟩
  · exact (θ_run _ _ _).mono (fun r h c => ⟨(h c).1.trans (KernelCIdeal.out_array m c (hX c)), (h c).2.2⟩) (Cert.KernelCIdeal.Value.run_blocks m g)
  · exact (θ_run _ _ _).mono (fun r h c => ⟨(h c).1.trans (hR c), (h c).2⟩) (ReferenceCIdeal.run_project m' g')

end Cert.Proof
end
-- ==== Proof.Sparse.lean ====
/-
  The other layer's projection: two attentions' queries, keys and values, and the selector's, which are turned only.
-/
module

public import proofs.«01_k».proof.Proof.Rope

@[expose] public section

set_option maxHeartbeats 2000000

noncomputable section

namespace Cert.Proof.Rope

open Idealize.ShloMosaic Idealize.ShloMosaic.TcCoe Cert.Proof

/-- The weights' columns as they are laid out: the selector's key twice, and zeros after its weights. -/
def padded (w : (⟨2, ![1024, 3396]⟩ : Shape).Idx → EReal) (k : Fin 1024) (j : ℕ) : EReal :=
  if j < 3392 then col w k j else if j < 3460 then col w k (j - 64) else 0

/-- A column of the two attentions' queries, keys and values and of the selector's. -/
def sparse (h : (⟨2, ![16384, 1024]⟩ : Shape).Idx → EReal) (pos : (⟨2, ![2, 8192]⟩ : Shape).Idx → BitVec 32) (g : (⟨1, ![1024]⟩ : Shape).Idx → EReal)
    (w : (⟨2, ![1024, 3396]⟩ : Shape).Idx → EReal) (aq ak bq bk : (⟨1, ![64]⟩ : Shape).Idx → EReal) (r : Fin 16384) (n : ℕ) : EReal :=
  if n < 512 then rot (nrm (lin (row h g r) (padded w)) (ent aq)) (cs (place pos r)) (sn (place pos r)) n * Ideal.ofBits .f32 0x3E38AA3B#32
  else if n < 1024 then rot (nrm (lin (row h g r) (padded w)) (ent ak)) (cs (place pos r)) (sn (place pos r)) n
  else if n < 1536 then lin (row h g r) (padded w) n
  else if n < 2048 then rot (nrm (lin (row h g r) (padded w)) (ent bq)) (cs (place pos r)) (sn (place pos r)) n * Ideal.ofBits .f32 0x3E38AA3B#32
  else if n < 2560 then rot (nrm (lin (row h g r) (padded w)) (ent bk)) (cs (place pos r)) (sn (place pos r)) n
  else if n < 3072 then lin (row h g r) (padded w) n
  else if n < 3456 then rot (lin (row h g r) (padded w)) (cs (place pos r)) (sn (place pos r)) n
  else lin (row h g r) (padded w) n

/-- The projection, laid out by chunks of 128 columns. -/
def sparsed (h : (⟨2, ![16384, 1024]⟩ : Shape).Idx → EReal) (pos : (⟨2, ![2, 8192]⟩ : Shape).Idx → BitVec 32) (g : (⟨1, ![1024]⟩ : Shape).Idx → EReal)
    (w : (⟨2, ![1024, 3396]⟩ : Shape).Idx → EReal) (aq ak bq bk : (⟨1, ![64]⟩ : Shape).Idx → EReal) : (⟨3, ![28, 16384, 128]⟩ : Shape).Idx → EReal :=
  fun i => sparse h pos g w aq ak bq bk (i 1) ((i 0).val * 128 + (i 2).val)

theorem lin_low (x : Fin 1024 → EReal) (w : (⟨2, ![1024, 3396]⟩ : Shape).Idx → EReal) (n : ℕ) (hn : n < 3392) : lin x (padded w) n = lin x (col w) n := by
  unfold lin padded
  simp only [if_pos hn]

theorem lin_mid (x : Fin 1024 → EReal) (w : (⟨2, ![1024, 3396]⟩ : Shape).Idx → EReal) (n : ℕ) (hn : ¬ n < 3392) (hn' : n < 3460) :
    lin x (padded w) n = lin x (col w) (n - 64) := by
  unfold lin padded
  simp only [if_neg hn, if_pos hn']

theorem lin_high (x : Fin 1024 → EReal) (w : (⟨2, ![1024, 3396]⟩ : Shape).Idx → EReal) (n : ℕ) (hn : ¬ n < 3460) : lin x (padded w) n = 0 := by
  unfold lin padded
  simp only [if_neg hn, if_neg (show ¬ n < 3392 by omega), mul_zero, Finset.sum_const_zero]

theorem real_padded (w : (⟨2, ![1024, 3396]⟩ : Shape).Idx → EReal) (k : Fin 1024) (hw : ∀ j : Fin 3396, ∃ v : ℝ, w (ix2 k j) = v) (n : ℕ) : ∃ v : ℝ, padded w k n = v := by
  have hc : ∀ n, ∃ v : ℝ, col w k n = v := fun n => by
    unfold col
    split
    · exact hw _
    · exact ⟨0, rfl⟩
  unfold padded
  split
  · exact hc n
  · split
    · exact hc _
    · exact ⟨0, rfl⟩

/-- Turning reads the column's own head, so a range of whole heads turns as its copy does. -/
theorem rot_range (b b' cs sn : ℕ → EReal) (lo hi s : ℕ) (hlo : lo % 64 = 0) (hhi : hi % 64 = 0) (hs : s % 64 = 0) (h : ∀ n, lo ≤ n → n < hi → b n = b' (n + s)) (n : ℕ)
    (h0 : lo ≤ n) (h1 : n < hi) : rot b cs sn n = rot b' cs sn (n + s) := by
  unfold rot
  rw [(by omega : (n + s) % 64 = n % 64)]
  split
  · rw [h n h0 h1, h (n + 8) (by omega) (by omega), (by omega : n + 8 + s = n + s + 8)]
  · split
    · rw [h n h0 h1, h (n - 8) (by omega) (by omega), (by omega : n - 8 + s = n + s - 8)]
    · exact h n h0 h1

end Cert.Proof.Rope
end
-- ==== Proof.SparseRef.lean ====
/-
  The other layer's projection, as the reference writes it.
-/
module

public import proofs.«01_k».proof.Defs
public import proofs.«01_k».proof.Proof.Sparse
public import proofs.«01_k».proof.Proof.ProjRef
public import proofs.«01_k».proof.Proof.Gen.ReferenceABIdeal.Run
public import Idealize.ShloMosaic.Lib.Pointwise
public import Idealize.ShloMosaic.Lib.ValueIdx
public import Idealize.ShloMosaic.Lib.StableHlo.ReadAt
public import Idealize.ShloMosaic.Lib.Tactic
public import Idealize.ShloMosaic.PureOps.Ideal

@[expose] public section

set_option maxRecDepth 16384
set_option maxHeartbeats 2000000

noncomputable section

namespace Cert.Proof.ReferenceABIdeal

open Cert.ReferenceABIdeal Cert.ReferenceABIdeal.Gen Cert.ReferenceABIdeal.Value
open Idealize.ShloMosaic Idealize.ShloMosaic.TcCoe Idealize.SL.Sem Idealize.ShloMosaic.StableHlo
open Cert.Proof.ReferenceCIdeal (rows angles angles_at)

/-- The products. -/
def prods (x : FVec Ideal S16384x1024 .f32) (w : FVec Ideal S1024x3396 .f32) : FVec Ideal S16384x3396 .f32 :=
  Host.dotGeneral (F := Ideal) (φ₁ := .f32) (φ₂ := .f32) dot_S16384x1024_S1024x3396_S16384x3396_1_0_0_1_n_n none x w

/-- The products, a head a row. -/
def heads (z : FVec Ideal S16384x3396 .f32) : FVec Ideal S16384x53x64 .f32 :=
  shapeCast _ (extractStridedSlice S16384x3392 ![0, 0] z slices_S16384x3396_S16384x3392_0_0) shapeCasts_S16384x3392_S16384x53x64

/-- The selector's weights, padded. -/
def rest (z : FVec Ideal S16384x3396 .f32) : FVec Ideal S16384x2x64 .f32 :=
  shapeCast _ (concatenate S16384x128 1 [⟨S16384x4, extractStridedSlice S16384x4 ![0, 3392] z slices_S16384x3396_S16384x4_0_3392⟩,
    ⟨S16384x124, broadcastInDim S16384x124 ![] bcast_S_S16384x124 (constant (F := Ideal) S_ .f32 0x00000000#32)⟩] concatenates_S16384x4_S16384x124_S16384x128_d1) shapeCasts_S16384x128_S16384x2x64

/-- Eight heads normalised. -/
def even (q : FVec Ideal S16384x8x64 .f32) (g : FVec Ideal S64 .f32) : FVec Ideal S16384x8x64 .f32 :=
  mulf (F := Ideal) (mulf (F := Ideal) q (broadcastInDim S16384x8x64 ![0, 1, 2] bcast_S16384x8x1_S16384x8x64_0_1_2 (Host.rsqrt (F := Ideal)
    (addf (F := Ideal) (Host.divf (F := Ideal) (broadcastInDim S16384x8x1 ![0, 1] bcast_S16384x8_S16384x8x1_0_1 (Host.reduceAdd (F := Ideal) (mulf (F := Ideal) q q)
      (constant (F := Ideal) S_ .f32 0x00000000#32) reducesTo_S16384x8x64_S16384x8_d2 h_S_)) (broadcastInDim S16384x8x1 ![] bcast_S_S16384x8x1
      (constant (F := Ideal) S_ .f32 0x42800000#32))) (broadcastInDim S16384x8x1 ![] bcast_S_S16384x8x1 (constant (F := Ideal) S_ .f32 0x358637BD#32))))))
    (broadcastInDim S16384x8x64 ![0, 1, 2] bcast_S1x1x64_S16384x8x64_0_1_2 (broadcastInDim S1x1x64 ![2] bcast_S64_S1x1x64_2 g))

/-- The heads which are turned, side by side. -/
def joined (a b c d : FVec Ideal S16384x8x64 .f32) (e : FVec Ideal S16384x5x64 .f32) : FVec Ideal S16384x37x64 .f32 :=
  concatenate S16384x37x64 1 [⟨S16384x8x64, a⟩, ⟨S16384x8x64, b⟩, ⟨S16384x8x64, c⟩, ⟨S16384x8x64, d⟩, ⟨S16384x5x64, e⟩]
    concatenates_S16384x8x64_S16384x8x64_S16384x8x64_S16384x8x64_S16384x5x64_S16384x37x64_d1

/-- Heads turned. -/
def turn (x : FVec Ideal S16384x37x64 .f32) (u v : FVec Ideal S16384x1x8 .f32) : FVec Ideal S16384x37x64 .f32 :=
  concatenate S16384x37x64 2 [
    ⟨S16384x37x8, subf (F := Ideal) (mulf (F := Ideal) (extractStridedSlice S16384x37x8 ![0, 0, 0] x slices_S16384x37x64_S16384x37x8_0_0_0) (broadcastInDim S16384x37x8 ![0, 1, 2] bcast_S16384x1x8_S16384x37x8_0_1_2 u))
      (mulf (F := Ideal) (extractStridedSlice S16384x37x8 ![0, 0, 8] x slices_S16384x37x64_S16384x37x8_0_0_8) (broadcastInDim S16384x37x8 ![0, 1, 2] bcast_S16384x1x8_S16384x37x8_0_1_2 v))⟩,
    ⟨S16384x37x8, addf (F := Ideal) (mulf (F := Ideal) (extractStridedSlice S16384x37x8 ![0, 0, 8] x slices_S16384x37x64_S16384x37x8_0_0_8) (broadcastInDim S16384x37x8 ![0, 1, 2] bcast_S16384x1x8_S16384x37x8_0_1_2 u))
      (mulf (F := Ideal) (extractStridedSlice S16384x37x8 ![0, 0, 0] x slices_S16384x37x64_S16384x37x8_0_0_0) (broadcastInDim S16384x37x8 ![0, 1, 2] bcast_S16384x1x8_S16384x37x8_0_1_2 v))⟩,
    ⟨S16384x37x48, extractStridedSlice S16384x37x48 ![0, 0, 16] x slices_S16384x37x64_S16384x37x48_0_0_16⟩]
    concatenates_S16384x37x8_S16384x37x8_S16384x37x48_S16384x37x64_d2

/-- The queries, keys and values in chunks of two heads. -/
def chunks (a b c d e f : FVec Ideal S16384x8x64 .f32) (i : FVec Ideal S16384x4x64 .f32) (k k' : FVec Ideal S16384x1x64 .f32) (w : FVec Ideal S16384x2x64 .f32) : FVec Ideal S28x16384x128 .bf16 :=
  truncf (F := Ideal) .bf16 (transpose S28x16384x128 [1, 0, 2] (shapeCast _ (concatenate S16384x56x64 1 [⟨S16384x8x64, a⟩, ⟨S16384x8x64, b⟩, ⟨S16384x8x64, c⟩, ⟨S16384x8x64, d⟩,
    ⟨S16384x8x64, e⟩, ⟨S16384x8x64, f⟩, ⟨S16384x4x64, i⟩, ⟨S16384x1x64, k⟩, ⟨S16384x1x64, k'⟩, ⟨S16384x2x64, w⟩]
    concatenates_S16384x8x64_S16384x8x64_S16384x8x64_S16384x8x64_S16384x8x64_S16384x8x64_S16384x4x64_S16384x1x64_S16384x1x64_S16384x2x64_S16384x56x64_d1)
    shapeCasts_S16384x56x64_S16384x28x128) transposes_S16384x28x128_S28x16384x128_1_0_2) bitsLt_bf16_f32

/-- The heads which are turned, normalised but for the last five. -/
def unturned (y : FVec Ideal S16384x53x64 .f32) (aq ak bq bk : FVec Ideal S64 .f32) : FVec Ideal S16384x37x64 .f32 :=
  joined (even (extractStridedSlice S16384x8x64 ![0, 0, 0] y slices_S16384x53x64_S16384x8x64_0_0_0) aq) (even (extractStridedSlice S16384x8x64 ![0, 8, 0] y slices_S16384x53x64_S16384x8x64_0_8_0) ak)
    (even (extractStridedSlice S16384x8x64 ![0, 24, 0] y slices_S16384x53x64_S16384x8x64_0_24_0) bq) (even (extractStridedSlice S16384x8x64 ![0, 32, 0] y slices_S16384x53x64_S16384x8x64_0_32_0) bk)
    (extractStridedSlice S16384x5x64 ![0, 48, 0] y slices_S16384x53x64_S16384x5x64_0_48_0)

/-- The layout from the products and the turned heads. -/
def laid (z : FVec Ideal S16384x3396 .f32) (y : FVec Ideal S16384x53x64 .f32) (x : FVec Ideal S16384x37x64 .f32) : FVec Ideal S28x16384x128 .bf16 :=
  chunks
    (mulf (F := Ideal) (extractStridedSlice S16384x8x64 ![0, 0, 0] x slices_S16384x37x64_S16384x8x64_0_0_0) (broadcastInDim S16384x8x64 ![] bcast_S_S16384x8x64 (constant (F := Ideal) S_ .f32 0x3E38AA3B#32)))
    (extractStridedSlice S16384x8x64 ![0, 8, 0] x slices_S16384x37x64_S16384x8x64_0_8_0) (extractStridedSlice S16384x8x64 ![0, 16, 0] y slices_S16384x53x64_S16384x8x64_0_16_0)
    (mulf (F := Ideal) (extractStridedSlice S16384x8x64 ![0, 16, 0] x slices_S16384x37x64_S16384x8x64_0_16_0) (broadcastInDim S16384x8x64 ![] bcast_S_S16384x8x64 (constant (F := Ideal) S_ .f32 0x3E38AA3B#32)))
    (extractStridedSlice S16384x8x64 ![0, 24, 0] x slices_S16384x37x64_S16384x8x64_0_24_0) (extractStridedSlice S16384x8x64 ![0, 40, 0] y slices_S16384x53x64_S16384x8x64_0_40_0)
    (extractStridedSlice S16384x4x64 ![0, 32, 0] x slices_S16384x37x64_S16384x4x64_0_32_0) (extractStridedSlice S16384x1x64 ![0, 36, 0] x slices_S16384x37x64_S16384x1x64_0_36_0)
    (extractStridedSlice S16384x1x64 ![0, 36, 0] x slices_S16384x37x64_S16384x1x64_0_36_0) (rest z)

/-- The whole. -/
def whole (h : FVec Ideal S16384x1024 .f32) (pos : IVec S2x8192 32) (g : FVec Ideal S1024 .f32) (w : FVec Ideal S1024x3396 .f32) (aq ak bq bk : FVec Ideal S64 .f32) :
    FVec Ideal S28x16384x128 .bf16 :=
  laid (prods (rows h g) w) (heads (prods (rows h g) w)) (turn (unturned (heads (prods (rows h g) w)) aq ak bq bk) (Host.cos (F := Ideal) (angles pos)) (Host.sin (F := Ideal) (angles pos)))

theorem prods_at (h : FVec Ideal S16384x1024 .f32) (g : FVec Ideal S1024 .f32) (w : FVec Ideal S1024x3396 .f32) (r : Fin 16384) (n : Fin 3396) :
    @Eq EReal (prods (rows h g) w (ix2 r n)) (Rope.lin (Rope.row h g r) (Rope.col w) n.val) := by
  have e : @Eq EReal (prods (rows h g) w (ix2 r n)) (∑ k : Fin 1024, rows h g (ix2 r k) * w (ix2 k n)) := by
    pointwise [prods]
  refine e.trans (Finset.sum_congr rfl fun k _ => ?_)
  rw [Rope.col_at w k]
  refine congrArg (fun z : EReal => z * _) ?_
  unfold Rope.row Rope.scale
  pointwise [rows]

theorem heads_at (z : FVec Ideal S16384x3396 .f32) (r : Fin 16384) (t : Fin 53) (d : Fin 64) : @Eq EReal (heads z (ix3 r t d)) (z (ix2 r ⟨t.val * 64 + d.val, by omega⟩)) := by
  pointwise [heads]

theorem rest_at (z : FVec Ideal S16384x3396 .f32) (a : ℕ → EReal) (r : Fin 16384) (h : ∀ n : Fin 4, @Eq EReal (z (ix2 r ⟨3392 + n.val, by omega⟩)) (a (3456 + n.val)))
    (h' : ∀ n, ¬ n < 3460 → a n = 0) (t : Fin 2) (d : Fin 64) : @Eq EReal (rest z (ix3 r t d)) (a ((54 + t.val) * 64 + d.val)) := by
  pointwise [rest]
  split_ifs with hd
  · refine (h ⟨t.val * 64 + d.val, hd⟩).trans (congrArg a ?_)
    show 3456 + (t.val * 64 + d.val) = _
    omega
  · rw [h' _ (by omega)]

theorem even_at (q : FVec Ideal S16384x8x64 .f32) (g : FVec Ideal S64 .f32) (r : Fin 16384) (t : Fin 8) (d : Fin 64) :
    @Eq EReal (even q g (ix3 r t d)) (q (ix3 r t d) * Ideal.rsqrt (Ideal.div (∑ j : Fin 64, q (ix3 r t j) * q (ix3 r t j)) (Ideal.ofBits .f32 0x42800000#32)
      + Ideal.ofBits .f32 0x358637BD#32) * g (ix1 d)) := by
  pointwise [even]

theorem even_nrm (a : ℕ → EReal) (o : ℕ) (q : FVec Ideal S16384x8x64 .f32) (g : FVec Ideal S64 .f32) (r : Fin 16384)
    (ha : ∀ (t : Fin 8) (d : Fin 64), @Eq EReal (q (ix3 r t d)) (a ((o + t.val) * 64 + d.val))) (t : Fin 8) (d : Fin 64) :
    @Eq EReal (even q g (ix3 r t d)) (Rope.nrm a (Rope.ent g) ((o + t.val) * 64 + d.val)) := by
  refine (even_at q g r t d).trans ?_
  unfold Rope.nrm Rope.factor
  rw [(by omega : ((o + t.val) * 64 + d.val) / 64 = o + t.val), (by omega : ((o + t.val) * 64 + d.val) % 64 = d.val), Rope.ent_at g d]
  simp only [ha]

theorem joined_at (a b c d : FVec Ideal S16384x8x64 .f32) (e : FVec Ideal S16384x5x64 .f32) (B : ℕ → EReal) (r : Fin 16384)
    (ha : ∀ (t : Fin 8) (j : Fin 64), @Eq EReal (a (ix3 r t j)) (B ((0 + t.val) * 64 + j.val)))
    (hb : ∀ (t : Fin 8) (j : Fin 64), @Eq EReal (b (ix3 r t j)) (B ((8 + t.val) * 64 + j.val)))
    (hc : ∀ (t : Fin 8) (j : Fin 64), @Eq EReal (c (ix3 r t j)) (B ((16 + t.val) * 64 + j.val)))
    (hd : ∀ (t : Fin 8) (j : Fin 64), @Eq EReal (d (ix3 r t j)) (B ((24 + t.val) * 64 + j.val)))
    (he : ∀ (t : Fin 5) (j : Fin 64), @Eq EReal (e (ix3 r t j)) (B ((32 + t.val) * 64 + j.val))) (t : Fin 37) (j : Fin 64) :
    @Eq EReal (joined a b c d e (ix3 r t j)) (B (t.val * 64 + j.val)) := by
  pointwise [joined]
  simp only [ha, hb, hc, hd, he]
  split_ifs <;> (congr 1; omega)

theorem turn_at (b u' v' : ℕ → EReal) (x : FVec Ideal S16384x37x64 .f32) (u v : FVec Ideal S16384x1x8 .f32) (r : Fin 16384)
    (hx : ∀ (t : Fin 37) (d : Fin 64), @Eq EReal (x (ix3 r t d)) (b (t.val * 64 + d.val)))
    (hu : ∀ d : Fin 8, @Eq EReal (u (ix3 r 0 d)) (u' d.val)) (hv : ∀ d : Fin 8, @Eq EReal (v (ix3 r 0 d)) (v' d.val)) (t : Fin 37) (d : Fin 64) :
    @Eq EReal (turn x u v (ix3 r t d)) (Rope.rot b u' v' (t.val * 64 + d.val)) := by
  pointwise [turn]
  simp only [hx, hu, hv]
  unfold Rope.rot
  rw [(by omega : (t.val * 64 + d.val) % 64 = d.val)]
  by_cases h : d.val < 8
  · rw [dif_pos h, if_pos h, (by omega : t.val * 64 + (8 + d.val) = t.val * 64 + d.val + 8)]
  · rw [dif_neg h, if_neg h]
    by_cases h' : d.val < 16
    · rw [dif_pos (by omega : d.val - 8 < 8), if_pos h', (by omega : t.val * 64 + (8 + (d.val - 8)) = t.val * 64 + d.val),
        (by omega : t.val * 64 + (d.val - 8) = t.val * 64 + d.val - 8)]
    · rw [dif_neg (by omega : ¬ d.val - 8 < 8), if_neg h', (by omega : t.val * 64 + (16 + (d.val - 8 - 8)) = t.val * 64 + d.val)]

theorem chunks_at (a b c d e f : FVec Ideal S16384x8x64 .f32) (i : FVec Ideal S16384x4x64 .f32) (k k' : FVec Ideal S16384x1x64 .f32) (w : FVec Ideal S16384x2x64 .f32) (P : ℕ → EReal) (r : Fin 16384)
    (ha : ∀ (t : Fin 8) (j : Fin 64), @Eq EReal (a (ix3 r t j)) (P ((0 + t.val) * 64 + j.val)))
    (hb : ∀ (t : Fin 8) (j : Fin 64), @Eq EReal (b (ix3 r t j)) (P ((8 + t.val) * 64 + j.val)))
    (hc : ∀ (t : Fin 8) (j : Fin 64), @Eq EReal (c (ix3 r t j)) (P ((16 + t.val) * 64 + j.val)))
    (hd : ∀ (t : Fin 8) (j : Fin 64), @Eq EReal (d (ix3 r t j)) (P ((24 + t.val) * 64 + j.val)))
    (he : ∀ (t : Fin 8) (j : Fin 64), @Eq EReal (e (ix3 r t j)) (P ((32 + t.val) * 64 + j.val)))
    (hf : ∀ (t : Fin 8) (j : Fin 64), @Eq EReal (f (ix3 r t j)) (P ((40 + t.val) * 64 + j.val)))
    (hi : ∀ (t : Fin 4) (j : Fin 64), @Eq EReal (i (ix3 r t j)) (P ((48 + t.val) * 64 + j.val)))
    (hk : ∀ (t : Fin 1) (j : Fin 64), @Eq EReal (k (ix3 r t j)) (P ((52 + t.val) * 64 + j.val)))
    (hk' : ∀ (t : Fin 1) (j : Fin 64), @Eq EReal (k' (ix3 r t j)) (P ((53 + t.val) * 64 + j.val)))
    (hw : ∀ (t : Fin 2) (j : Fin 64), @Eq EReal (w (ix3 r t j)) (P ((54 + t.val) * 64 + j.val))) (n : Fin 28) (l : Fin 128) :
    @Eq EReal (chunks a b c d e f i k k' w (ix3 n r l)) (P (n.val * 128 + l.val)) := by
  pointwise [chunks]
  simp only [ha, hb, hc, hd, he, hf, hi, hk, hk', hw]
  split_ifs <;> (congr 1; omega)

/-- The heads which are turned, by their columns. -/
def base (L : ℕ → EReal) (aq ak bq bk : ℕ → EReal) (n : ℕ) : EReal :=
  if n < 512 then Rope.nrm L aq n else if n < 1024 then Rope.nrm L ak n else if n < 1536 then Rope.nrm L bq (n + 512)
  else if n < 2048 then Rope.nrm L bk (n + 512) else L (n + 1024)

theorem eight_at (y : FVec Ideal S16384x53x64 .f32) (o : ℕ) (hs : S16384x53x64.Slices ![0, o, 0] S16384x8x64) (ho : o + 8 ≤ 53) (r : Fin 16384) (t : Fin 8) (d : Fin 64) :
    @Eq EReal (extractStridedSlice S16384x8x64 ![0, o, 0] y hs (ix3 r t d)) (y (ix3 r ⟨o + t.val, by omega⟩ d)) := by
  pointwise

theorem five_at (y : FVec Ideal S16384x53x64 .f32) (o : ℕ) (hs : S16384x53x64.Slices ![0, o, 0] S16384x5x64) (ho : o + 5 ≤ 53) (r : Fin 16384) (t : Fin 5) (d : Fin 64) :
    @Eq EReal (extractStridedSlice S16384x5x64 ![0, o, 0] y hs (ix3 r t d)) (y (ix3 r ⟨o + t.val, by omega⟩ d)) := by
  pointwise

theorem turned_eight (x : FVec Ideal S16384x37x64 .f32) (o : ℕ) (hs : S16384x37x64.Slices ![0, o, 0] S16384x8x64) (ho : o + 8 ≤ 37) (r : Fin 16384) (t : Fin 8) (d : Fin 64) :
    @Eq EReal (extractStridedSlice S16384x8x64 ![0, o, 0] x hs (ix3 r t d)) (x (ix3 r ⟨o + t.val, by omega⟩ d)) := by
  pointwise

theorem turned_four (x : FVec Ideal S16384x37x64 .f32) (o : ℕ) (hs : S16384x37x64.Slices ![0, o, 0] S16384x4x64) (ho : o + 4 ≤ 37) (r : Fin 16384) (t : Fin 4) (d : Fin 64) :
    @Eq EReal (extractStridedSlice S16384x4x64 ![0, o, 0] x hs (ix3 r t d)) (x (ix3 r ⟨o + t.val, by omega⟩ d)) := by
  pointwise

theorem turned_one (x : FVec Ideal S16384x37x64 .f32) (o : ℕ) (hs : S16384x37x64.Slices ![0, o, 0] S16384x1x64) (ho : o + 1 ≤ 37) (r : Fin 16384) (t : Fin 1) (d : Fin 64) :
    @Eq EReal (extractStridedSlice S16384x1x64 ![0, o, 0] x hs (ix3 r t d)) (x (ix3 r ⟨o + t.val, by omega⟩ d)) := by
  obtain rfl : t = 0 := Subsingleton.elim _ _
  pointwise

theorem unturned_at (y : FVec Ideal S16384x53x64 .f32) (aq ak bq bk : FVec Ideal S64 .f32) (L : ℕ → EReal) (r : Fin 16384)
    (hy : ∀ (n : ℕ) (hn : n < 53) (d : Fin 64), @Eq EReal (y (ix3 r ⟨n, hn⟩ d)) (L (n * 64 + d.val))) (t : Fin 37) (d : Fin 64) :
    @Eq EReal (unturned y aq ak bq bk (ix3 r t d)) (base L (Rope.ent aq) (Rope.ent ak) (Rope.ent bq) (Rope.ent bk) (t.val * 64 + d.val)) := by
  have q : ∀ (o : ℕ) (hs : S16384x53x64.Slices ![0, o, 0] S16384x8x64) (ho : o + 8 ≤ 53) (g : FVec Ideal S64 .f32) (t : Fin 8) (d : Fin 64),
      @Eq EReal (even (extractStridedSlice S16384x8x64 ![0, o, 0] y hs) g (ix3 r t d)) (Rope.nrm L (Rope.ent g) ((o + t.val) * 64 + d.val)) := fun o hs ho g t d =>
    even_nrm L o _ g r (fun t d => (eight_at y o hs ho r t d).trans (hy _ _ d)) t d
  refine joined_at _ _ _ _ _ _ r (fun t j => (q 0 _ (by omega) aq t j).trans ?_) (fun t j => (q 8 _ (by omega) ak t j).trans ?_) (fun t j => (q 24 _ (by omega) bq t j).trans ?_)
    (fun t j => (q 32 _ (by omega) bk t j).trans ?_) (fun t j => ((five_at y 48 _ (by omega) r t j).trans (hy _ _ j)).trans ?_) t d <;> unfold base
  · rw [if_pos (by omega)]
  · rw [if_neg (by omega), if_pos (by omega)]
  · rw [if_neg (by omega), if_neg (by omega), if_pos (by omega), (by omega : (24 + t.val) * 64 + j.val = (16 + t.val) * 64 + j.val + 512)]
  · rw [if_neg (by omega), if_neg (by omega), if_neg (by omega), if_pos (by omega), (by omega : (32 + t.val) * 64 + j.val = (24 + t.val) * 64 + j.val + 512)]
  · rw [if_neg (by omega), if_neg (by omega), if_neg (by omega), if_neg (by omega)]
    exact congrArg L (by omega)

section
variable (h : FVec Ideal S16384x1024 .f32) (pos : IVec S2x8192 32) (g : FVec Ideal S1024 .f32) (w : FVec Ideal S1024x3396 .f32) (aq ak bq bk : FVec Ideal S64 .f32)

/-- The turned heads of a row, by their columns. -/
def turned (r : Fin 16384) (n : ℕ) : EReal :=
  Rope.rot (base (Rope.lin (Rope.row h g r) (Rope.padded w)) (Rope.ent aq) (Rope.ent ak) (Rope.ent bq) (Rope.ent bk)) (Rope.cs (Rope.place pos r)) (Rope.sn (Rope.place pos r)) n

theorem turned_at (r : Fin 16384) (t : Fin 37) (d : Fin 64) :
    @Eq EReal (turn (unturned (heads (prods (rows h g) w)) aq ak bq bk) (Host.cos (F := Ideal) (angles pos)) (Host.sin (F := Ideal) (angles pos)) (ix3 r t d))
      (turned h pos g w aq ak bq bk r (t.val * 64 + d.val)) := by
  refine turn_at _ _ _ _ _ _ r (fun t d => unturned_at _ aq ak bq bk (Rope.lin (Rope.row h g r) (Rope.padded w)) r (fun n hn d => ?_) t d)
    (fun d => congrArg Ideal.cos (angles_at pos r d)) (fun d => congrArg Ideal.sin (angles_at pos r d)) t d
  refine (heads_at _ r ⟨n, hn⟩ d).trans ((prods_at h g w r _).trans ?_)
  exact (Rope.lin_low _ w _ (show n * 64 + d.val < 3392 by omega)).symm

/-- A range of turned heads, from the head its columns stand at in the layout. -/
theorem turned_part (r : Fin 16384) (b : ℕ → EReal) (lo hi s : ℕ) (hlo : lo % 64 = 0) (hhi : hi % 64 = 0) (hs : s % 64 = 0)
    (hb : ∀ n, lo ≤ n → n < hi → base (Rope.lin (Rope.row h g r) (Rope.padded w)) (Rope.ent aq) (Rope.ent ak) (Rope.ent bq) (Rope.ent bk) n = b (n + s)) (n : ℕ) (h0 : lo ≤ n) (h1 : n < hi) :
    turned h pos g w aq ak bq bk r n = Rope.rot b (Rope.cs (Rope.place pos r)) (Rope.sn (Rope.place pos r)) (n + s) :=
  Rope.rot_range _ b _ _ lo hi s hlo hhi hs hb n h0 h1

/-- The selector's turned heads in the layout. -/
theorem high (r : Fin 16384) (n k : ℕ) (h0 : 2048 ≤ n) (h1 : n < 2368) (hk : k = n + 1024) : turned h pos g w aq ak bq bk r n = Rope.sparse h pos g w aq ak bq bk r k := by
  subst hk
  unfold Rope.sparse
  rw [if_neg (by omega), if_neg (by omega), if_neg (by omega), if_neg (by omega), if_neg (by omega), if_neg (by omega), if_pos (by omega)]
  exact turned_part h pos g w aq ak bq bk r _ 2048 2368 1024 (by omega) (by omega) (by omega)
    (fun n h0 h1 => (if_neg (by omega)).trans ((if_neg (by omega)).trans ((if_neg (by omega)).trans (if_neg (by omega))))) n h0 h1

/-- The selector's key is laid out twice. -/
theorem twice (r : Fin 16384) (n : ℕ) (h0 : 3328 ≤ n) (h1 : n < 3392) : Rope.sparse h pos g w aq ak bq bk r n = Rope.sparse h pos g w aq ak bq bk r (n + 64) := by
  unfold Rope.sparse
  rw [if_neg (by omega), if_neg (by omega), if_neg (by omega), if_neg (by omega), if_neg (by omega), if_neg (by omega), if_pos (by omega),
    if_neg (by omega), if_neg (by omega), if_neg (by omega), if_neg (by omega), if_neg (by omega), if_neg (by omega), if_pos (by omega)]
  exact Rope.rot_range _ _ _ _ 3328 3392 64 (by omega) (by omega) (by omega)
    (fun k k0 k1 => (Rope.lin_low _ w k k1).trans (Rope.lin_mid _ w (k + 64) (by omega) (by omega)).symm) n h0 h1

theorem whole_at (c : Fin 28) (r : Fin 16384) (l : Fin 128) :
    @Eq EReal (whole h pos g w aq ak bq bk (ix3 c r l)) (Rope.sparse h pos g w aq ak bq bk r (c.val * 128 + l.val)) := by
  have T : ∀ (n : ℕ) (hn : n < 37) (d : Fin 64), @Eq EReal (turn (unturned (heads (prods (rows h g) w)) aq ak bq bk) (Host.cos (F := Ideal) (angles pos)) (Host.sin (F := Ideal) (angles pos)) (ix3 r ⟨n, hn⟩ d))
      (turned h pos g w aq ak bq bk r (n * 64 + d.val)) := fun n hn d => turned_at h pos g w aq ak bq bk r ⟨n, hn⟩ d
  have Y : ∀ (n : ℕ) (hn : n < 53) (d : Fin 64), @Eq EReal (heads (prods (rows h g) w) (ix3 r ⟨n, hn⟩ d)) (Rope.lin (Rope.row h g r) (Rope.padded w) (n * 64 + d.val)) := fun n hn d => by
    refine (heads_at _ r ⟨n, hn⟩ d).trans ((prods_at h g w r _).trans ?_)
    exact (Rope.lin_low _ w _ (show n * 64 + d.val < 3392 by omega)).symm
  have P := turned_part h pos g w aq ak bq bk r
  refine chunks_at _ _ _ _ _ _ _ _ _ _ (Rope.sparse h pos g w aq ak bq bk r) r
    (fun t j => (congrArg (fun z : EReal => z * Ideal.ofBits .f32 0x3E38AA3B#32) ((turned_eight _ 0 _ (by omega) r t j).trans (T _ _ j))).trans ?_)
    (fun t j => ((turned_eight _ 8 _ (by omega) r t j).trans (T _ _ j)).trans ?_)
    (fun t j => ((eight_at _ 16 _ (by omega) r t j).trans (Y _ _ j)).trans ?_)
    (fun t j => (congrArg (fun z : EReal => z * Ideal.ofBits .f32 0x3E38AA3B#32) ((turned_eight _ 16 _ (by omega) r t j).trans (T _ _ j))).trans ?_)
    (fun t j => ((turned_eight _ 24 _ (by omega) r t j).trans (T _ _ j)).trans ?_)
    (fun t j => ((eight_at _ 40 _ (by omega) r t j).trans (Y _ _ j)).trans ?_)
    (fun t j => ((turned_four _ 32 _ (by omega) r t j).trans (T _ _ j)).trans ?_)
    (fun t j => ((turned_one _ 36 _ (by omega) r t j).trans (T _ _ j)).trans ?_)
    (fun t j => ((turned_one _ 36 _ (by omega) r t j).trans (T _ _ j)).trans ?_)
    (fun t j => (rest_at _ (Rope.lin (Rope.row h g r) (Rope.padded w)) r (fun n => ?_) (fun n hn => Rope.lin_high _ w n hn) t j).trans ?_) c l
  · unfold Rope.sparse
    rw [if_pos (by omega), P (Rope.nrm (Rope.lin (Rope.row h g r) (Rope.padded w)) (Rope.ent aq)) 0 512 0 (by omega) (by omega) (by omega) (fun n h0 h1 => if_pos h1) _
      (show 0 ≤ (0 + t.val) * 64 + j.val by omega) (show (0 + t.val) * 64 + j.val < 512 by omega), Nat.add_zero]
  · unfold Rope.sparse
    rw [if_neg (by omega), if_pos (by omega), P (Rope.nrm (Rope.lin (Rope.row h g r) (Rope.padded w)) (Rope.ent ak)) 512 1024 0 (by omega) (by omega) (by omega)
      (fun n h0 h1 => (if_neg (by omega)).trans (if_pos h1)) _ (show 512 ≤ (8 + t.val) * 64 + j.val by omega) (show (8 + t.val) * 64 + j.val < 1024 by omega), Nat.add_zero]
  · unfold Rope.sparse
    rw [if_neg (by omega), if_neg (by omega), if_pos (by omega)]
  · unfold Rope.sparse
    rw [if_neg (by omega), if_neg (by omega), if_neg (by omega), if_pos (by omega),
      P (Rope.nrm (Rope.lin (Rope.row h g r) (Rope.padded w)) (Rope.ent bq)) 1024 1536 512 (by omega) (by omega) (by omega)
      (fun n h0 h1 => (if_neg (by omega)).trans ((if_neg (by omega)).trans (if_pos h1))) _ (show 1024 ≤ (16 + t.val) * 64 + j.val by omega) (show (16 + t.val) * 64 + j.val < 1536 by omega),
      (show (16 + t.val) * 64 + j.val + 512 = (24 + t.val) * 64 + j.val by omega)]
  · unfold Rope.sparse
    rw [if_neg (by omega), if_neg (by omega), if_neg (by omega), if_neg (by omega), if_pos (by omega),
      P (Rope.nrm (Rope.lin (Rope.row h g r) (Rope.padded w)) (Rope.ent bk)) 1536 2048 512 (by omega) (by omega) (by omega)
      (fun n h0 h1 => (if_neg (by omega)).trans ((if_neg (by omega)).trans ((if_neg (by omega)).trans (if_pos h1)))) _ (show 1536 ≤ (24 + t.val) * 64 + j.val by omega) (show (24 + t.val) * 64 + j.val < 2048 by omega),
      (show (24 + t.val) * 64 + j.val + 512 = (32 + t.val) * 64 + j.val by omega)]
  · unfold Rope.sparse
    rw [if_neg (by omega), if_neg (by omega), if_neg (by omega), if_neg (by omega), if_neg (by omega), if_pos (by omega)]
  · exact high h pos g w aq ak bq bk r ((32 + t.val) * 64 + j.val) _ (by omega) (by omega) (by omega)
  · exact high h pos g w aq ak bq bk r ((36 + t.val) * 64 + j.val) _ (by omega) (by omega) (by omega)
  · exact (high h pos g w aq ak bq bk r ((36 + t.val) * 64 + j.val) _ (by omega) (by omega) rfl).trans ((twice h pos g w aq ak bq bk r _ (by omega) (by omega)).trans
      (congrArg (Rope.sparse h pos g w aq ak bq bk r) (by omega)))
  · refine (prods_at h g w r _).trans ?_
    rw [Rope.lin_mid _ w _ (by omega) (by omega)]
    exact congrArg (Rope.lin (Rope.row h g r) (Rope.col w)) (show 3392 + n.val = 3456 + n.val - 64 by omega)
  · unfold Rope.sparse
    rw [if_neg (by omega), if_neg (by omega), if_neg (by omega), if_neg (by omega), if_neg (by omega), if_neg (by omega), if_neg (by omega)]

end

variable (V0 : Valuation τ sig (Elt Ideal))

theorem products_eq : res_main_v13 (F := Ideal) V0 = prods (rows (V0 (Proc.devRef .tc main_arg0)) (V0 (Proc.devRef .tc main_arg2))) (V0 (Proc.devRef .tc main_arg3)) := rfl

theorem heads_eq : res_main_v15 (F := Ideal) V0 = heads (res_main_v13 (F := Ideal) V0) := rfl

theorem unturned_eq : res_main_v75 (F := Ideal) V0 = unturned (res_main_v15 (F := Ideal) V0) (V0 (Proc.devRef .tc main_arg4)) (V0 (Proc.devRef .tc main_arg5)) (V0 (Proc.devRef .tc main_arg6))
    (V0 (Proc.devRef .tc main_arg7)) := rfl

theorem angles_eq : res_main_v88 (F := Ideal) V0 = angles (V0 (Proc.devRef .tc main_arg1)) := rfl

theorem turn_eq : res_main_v104 (F := Ideal) V0 = turn (res_main_v75 (F := Ideal) V0) (Host.cos (F := Ideal) (res_main_v88 (F := Ideal) V0)) (Host.sin (F := Ideal) (res_main_v88 (F := Ideal) V0)) := rfl

theorem laid_eq : laid (res_main_v13 (F := Ideal) V0) (res_main_v15 (F := Ideal) V0) (res_main_v104 (F := Ideal) V0)
    = whole (V0 (Proc.devRef .tc main_arg0)) (V0 (Proc.devRef .tc main_arg1)) (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7)) := by
  rw [turn_eq, unturned_eq, angles_eq, heads_eq, products_eq]
  rfl

end Cert.Proof.ReferenceABIdeal
end
-- ==== Proof.SparseKer.lean ====
/-
  The other layer's projection: the kernel's tiles at an index.
-/
module

public import proofs.«01_k».proof.Defs
public import proofs.«01_k».proof.Proof.Sparse
public import proofs.«01_k».proof.Proof.ProjKer
public import proofs.«01_k».proof.Proof.Gen.KernelABIdeal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.KernelABIdeal

open Cert.KernelABIdeal Cert.KernelABIdeal.Gen
open Idealize.ShloMosaic Idealize.ShloMosaic.TcCoe Idealize.SL.Sem
open Cert.Proof.KernelCIdeal (means means_at level level_at spin spin_at plain plain_at four four_at slice_at row_at idx_eq)

/-- The chunks whose heads are normalised. -/
def Evened (c : ℕ) : Prop := c < 8 ∨ 12 ≤ c ∧ c < 20

instance (c : ℕ) : Decidable (Evened c) := inferInstanceAs (Decidable (_ ∨ _ ∧ _))

/-- What the blocks hold: `A` the products of a row and a column, `gn` the gains of a chunk, `cs` and `sn` a row's tables. -/
structure Holds (x0 : FVec Ideal S512x1024 .f32) (x1 : FVec Ideal S1x1024 .f32) (x2 : FVec Ideal S1024x3584 .bf16) (x3 : FVec Ideal S28x128 .f32)
    (x4 x5 x6 : FVec Ideal S512x128 .f32) (A gn cs sn : ℕ → ℕ → EReal) : Prop where
  lin : ∀ (r : Fin 512) (n : Fin 3584), ∑ k : Fin 1024, (x0 (ix2 r k) * Rope.scale (fun j => x0 (ix2 r j)) * x1 (ix2 0 k) * x2 (ix2 k n) : EReal) = A r.val n.val
  real : ∀ (r : Fin 512) (n : Fin 3584), ∃ v : ℝ, A r.val n.val = v
  gain : ∀ (c : Fin 28) (l : Fin 128), Evened c.val → @Eq EReal (x3 (ix2 c l)) (gn c.val (l.val % 64))
  t4 : ∀ (r : Fin 512) (l : Fin 128), @Eq EReal (x4 (ix2 r l)) (if l.val % 64 < 8 then cs r.val (l.val % 64) else if l.val % 64 - 8 < 8 then cs r.val (l.val % 64 - 8) else 1)
  t5 : ∀ (r : Fin 512) (l : Fin 128), @Eq EReal (x5 (ix2 r l)) (if l.val % 64 < 8 then -sn r.val (l.val % 64) else 0)
  t6 : ∀ (r : Fin 512) (l : Fin 128), @Eq EReal (x6 (ix2 r l)) (if l.val % 64 < 8 then 0 else if l.val % 64 - 8 < 8 then sn r.val (l.val % 64 - 8) else 0)

/-- The chunk of a tile at a row and a lane. -/
def tile (A gn cs sn : ℕ → ℕ → EReal) (c r l : ℕ) : EReal :=
  if Evened c then Rope.rot (Rope.nrm (A r) (gn c)) (cs r) (sn r) (c * 128 + l)
  else if 24 ≤ c ∧ c < 27 then Rope.rot (A r) (cs r) (sn r) (c * 128 + l) else A r (c * 128 + l)

section
variable {x0 : FVec Ideal S512x1024 .f32} {x1 : FVec Ideal S1x1024 .f32} {x2 : FVec Ideal S1024x3584 .bf16} {x3 : FVec Ideal S28x128 .f32}
  {x4 x5 x6 : FVec Ideal S512x128 .f32} {A gn cs sn : ℕ → ℕ → EReal} (H : Holds x0 x1 x2 x3 x4 x5 x6 A gn cs sn)
include H

theorem chunk_at (c ow o : ℕ) (hc : c * 128 = ow + o) (ho : o + 128 ≤ 512) (hw : ow + 512 ≤ 3584) (hs : S512x512.Slices ![0, o] S512x128) (i0 i1 i2) (r : Fin 512) (l : Fin 128) :
    @Eq EReal (extractStridedSlice S512x128 ![0, o] (four (Cert.KernelCIdeal.Gen.k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3584) x2 (Rect.unit (s := S1024x3584) ![0, ow] S1024x512.size i2))) hs (ix2 r l)) (A r.val (c * 128 + l.val)) := by
  refine (slice_at o hs ho _ r l).trans ?_
  refine (four_at _ _ r _).trans ?_
  have e0 : ∀ k : Fin 1024, @Eq EReal (View.ld (Val := Elt Ideal) (e' := .f32) (S := S512x1024) x0 (Rect.unit (s := S512x1024) ![0, 0] S512x1024.size i0) (ix2 r k)) (x0 (ix2 r k)) :=
    fun k => View.ld_unit_apply_of (Val := Elt Ideal) (e := .f32) x0 _ _ i0 _ _ fun a => by match a with | 0 => exact (Nat.zero_add _).symm | 1 => exact (Nat.zero_add _).symm
  have e1 : ∀ k : Fin 1024, @Eq EReal (View.ld (Val := Elt Ideal) (e' := .f32) (S := S1x1024) x1 (Rect.unit (s := S1x1024) ![0, 0] S1x1024.size i1) (ix2 0 k)) (x1 (ix2 0 k)) :=
    fun k => View.ld_unit_apply_of (Val := Elt Ideal) (e := .f32) x1 _ _ i1 _ _ fun a => by match a with | 0 => exact (Nat.zero_add _).symm | 1 => exact (Nat.zero_add _).symm
  have e2 : ∀ k : Fin 1024, @Eq EReal (View.ld (Val := Elt Ideal) (e' := .bf16) (S := S1024x3584) x2 (Rect.unit (s := S1024x3584) ![0, ow] S1024x512.size i2) (ix2 k ⟨o + l.val, by omega⟩)) (x2 (ix2 k ⟨c * 128 + l.val, by omega⟩)) :=
    fun k => View.ld_unit_apply_of (Val := Elt Ideal) (e := .bf16) x2 _ _ i2 _ _ fun a => by
      match a with
      | 0 => exact (Nat.zero_add _).symm
      | 1 => show c * 128 + l.val = ow + (o + l.val); omega
  refine Eq.trans (Finset.sum_congr rfl fun k _ => ?_) (H.lin r ⟨c * 128 + l.val, by omega⟩)
  refine congr (congrArg (fun (p q : EReal) => p * q) ((row_at _ _ r k).trans ?_)) (e2 k)
  refine congr (congrArg (fun (p q : EReal) => p * q) (congr (congrArg (fun (p q : EReal) => p * q) (e0 k)) (congrArg Rope.scale (funext e0)))) (e1 k)

theorem turned_tile (c ow o : ℕ) (hc : c * 128 = ow + o) (hc' : Evened c) (ho : o + 128 ≤ 512) (hw : ow + 512 ≤ 3584) (hs : S512x512.Slices ![0, o] S512x128) (i0 i1 i2 i3 i4 i5 i6)
    (x : S1x512x128.Idx) (y0 y1 y2 : ℕ) (h0 : y0 = c + (x 0).val) (h1 : y1 = (x 1).val) (h2 : y2 = (x 2).val) :
    @Eq EReal (spin (level means (extractStridedSlice S512x128 ![0, o] (four (Cert.KernelCIdeal.Gen.k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3584) x2 (Rect.unit (s := S1024x3584) ![0, ow] S1024x512.size i2))) hs)
      (View.ld (Val := Elt Ideal) (e' := .f32) (S := S28x128) x3 (Rect.unit (s := S28x128) ![c, 0] S1x128.size i3)))
      (View.ld (Val := Elt Ideal) (e' := .f32) (S := S512x128) x4 (Rect.unit (s := S512x128) ![0, 0] S512x128.size i4))
      (View.ld (Val := Elt Ideal) (e' := .f32) (S := S512x128) x5 (Rect.unit (s := S512x128) ![0, 0] S512x128.size i5))
      (View.ld (Val := Elt Ideal) (e' := .f32) (S := S512x128) x6 (Rect.unit (s := S512x128) ![0, 0] S512x128.size i6)) x) (tile A gn cs sn y0 y1 y2) := by
  obtain ⟨r, l, rfl⟩ := idx_eq x
  rw [show y0 = c from h0, show y1 = r.val from h1, show y2 = l.val from h2]
  have table : ∀ (u : FVec Ideal S512x128 .f32) (i) (r : Fin 512) (l : Fin 128),
      @Eq EReal (View.ld (Val := Elt Ideal) (e' := .f32) (S := S512x128) u (Rect.unit (s := S512x128) ![0, 0] S512x128.size i) (ix2 r l)) (u (ix2 r l)) :=
    fun u i r l => View.ld_unit_apply_of (Val := Elt Ideal) (e := .f32) u _ _ i _ _ fun a => by match a with | 0 => exact (Nat.zero_add _).symm | 1 => exact (Nat.zero_add _).symm
  have gains : ∀ l : Fin 128, @Eq EReal (View.ld (Val := Elt Ideal) (e' := .f32) (S := S28x128) x3 (Rect.unit (s := S28x128) ![c, 0] S1x128.size i3) (ix2 0 l)) (x3 (ix2 ⟨c, by omega⟩ l)) :=
    fun l => View.ld_unit_apply_of (Val := Elt Ideal) (e := .f32) x3 _ _ i3 _ _ fun a => by match a with | 0 => rfl | 1 => exact (Nat.zero_add _).symm
  refine (spin_at (Rope.nrm (A r.val) (gn c)) (cs r.val) (sn r.val) c _ _ _ _ r (fun l => ?_) (fun l => (table _ i4 r l).trans (H.t4 r l))
    (fun l => (table _ i5 r l).trans (H.t5 r l)) (fun l => (table _ i6 r l).trans (H.t6 r l)) l).trans ?_
  · exact level_at (A r.val) (gn c) c means _ _ r means_at (fun j => H.real r ⟨c * 128 + j.val, by omega⟩)
      (fun l => chunk_at H c ow o hc ho hw hs i0 i1 i2 r l) (fun l => (gains l).trans (H.gain ⟨c, by omega⟩ l hc')) l
  · exact (if_pos hc').symm

theorem spun_tile (c ow o : ℕ) (hc : c * 128 = ow + o) (hc' : ¬ Evened c) (hs' : 24 ≤ c ∧ c < 27) (ho : o + 128 ≤ 512) (hw : ow + 512 ≤ 3584) (hs : S512x512.Slices ![0, o] S512x128) (i0 i1 i2 i4 i5 i6)
    (x : S1x512x128.Idx) (y0 y1 y2 : ℕ) (h0 : y0 = c + (x 0).val) (h1 : y1 = (x 1).val) (h2 : y2 = (x 2).val) :
    @Eq EReal (spin (extractStridedSlice S512x128 ![0, o] (four (Cert.KernelCIdeal.Gen.k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3584) x2 (Rect.unit (s := S1024x3584) ![0, ow] S1024x512.size i2))) hs)
      (View.ld (Val := Elt Ideal) (e' := .f32) (S := S512x128) x4 (Rect.unit (s := S512x128) ![0, 0] S512x128.size i4))
      (View.ld (Val := Elt Ideal) (e' := .f32) (S := S512x128) x5 (Rect.unit (s := S512x128) ![0, 0] S512x128.size i5))
      (View.ld (Val := Elt Ideal) (e' := .f32) (S := S512x128) x6 (Rect.unit (s := S512x128) ![0, 0] S512x128.size i6)) x) (tile A gn cs sn y0 y1 y2) := by
  obtain ⟨r, l, rfl⟩ := idx_eq x
  rw [show y0 = c from h0, show y1 = r.val from h1, show y2 = l.val from h2]
  have table : ∀ (u : FVec Ideal S512x128 .f32) (i) (r : Fin 512) (l : Fin 128),
      @Eq EReal (View.ld (Val := Elt Ideal) (e' := .f32) (S := S512x128) u (Rect.unit (s := S512x128) ![0, 0] S512x128.size i) (ix2 r l)) (u (ix2 r l)) :=
    fun u i r l => View.ld_unit_apply_of (Val := Elt Ideal) (e := .f32) u _ _ i _ _ fun a => by match a with | 0 => exact (Nat.zero_add _).symm | 1 => exact (Nat.zero_add _).symm
  refine (spin_at (A r.val) (cs r.val) (sn r.val) c _ _ _ _ r (fun l => ?_) (fun l => (table _ i4 r l).trans (H.t4 r l))
    (fun l => (table _ i5 r l).trans (H.t5 r l)) (fun l => (table _ i6 r l).trans (H.t6 r l)) l).trans ?_
  · exact chunk_at H c ow o hc ho hw hs i0 i1 i2 r l
  · exact ((if_neg hc').trans (if_pos hs')).symm

theorem plain_tile (c ow o : ℕ) (hc : c * 128 = ow + o) (hc' : ¬ Evened c) (hs' : ¬ (24 ≤ c ∧ c < 27)) (ho : o + 128 ≤ 512) (hw : ow + 512 ≤ 3584) (hs : S512x512.Slices ![0, o] S512x128) (i0 i1 i2)
    (x : S1x512x128.Idx) (y0 y1 y2 : ℕ) (h0 : y0 = c + (x 0).val) (h1 : y1 = (x 1).val) (h2 : y2 = (x 2).val) :
    @Eq EReal (plain (extractStridedSlice S512x128 ![0, o] (four (Cert.KernelCIdeal.Gen.k0_pay2 (F := Ideal)
      (View.ld (Val := Elt Ideal) (e' := .f32) (S := S512x1024) x0 (Rect.unit (s := S512x1024) ![0, 0] S512x1024.size i0))
      (View.ld (Val := Elt Ideal) (e' := .f32) (S := S1x1024) x1 (Rect.unit (s := S1x1024) ![0, 0] S1x1024.size i1)))
      (View.ld (Val := Elt Ideal) (e' := .bf16) (S := S1024x3584) x2 (Rect.unit (s := S1024x3584) ![0, ow] S1024x512.size i2))) hs) x) (tile A gn cs sn y0 y1 y2) := by
  obtain ⟨r, l, rfl⟩ := idx_eq x
  rw [show y0 = c from h0, show y1 = r.val from h1, show y2 = l.val from h2]
  exact ((plain_at _ r l).trans (chunk_at H c ow o hc ho hw hs i0 i1 i2 r l)).trans ((if_neg hc').trans (if_neg hs')).symm

theorem tiles_at (y : S28x512x128.Idx) : @Eq EReal (out0_7 (F := Ideal) x0 x1 x2 x3 x4 x5 x6 y) (tile A gn cs sn (y 0).val (y 1).val (y 2).val) := by
  unfold_out out0_7
  canon_tiles x h
  · exact plain_tile H 27 3072 384 (by omega) (by decide) (by decide) (by omega) (by omega) slices_S512x512_o0_384_S512x128 _ _ _ x _ _ _ h0 h1 h2
  · exact spun_tile H 26 3072 256 (by omega) (by decide) (by decide) (by omega) (by omega) slices_S512x512_o0_256_S512x128 _ _ _ _ _ _ x _ _ _ h0 h1 h2
  · exact spun_tile H 25 3072 128 (by omega) (by decide) (by decide) (by omega) (by omega) slices_S512x512_o0_128_S512x128 _ _ _ _ _ _ x _ _ _ h0 h1 h2
  · exact spun_tile H 24 3072 0 (by omega) (by decide) (by decide) (by omega) (by omega) slices_S512x512_o0_0_S512x128 _ _ _ _ _ _ x _ _ _ h0 h1 h2
  · exact plain_tile H 23 2560 384 (by omega) (by decide) (by decide) (by omega) (by omega) slices_S512x512_o0_384_S512x128 _ _ _ x _ _ _ h0 h1 h2
  · exact plain_tile H 22 2560 256 (by omega) (by decide) (by decide) (by omega) (by omega) slices_S512x512_o0_256_S512x128 _ _ _ x _ _ _ h0 h1 h2
  · exact plain_tile H 21 2560 128 (by omega) (by decide) (by decide) (by omega) (by omega) slices_S512x512_o0_128_S512x128 _ _ _ x _ _ _ h0 h1 h2
  · exact plain_tile H 20 2560 0 (by omega) (by decide) (by decide) (by omega) (by omega) slices_S512x512_o0_0_S512x128 _ _ _ x _ _ _ h0 h1 h2
  · exact turned_tile H 19 2048 384 (by omega) (by decide) (by omega) (by omega) slices_S512x512_o0_384_S512x128 _ _ _ _ _ _ _ x _ _ _ h0 h1 h2
  · exact turned_tile H 18 2048 256 (by omega) (by decide) (by omega) (by omega) slices_S512x512_o0_256_S512x128 _ _ _ _ _ _ _ x _ _ _ h0 h1 h2
  · exact turned_tile H 17 2048 128 (by omega) (by decide) (by omega) (by omega) slices_S512x512_o0_128_S512x128 _ _ _ _ _ _ _ x _ _ _ h0 h1 h2
  · exact turned_tile H 16 2048 0 (by omega) (by decide) (by omega) (by omega) slices_S512x512_o0_0_S512x128 _ _ _ _ _ _ _ x _ _ _ h0 h1 h2
  · exact turned_tile H 15 1536 384 (by omega) (by decide) (by omega) (by omega) slices_S512x512_o0_384_S512x128 _ _ _ _ _ _ _ x _ _ _ h0 h1 h2
  · exact turned_tile H 14 1536 256 (by omega) (by decide) (by omega) (by omega) slices_S512x512_o0_256_S512x128 _ _ _ _ _ _ _ x _ _ _ h0 h1 h2
  · exact turned_tile H 13 1536 128 (by omega) (by decide) (by omega) (by omega) slices_S512x512_o0_128_S512x128 _ _ _ _ _ _ _ x _ _ _ h0 h1 h2
  · exact turned_tile H 12 1536 0 (by omega) (by decide) (by omega) (by omega) slices_S512x512_o0_0_S512x128 _ _ _ _ _ _ _ x _ _ _ h0 h1 h2
  · exact plain_tile H 11 1024 384 (by omega) (by decide) (by decide) (by omega) (by omega) slices_S512x512_o0_384_S512x128 _ _ _ x _ _ _ h0 h1 h2
  · exact plain_tile H 10 1024 256 (by omega) (by decide) (by decide) (by omega) (by omega) slices_S512x512_o0_256_S512x128 _ _ _ x _ _ _ h0 h1 h2
  · exact plain_tile H 9 1024 128 (by omega) (by decide) (by decide) (by omega) (by omega) slices_S512x512_o0_128_S512x128 _ _ _ x _ _ _ h0 h1 h2
  · exact plain_tile H 8 1024 0 (by omega) (by decide) (by decide) (by omega) (by omega) slices_S512x512_o0_0_S512x128 _ _ _ x _ _ _ h0 h1 h2
  · exact turned_tile H 7 512 384 (by omega) (by decide) (by omega) (by omega) slices_S512x512_o0_384_S512x128 _ _ _ _ _ _ _ x _ _ _ h0 h1 h2
  · exact turned_tile H 6 512 256 (by omega) (by decide) (by omega) (by omega) slices_S512x512_o0_256_S512x128 _ _ _ _ _ _ _ x _ _ _ h0 h1 h2
  · exact turned_tile H 5 512 128 (by omega) (by decide) (by omega) (by omega) slices_S512x512_o0_128_S512x128 _ _ _ _ _ _ _ x _ _ _ h0 h1 h2
  · exact turned_tile H 4 512 0 (by omega) (by decide) (by omega) (by omega) slices_S512x512_o0_0_S512x128 _ _ _ _ _ _ _ x _ _ _ h0 h1 h2
  · exact turned_tile H 3 0 384 (by omega) (by decide) (by omega) (by omega) slices_S512x512_o0_384_S512x128 _ _ _ _ _ _ _ x _ _ _ h0 h1 h2
  · exact turned_tile H 2 0 256 (by omega) (by decide) (by omega) (by omega) slices_S512x512_o0_256_S512x128 _ _ _ _ _ _ _ x _ _ _ h0 h1 h2
  · exact turned_tile H 1 0 128 (by omega) (by decide) (by omega) (by omega) slices_S512x512_o0_128_S512x128 _ _ _ _ _ _ _ x _ _ _ h0 h1 h2
  · exact turned_tile H 0 0 0 (by omega) (by decide) (by omega) (by omega) slices_S512x512_o0_0_S512x128 _ _ _ _ _ _ _ x _ _ _ (h0.trans (Nat.zero_add _).symm) h1 h2

end

end Cert.Proof.KernelABIdeal
end
-- ==== Proof.SparseHost.lean ====
/-
  The other layer's projection: what its tables, gains and weights hold before the launch.
-/
module

public import proofs.«01_k».proof.Defs
public import proofs.«01_k».proof.Proof.Sparse
public import proofs.«01_k».proof.Proof.SparseKer
public import proofs.«01_k».proof.Proof.Gen.KernelABIdeal.Value
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Tactic
public import Idealize.ShloMosaic.PureOps.Ideal

@[expose] public section

set_option maxRecDepth 16384
set_option maxHeartbeats 2000000

noncomputable section

namespace Cert.Proof.KernelABIdeal

open Cert.KernelABIdeal Cert.KernelABIdeal.Gen
open Idealize.ShloMosaic Idealize.ShloMosaic.TcCoe Idealize.SL.Sem

variable (m : (ℓ : Loc nD τ sig) → Buf (Elt Ideal) ℓ) (c : Dev nD)

/-- A row's position. -/
abbrev pos (r : Fin 16384) : EReal := Rope.place (m (c, Proc.devRef .tc main_arg1)) r

theorem table_cos (r : Fin 16384) (l : Fin 128) : @Eq EReal (V m c main_v79 (ix2 r l))
    (if l.val % 64 < 8 then Rope.cs (pos m c r) (l.val % 64) else if l.val % 64 - 8 < 8 then Rope.cs (pos m c r) (l.val % 64 - 8) else 1) := by
  after_reads_at
  unfold pos Rope.cs Rope.angle Rope.place
  split_ifs
  all_goals try after_reads_at
  all_goals first | rfl | exact Rope.bits_one

theorem table_near (r : Fin 16384) (l : Fin 128) : @Eq EReal (V m c main_v85 (ix2 r l))
    (if l.val % 64 < 8 then -Rope.sn (pos m c r) (l.val % 64) else 0) := by
  after_reads_at
  unfold pos Rope.sn Rope.angle Rope.place
  split_ifs
  all_goals try after_reads_at
  all_goals first | rfl | exact Ideal.ofBits_zero _ | simp

theorem table_far (r : Fin 16384) (l : Fin 128) : @Eq EReal (V m c main_v90 (ix2 r l))
    (if l.val % 64 < 8 then 0 else if l.val % 64 - 8 < 8 then Rope.sn (pos m c r) (l.val % 64 - 8) else 0) := by
  after_reads_at
  unfold pos Rope.sn Rope.angle Rope.place
  split_ifs
  all_goals try after_reads_at
  all_goals first | rfl | exact Ideal.ofBits_zero _ | simp

/-- The gains of a chunk of queries or keys. -/
def gainOf (i d : ℕ) : EReal :=
  if i < 4 then Rope.ent (m (c, Proc.devRef .tc main_arg4)) d * Ideal.ofBits .f32 0x3E38AA3B#32
  else if i < 8 then Rope.ent (m (c, Proc.devRef .tc main_arg5)) d
  else if i < 16 then Rope.ent (m (c, Proc.devRef .tc main_arg6)) d * Ideal.ofBits .f32 0x3E38AA3B#32
  else Rope.ent (m (c, Proc.devRef .tc main_arg7)) d

theorem gains (i : Fin 28) (l : Fin 128) (he : Evened i.val) : @Eq EReal (V m c main_v57 (ix2 i l)) (gainOf m c i.val (l.val % 64)) := by
  have e : ∀ g : (⟨1, ![64]⟩ : Shape).Idx → EReal, Rope.ent g (l.val % 64) = g (ix1 ⟨l.val % 64, by omega⟩) :=
    fun g => (Rope.ent_at g ⟨l.val % 64, by omega⟩).symm
  unfold gainOf
  rw [e, e, e, e]
  obtain ⟨i, hi⟩ := i
  have hs : i < 8 ∨ 12 ≤ i ∧ i < 20 := he
  rcases hs with hs | ⟨hl, hs⟩
  all_goals interval_cases i
  all_goals after_reads_at
  all_goals after_reads_at
  all_goals first | rfl | (rw [Rope.bits_one, mul_one]; rfl)

theorem padded_at (w : (⟨2, ![1024, 3396]⟩ : Shape).Idx → EReal) (k : Fin 1024) (a : Fin 3396) (n : ℕ) (h : a.val = n ∧ n < 3392 ∨ a.val + 64 = n ∧ 3392 ≤ n ∧ n < 3460) :
    @Eq EReal (w (ix2 k a)) (Rope.padded w k n) := by
  rw [Rope.col_at w k a]
  unfold Rope.padded
  rcases h with ⟨e, h⟩ | ⟨e, h, h'⟩
  · rw [if_pos h, e]
  · rw [if_neg (by omega), if_pos h', show n - 64 = a.val by omega]

theorem padded_zero (w : (⟨2, ![1024, 3396]⟩ : Shape).Idx → EReal) (k : Fin 1024) (n : ℕ) (h : 3460 ≤ n) : @Eq EReal 0 (Rope.padded w k n) := by
  unfold Rope.padded
  rw [if_neg (by omega), if_neg (by omega)]

theorem weights (k : Fin 1024) (n : Fin 3584) : @Eq EReal (V m c main_v5 (ix2 k n)) (Rope.padded (m (c, Proc.devRef .tc main_arg3)) k n.val) := by
  after_reads_at
  split_ifs
  all_goals try after_reads_at
  all_goals first
    | (refine padded_at (m (c, Proc.devRef .tc main_arg3)) k _ _ ?_; (try dsimp only); omega)
    | (refine (Ideal.ofBits_zero _).trans (padded_zero _ k _ ?_); omega)
    | (refine padded_zero _ k _ ?_; omega)

end Cert.Proof.KernelABIdeal
end
-- ==== Proof.SparseTile.lean ====
/-
  The other layer's projection: a block's tile is the projection's.
-/
module

public import proofs.«01_k».proof.Defs
public import proofs.«01_k».proof.Proof.SparseHost

@[expose] public section

set_option maxRecDepth 16384
set_option maxHeartbeats 2000000

noncomputable section

namespace Cert.Proof.Rope

open Idealize.ShloMosaic

/-- A tile's column from products, gains and tables, with the scale within the gains. -/
theorem sparse_tile (h : (⟨2, ![16384, 1024]⟩ : Shape).Idx → EReal) (pos : (⟨2, ![2, 8192]⟩ : Shape).Idx → BitVec 32) (g : (⟨1, ![1024]⟩ : Shape).Idx → EReal)
    (w : (⟨2, ![1024, 3396]⟩ : Shape).Idx → EReal) (aq ak bq bk : (⟨1, ![64]⟩ : Shape).Idx → EReal) (R : ℕ → Fin 16384) (gn : ℕ → ℕ → EReal)
    (hg : ∀ i d, gn i d = if i < 4 then ent aq d * Ideal.ofBits .f32 0x3E38AA3B#32 else if i < 8 then ent ak d
      else if i < 16 then ent bq d * Ideal.ofBits .f32 0x3E38AA3B#32 else ent bk d) (i r l : ℕ) (hi : i < 28) (hl : l < 128) :
    KernelABIdeal.tile (fun r n => lin (row h g (R r)) (padded w) n) gn (fun r => cs (place pos (R r))) (fun r => sn (place pos (R r))) i r l
      = sparse h pos g w aq ak bq bk (R r) (i * 128 + l) := by
  obtain ⟨s, hs, hb⟩ := bits_scale
  have e : ∀ u : (⟨1, ![64]⟩ : Shape).Idx → EReal, rot (nrm (lin (row h g (R r)) (padded w)) (fun d => ent u d * Ideal.ofBits .f32 0x3E38AA3B#32)) (cs (place pos (R r))) (sn (place pos (R r))) (i * 128 + l)
      = rot (nrm (lin (row h g (R r)) (padded w)) (ent u)) (cs (place pos (R r))) (sn (place pos (R r))) (i * 128 + l) * Ideal.ofBits .f32 0x3E38AA3B#32 := fun u => by
    rw [hb, rot_scaled _ _ _ _ s hs]
  have hn : gn i = fun d => if i < 4 then ent aq d * Ideal.ofBits .f32 0x3E38AA3B#32 else if i < 8 then ent ak d
      else if i < 16 then ent bq d * Ideal.ofBits .f32 0x3E38AA3B#32 else ent bk d := funext fun d => hg i d
  unfold KernelABIdeal.tile sparse
  rw [hn]
  by_cases h0 : i < 4
  · simp only [if_pos h0, if_pos (show KernelABIdeal.Evened i from (by omega : i < 8 ∨ 12 ≤ i ∧ i < 20)), if_pos (show i * 128 + l < 512 by omega)]
    exact e aq
  rw [if_neg (show ¬ i * 128 + l < 512 by omega)]
  by_cases h1 : i < 8
  · simp only [if_neg h0, if_pos h1, if_pos (show KernelABIdeal.Evened i from (by omega : i < 8 ∨ 12 ≤ i ∧ i < 20)), if_pos (show i * 128 + l < 1024 by omega)]
  rw [if_neg (show ¬ i * 128 + l < 1024 by omega)]
  by_cases h2 : i < 12
  · rw [if_neg (show ¬ KernelABIdeal.Evened i from (by omega : ¬ (i < 8 ∨ 12 ≤ i ∧ i < 20))), if_neg (show ¬ (24 ≤ i ∧ i < 27) by omega), if_pos (show i * 128 + l < 1536 by omega)]
  rw [if_neg (show ¬ i * 128 + l < 1536 by omega)]
  by_cases h3 : i < 16
  · simp only [if_neg h0, if_neg h1, if_pos h3, if_pos (show KernelABIdeal.Evened i from (by omega : i < 8 ∨ 12 ≤ i ∧ i < 20)), if_pos (show i * 128 + l < 2048 by omega)]
    exact e bq
  rw [if_neg (show ¬ i * 128 + l < 2048 by omega)]
  by_cases h4 : i < 20
  · simp only [if_neg h0, if_neg h1, if_neg h3, if_pos (show KernelABIdeal.Evened i from (by omega : i < 8 ∨ 12 ≤ i ∧ i < 20)), if_pos (show i * 128 + l < 2560 by omega)]
  rw [if_neg (show ¬ i * 128 + l < 2560 by omega), if_neg (show ¬ KernelABIdeal.Evened i from (by omega : ¬ (i < 8 ∨ 12 ≤ i ∧ i < 20)))]
  by_cases h5 : i < 24
  · rw [if_neg (show ¬ (24 ≤ i ∧ i < 27) by omega), if_pos (show i * 128 + l < 3072 by omega)]
  rw [if_neg (show ¬ i * 128 + l < 3072 by omega)]
  by_cases h6 : i < 27
  · rw [if_pos (show 24 ≤ i ∧ i < 27 by omega), if_pos (show i * 128 + l < 3456 by omega)]
  · rw [if_neg (show ¬ (24 ≤ i ∧ i < 27) by omega), if_neg (show ¬ i * 128 + l < 3456 by omega)]

end Cert.Proof.Rope
end
-- ==== Proof.SparseReads.lean ====
/-
  The other layer's projection: what the kernel's blocks read.
-/
module

public import proofs.«01_k».proof.Defs
public import proofs.«01_k».proof.Proof.SparseTile

@[expose] public section

set_option maxRecDepth 16384
set_option maxHeartbeats 2000000

noncomputable section

namespace Cert.Proof.KernelABIdeal

open Cert.KernelABIdeal Cert.KernelABIdeal.Gen
open Idealize.ShloMosaic Idealize.ShloMosaic.TcCoe Idealize.SL.Sem

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![0, t.val, 0] := by decide +kernel

variable (m : (ℓ : Loc nD τ sig) → Buf (Elt Ideal) ℓ) (c : Dev nD) (t : Fin grid0.N)

theorem rows_of (r : Fin 512) : t.val * 512 + r.val < 16384 := by
  have h : t.val < 32 := lt_of_lt_of_eq t.isLt (by decide +kernel)
  omega

/-- A block's row in the array, by its number in the block. -/
def rowAt (r : ℕ) : Fin 16384 := if h : t.val * 512 + r < 16384 then ⟨t.val * 512 + r, h⟩ else 0

theorem rowAt_eq (r : Fin 512) : rowAt t r.val = ⟨t.val * 512 + r.val, rows_of t r⟩ := dif_pos (rows_of t r)

theorem read_h (r : Fin 512) (k : Fin 1024) :
    @Eq EReal (iblk m c 0 t (ix2 r k)) (m (c, Proc.devRef .tc main_arg0) (ix2 ⟨t.val * 512 + r.val, rows_of t r⟩ k)) := by
  have e : ∀ A : FVec Ideal S16384x1024 .f32, @Eq EReal (((cfg0.win 0).blk t).view.read (Elt Ideal) A (ix2 r k)) (A (ix2 ⟨t.val * 512 + r.val, rows_of t r⟩ k)) := fun A => by
    blk_ext [index0 t]
  exact (e (V m c main_arg0)).trans (congrFun (V_main_arg0 m c) _)

theorem gain_row (k : Fin 1024) : @Eq EReal (V m c main_v91 (ix2 0 k)) (m (c, Proc.devRef .tc main_arg2) (ix1 k)) := by
  after_reads_at

theorem read_g (k : Fin 1024) : @Eq EReal (iblk m c 1 t (ix2 0 k)) (m (c, Proc.devRef .tc main_arg2) (ix1 k)) := by
  have e : ∀ A : FVec Ideal S1x1024 .f32, @Eq EReal (((cfg0.win 1).blk t).view.read (Elt Ideal) A (ix2 0 k)) (A (ix2 0 k)) := fun A => by
    blk_ext [index1 t]
  exact (e (V m c main_v91)).trans (gain_row m c k)

theorem read_w (k : Fin 1024) (n : Fin 3584) : @Eq EReal (iblk m c 2 t (ix2 k n)) (Rope.padded (m (c, Proc.devRef .tc main_arg3)) k n.val) := by
  have e : ∀ A : FVec Ideal S1024x3584 .bf16, @Eq EReal (((cfg0.win 2).blk t).view.read (Elt Ideal) A (ix2 k n)) (A (ix2 k n)) := fun A => by
    blk_ext [index2 t]
  exact (e (V m c main_v5)).trans (weights m c k n)

theorem read_gains (i : Fin 28) (l : Fin 128) : @Eq EReal (iblk m c 3 t (ix2 i l)) (V m c main_v57 (ix2 i l)) := by
  have e : ∀ A : FVec Ideal S28x128 .f32, @Eq EReal (((cfg0.win 3).blk t).view.read (Elt Ideal) A (ix2 i l)) (A (ix2 i l)) := fun A => by
    blk_ext [index3 t]
  exact e (V m c main_v57)

theorem read_cos (r : Fin 512) (l : Fin 128) : @Eq EReal (iblk m c 4 t (ix2 r l)) (V m c main_v79 (ix2 ⟨t.val * 512 + r.val, rows_of t r⟩ l)) := by
  have e : ∀ A : FVec Ideal S16384x128 .f32, @Eq EReal (((cfg0.win 4).blk t).view.read (Elt Ideal) A (ix2 r l)) (A (ix2 ⟨t.val * 512 + r.val, rows_of t r⟩ l)) := fun A => by
    blk_ext [index4 t]
  exact e (V m c main_v79)

theorem read_near (r : Fin 512) (l : Fin 128) : @Eq EReal (iblk m c 5 t (ix2 r l)) (V m c main_v85 (ix2 ⟨t.val * 512 + r.val, rows_of t r⟩ l)) := by
  have e : ∀ A : FVec Ideal S16384x128 .f32, @Eq EReal (((cfg0.win 5).blk t).view.read (Elt Ideal) A (ix2 r l)) (A (ix2 ⟨t.val * 512 + r.val, rows_of t r⟩ l)) := fun A => by
    blk_ext [index5 t]
  exact e (V m c main_v85)

theorem read_far (r : Fin 512) (l : Fin 128) : @Eq EReal (iblk m c 6 t (ix2 r l)) (V m c main_v90 (ix2 ⟨t.val * 512 + r.val, rows_of t r⟩ l)) := by
  have e : ∀ A : FVec Ideal S16384x128 .f32, @Eq EReal (((cfg0.win 6).blk t).view.read (Elt Ideal) A (ix2 r l)) (A (ix2 ⟨t.val * 512 + r.val, rows_of t r⟩ l)) := fun A => by
    blk_ext [index6 t]
  exact e (V m c main_v90)

end Cert.Proof.KernelABIdeal
end
-- ==== Proof.SparseBlock.lean ====
/-
  The other layer's projection: a block of the kernel's result, for gains and weights of reals.
-/
module

public import proofs.«01_k».proof.Defs
public import proofs.«01_k».proof.Proof.SparseReads

@[expose] public section

set_option maxRecDepth 16384
set_option maxHeartbeats 2000000

noncomputable section

namespace Cert.Proof.KernelABIdeal

open Cert.KernelABIdeal Cert.KernelABIdeal.Gen
open Idealize.ShloMosaic Idealize.ShloMosaic.TcCoe Idealize.SL.Sem

variable (m : (ℓ : Loc nD τ sig) → Buf (Elt Ideal) ℓ) (c : Dev nD) (t : Fin grid0.N)

/-- The kernel's result from a device's arguments. -/
def result : S28x16384x128.Idx → EReal :=
  Rope.sparsed (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))

/-- The products of a block's row and a column. -/
def products (r n : ℕ) : EReal :=
  Rope.lin (Rope.row (m (c, Proc.devRef .tc main_arg0)) (m (c, Proc.devRef .tc main_arg2)) (rowAt t r)) (Rope.padded (m (c, Proc.devRef .tc main_arg3))) n

/-- The gains and weights of a device are reals. -/
def Real : Prop :=
  (∀ k : Fin 1024, ∃ v : ℝ, @Eq EReal (m (c, Proc.devRef .tc main_arg2) (ix1 k)) v)
    ∧ ∀ (k : Fin 1024) (n : Fin 3396), ∃ v : ℝ, @Eq EReal (m (c, Proc.devRef .tc main_arg3) (ix2 k n)) v

theorem holds (H : Real m c) : Holds (iblk m c 0 t) (iblk m c 1 t) (iblk m c 2 t) (iblk m c 3 t) (iblk m c 4 t) (iblk m c 5 t) (iblk m c 6 t)
    (products m c t) (gainOf m c) (fun r => Rope.cs (pos m c (rowAt t r))) (fun r => Rope.sn (pos m c (rowAt t r))) where
  lin r n := by
    unfold products Rope.lin Rope.row
    rw [rowAt_eq]
    refine Finset.sum_congr rfl fun k _ => ?_
    refine congr (congrArg (fun (p q : EReal) => p * q) ?_) (read_w m c t k n)
    exact congr (congrArg (fun (p q : EReal) => p * q) (congr (congrArg (fun (p q : EReal) => p * q) (read_h m c t r k))
      (congrArg Rope.scale (funext fun j => read_h m c t r j)))) (read_g m c t k)
  real r n := by
    refine Rope.real_lin (fun k => m (c, Proc.devRef .tc main_arg0) (ix2 (rowAt t r.val) k)) (fun k => m (c, Proc.devRef .tc main_arg2) (ix1 k)) _ H.1 n.val fun k => ?_
    exact Rope.real_padded _ k (H.2 k) n.val
  gain i l he := (read_gains m c t i l).trans (gains m c i l he)
  t4 r l := by rw [rowAt_eq]; exact (read_cos m c t r l).trans (table_cos m c _ l)
  t5 r l := by rw [rowAt_eq]; exact (read_near m c t r l).trans (table_near m c _ l)
  t6 r l := by rw [rowAt_eq]; exact (read_far m c t r l).trans (table_far m c _ l)

theorem tile_eq (i : Fin 28) (r : Fin 512) (l : Fin 128) :
    tile (products m c t) (gainOf m c) (fun r => Rope.cs (pos m c (rowAt t r))) (fun r => Rope.sn (pos m c (rowAt t r))) i.val r.val l.val
      = result m c (ix3 i ⟨t.val * 512 + r.val, rows_of t r⟩ l) := by
  rw [← rowAt_eq]
  exact Rope.sparse_tile (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7)) (rowAt t) (gainOf m c)
    (fun _ _ => rfl) i.val r.val l.val i.isLt l.isLt

theorem block_at (H : Real m c) (i : Fin 28) (r : Fin 512) (l : Fin 128) :
    @Eq EReal ((dats m 0 c).after 7 t (ix3 i r l)) (result m c (ix3 i ⟨t.val * 512 + r.val, rows_of t r⟩ l)) := by
  rw [after0_7]
  exact (tiles_at (holds m c t H) (ix3 i r l)).trans (tile_eq m c t i r l)

end Cert.Proof.KernelABIdeal
end
-- ==== Proof.SparseProj.lean ====
/-
  The other layer's projection: the kernel's result is the reference's, for gains and weights of reals.
-/
module

public import proofs.«01_k».proof.Defs
public import proofs.«01_k».proof.Proof.Finite
public import proofs.«01_k».proof.Proof.Proj
public import proofs.«01_k».proof.Proof.SparseRef
public import proofs.«01_k».proof.Proof.SparseBlock

@[expose] public section

set_option maxRecDepth 16384
set_option maxHeartbeats 2000000

noncomputable section

namespace Cert.Proof.KernelABIdeal

open Cert.KernelABIdeal Cert.KernelABIdeal.Gen
open Idealize.ShloMosaic Idealize.ShloMosaic.TcCoe Idealize.SL.Sem

variable (m : (ℓ : Loc nD τ sig) → Buf (Elt Ideal) ℓ) (c : Dev nD)

theorem covers_out : ((cfgs 0).win 7).Covers := by decide +kernel

theorem out_array (H : Real m c) : (dats m 0 c).arrAt 7 (cfgs 0).N = result m c := by
  refine (dats m 0 c).arrAt_eq_of_covers 7 _ covers_out fun t hf y => ?_
  idx_vars y
  refine (block_at m c t H y0 y1 y2).trans ?_
  unfold result Rope.sparsed
  blk_simp [index7 t]
  refine congrArg (fun r : Fin 16384 => Rope.sparse _ _ _ _ _ _ _ _ r (y0.val * 128 + y2.val)) (Fin.ext ?_)
  show t.val * 512 + y1.val = _
  blk_simp [index7 t]

end Cert.Proof.KernelABIdeal

namespace Cert.Proof.ReferenceABIdeal

open Cert.ReferenceABIdeal Cert.ReferenceABIdeal.Gen Cert.ReferenceABIdeal.Value
open Idealize.ShloMosaic Idealize.ShloMosaic.TcCoe Idealize.SL.Sem Idealize.ShloMosaic.StableHlo

variable (m : (ℓ : Loc nD τ sig) → Buf (Elt Ideal) ℓ) (c : Dev nD)

/-- The reference's result from a device's arguments. -/
def result : S28x16384x128.Idx → EReal :=
  Rope.sparsed (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))

/-- The reference computes the projection. -/
theorem run_project (ρ : Dev nD → PrngReg) :
    θ_run (defs (F := Ideal)) (onTc (τ := τ) (main (F := Ideal))) ⟨m, fun _ => 0, ρ⟩ fun r => ∀ c : Dev nD,
      r.2.mem ((c.tc : Thread nD τ).loc main_v122) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(Eq.trans (h c).1 (laid_eq (launchContents m c))).trans (by
    funext i
    idx_vars i
    exact whole_at _ _ _ _ _ _ _ _ i0 i1 i2), (h c).2⟩) (run (F := Ideal) m ρ)

end Cert.Proof.ReferenceABIdeal

namespace Cert.Proof.Finite

open Idealize.ShloMosaic

theorem facts_ab : Cert.Pre_finite_ab.Facts where
  bcast_S_S1024 := by decide
  reducesTo_S1024_S_d0 := by decide
  h_S_ := by decide
  bcast_S_S1024x3396 := by decide
  reducesTo_S1024x3396_S_d0_1 := by decide

open Cert.Pre_finite_ab in
/-- Under the precondition every gain and every weight is a real. -/
theorem real_ab (f : Cert.Pre_finite_ab.Facts) (x0 : FVec Ideal S16384x1024 .f32) (x1 : IVec S2x8192 32) (g : FVec Ideal S1024 .f32) (w : FVec Ideal S1024x3396 .f32)
    (x4 x5 x6 x7 : FVec Ideal S64 .f32) (h : Cert.Pre_finite_ab.fn (F := Ideal) x0 x1 g w x4 x5 x6 x7 = fun _ => 1#1) :
    (∀ i, ∃ v : ℝ, @Eq EReal (g i) v) ∧ ∀ i, ∃ v : ℝ, @Eq EReal (w i) v := by
  have e : IntOp.andi (Host.reduce IntOp.andi (cmpf .olt (Host.absf g) (broadcastInDim S1024 ![] f.bcast_S_S1024 (constant S_ .f32 0x7F800000#32))) (constantI S_ 1 1#1)
        f.reducesTo_S1024_S_d0 f.h_S_ (fun a => a.elim0))
      (Host.reduce IntOp.andi (cmpf .olt (Host.absf w) (broadcastInDim S1024x3396 ![] f.bcast_S_S1024x3396 (constant S_ .f32 0x7F800000#32))) (constantI S_ 1 1#1)
        f.reducesTo_S1024x3396_S_d0_1 f.h_S_ (fun a => a.elim0)) = 1#1 := by
    unfold fn at h
    exact congrFun h _
  obtain ⟨eg, ew⟩ := both _ _ e
  exact ⟨fun i => real_of_lt (g i) (Host.reduce_andi_all _ _ _ _ _ eg i), fun i => real_of_lt (w i) (Host.reduce_andi_all _ _ _ _ _ ew i)⟩

end Cert.Proof.Finite

namespace Cert.Proof

open Idealize.ShloMosaic Idealize.ShloMosaic.TcCoe Idealize.SL.Sem

theorem frame_ab_reference : Cert.quiescent_ReferenceABIdeal := fun m g _ =>
  (θ_run Cert.ReferenceABIdeal.defs _ _).mono
    (fun r h => ⟨fun c => (h c).2, Idealize.ShloMosaic.sem_eq_zero_of_no_sems (by decide) r.2⟩)
    (Cert.ReferenceABIdeal.Value.run (F := Ideal) m g)

theorem algebraic_ab : Cert.algebraic_KernelABIdeal_ReferenceABIdeal_pre_finite_ab (hPre_finite_ab := Finite.facts_ab) := fun m g m' g' hp hm => by
  have hR : ∀ c, ReferenceABIdeal.result m' c = KernelABIdeal.result m c := fun c => by
    obtain ⟨e0, e1, e2, e3, e4, e5, e6, e7⟩ := hm c
    have e := congr (congr (congr (congr (congr (congr (congr (congrArg Rope.sparsed e0) e1) e2) e3) e4) e5) e6) e7
    exact e
  have hX : ∀ c, KernelABIdeal.Real m c := fun c =>
    have h := Finite.real_ab Finite.facts_ab _ _ _ _ _ _ _ _ (hp c)
    ⟨fun k => h.1 (ix1 k), fun k n => h.2 (ix2 k n)⟩
  refine ⟨fun c => KernelABIdeal.result m c, ?_, ?_⟩
  · exact (θ_run _ _ _).mono (fun r h c => ⟨(h c).1.trans (KernelABIdeal.out_array m c (hX c)), (h c).2.2⟩) (Cert.KernelABIdeal.Value.run_blocks m g)
  · exact (θ_run _ _ _).mono (fun r h c => ⟨(h c).1.trans (hR c), (h c).2⟩) (ReferenceABIdeal.run_project m' g')

end Cert.Proof
end
-- ==== Proof.lean ====
/-
  The certificate of the calls: the frames, and that each kernel computes what its reference does.
-/
module

public import proofs.«01_k».proof.Defs
public import proofs.«01_k».proof.Proof.K.Frame
public import proofs.«01_k».proof.Proof.KI.Out
public import proofs.«01_k».proof.Proof.RI.Result
public import proofs.«01_k».proof.Proof.Finite
public import proofs.«01_k».proof.Proof.Ple
public import proofs.«01_k».proof.Proof.Out
public import proofs.«01_k».proof.Proof.Proj
public import proofs.«01_k».proof.Proof.SparseProj
public import proofs.«01_k».proof.Proof.Gen.KernelPle.Frame
public import proofs.«01_k».proof.Proof.Gen.KernelOut.Frame
public import proofs.«01_k».proof.Proof.Gen.KernelOut2.Frame
public import proofs.«01_k».proof.Proof.Gen.KernelC.Frame
public import proofs.«01_k».proof.Proof.Gen.KernelCIdeal.Value
public import proofs.«01_k».proof.Proof.Gen.ReferenceCIdeal.Run
public import proofs.«01_k».proof.Proof.Gen.KernelAB.Frame
public import proofs.«01_k».proof.Proof.Gen.KernelABIdeal.Value
public import proofs.«01_k».proof.Proof.Gen.ReferenceABIdeal.Run

@[expose] public section

noncomputable section

namespace Cert.Proof

open Idealize.ShloMosaic Idealize.SL.Sem

theorem frame_kernel : Cert.quiescent_Kernel := fun m g _ => Kernel.quiescent (F := Bits) m g

theorem frame_ideal : Cert.quiescent_KernelIdeal := fun m g _ => KernelIdeal.quiescent (F := Ideal) m g

theorem frame_ideal_pre : Cert.quiescent_KernelIdeal_pre_finite (hPre_finite := Finite.facts) := fun m g _ => frame_ideal m g trivial

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem frame_reference_pre : Cert.quiescent_ReferenceIdeal_pre_finite (hPre_finite := Finite.facts) := fun m g _ => frame_reference m g trivial

/-- The reals an input array of reals holds, at natural coordinates. -/
def reals (x : Cert.Pre_finite.S24x16384x128.Idx → EReal) (a r l : ℕ) : ℝ :=
  if h : a < 24 ∧ r < 16384 ∧ l < 128 then (x (ix3 ⟨a, h.1⟩ ⟨r, h.2.1⟩ ⟨l, h.2.2⟩)).toReal else 0

theorem reals_at (x : Cert.Pre_finite.S24x16384x128.Idx → EReal) (hx : ∀ i, ∃ v : ℝ, x i = v) (a : Fin 24) (r : Fin 16384) (l : Fin 128) :
    x (ix3 a r l) = ((reals x a.val r.val l.val : ℝ) : EReal) := by
  obtain ⟨v, hv⟩ := hx (ix3 a r l)
  unfold reals
  rw [dif_pos ⟨a.isLt, r.isLt, l.isLt⟩]
  show x (ix3 a r l) = ((x (ix3 a r l)).toReal : EReal)
  rw [hv, EReal.toReal_coe]

theorem algebraic : Cert.algebraic_KernelIdeal_ReferenceIdeal_pre_finite (hPre_finite := Finite.facts) := fun m g m' g' hp hm => by
  have hZ : ∀ c, KernelIdeal.Is m c (reals (m (c, Proc.devRef .tc Cert.KernelIdeal.main_arg0))) := fun c a r l =>
    reals_at _ (fun i => Finite.real_at Finite.facts _ (hp c) i) a r l
  refine ⟨fun c => KernelIdeal.spread (reals (m (c, Proc.devRef .tc Cert.KernelIdeal.main_arg0))), KernelIdeal.run_attention m g _ hZ,
    ReferenceIdeal.run_attention m' g' (fun c => reals (m (c, Proc.devRef .tc Cert.KernelIdeal.main_arg0))) (fun c a r l => ?_) _ (fun _ _ _ _ => rfl)⟩
  exact (congrFun (hm c) (ix3 a r l)).trans (hZ c a r l)

theorem claim : Cert.Claim :=
  ⟨Cert.Kernel.Gen.facts, Cert.KernelIdeal.Gen.facts, Cert.ReferenceIdeal.Gen.facts,
    Cert.KernelPle.Gen.facts, Cert.KernelPleIdeal.Gen.facts, Cert.ReferencePleIdeal.Gen.facts,
    Cert.KernelOut.Gen.facts, Cert.KernelOutIdeal.Gen.facts, Cert.ReferenceOutIdeal.Gen.facts,
    Cert.KernelOut2.Gen.facts, Cert.KernelOut2Ideal.Gen.facts, Cert.ReferenceOut2Ideal.Gen.facts,
    Cert.KernelC.Gen.facts, Cert.KernelCIdeal.Gen.facts, Cert.ReferenceCIdeal.Gen.facts,
    Cert.KernelAB.Gen.facts, Cert.KernelABIdeal.Gen.facts, Cert.ReferenceABIdeal.Gen.facts, Finite.facts, Finite.facts_c, Finite.facts_ab,
    frame_kernel, frame_ideal, frame_ideal_pre, frame_reference, frame_reference_pre,
    fun m g _ => Cert.KernelPle.Gen.frame m g, fun m g _ => Cert.KernelPleIdeal.Gen.frame m g, frame_ple_reference,
    fun m g _ => Cert.KernelOut.Gen.frame m g, fun m g _ => Cert.KernelOutIdeal.Gen.frame m g, frame_out_reference,
    fun m g _ => Cert.KernelOut2.Gen.frame m g, fun m g _ => Cert.KernelOut2Ideal.Gen.frame m g, frame_out2_reference,
    fun m g _ => Cert.KernelC.Gen.frame m g, fun m g _ => Cert.KernelCIdeal.Gen.frame m g, fun m g _ => Cert.KernelCIdeal.Gen.frame m g, frame_c_reference,
    fun m g _ => frame_c_reference m g trivial,
    fun m g _ => Cert.KernelAB.Gen.frame m g, fun m g _ => Cert.KernelABIdeal.Gen.frame m g, fun m g _ => Cert.KernelABIdeal.Gen.frame m g, frame_ab_reference,
    fun m g _ => frame_ab_reference m g trivial,
    trivial, algebraic, trivial, algebraic_ple, trivial, algebraic_out, trivial, algebraic_out2, trivial, algebraic_c, trivial, algebraic_ab⟩

end Cert.Proof

end
